-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096 : Shape := ⟨2, ![8, 4096]⟩
abbrev S8 : Shape := ⟨1, ![8]⟩
abbrev S4096x4096 : Shape := ⟨2, ![4096, 4096]⟩
abbrev S128x64 : Shape := ⟨2, ![128, 64]⟩
abbrev S64 : Shape := ⟨1, ![64]⟩
abbrev S64x64 : Shape := ⟨2, ![64, 64]⟩
abbrev S1x64x3 : Shape := ⟨3, ![1, 64, 3]⟩
abbrev S64x1x3 : Shape := ⟨3, ![64, 1, 3]⟩
abbrev S4096x64 : Shape := ⟨2, ![4096, 64]⟩
abbrev S64x4096 : Shape := ⟨2, ![64, 4096]⟩
abbrev S4096 : Shape := ⟨1, ![4096]⟩
abbrev S_ : Shape := ⟨0, ![]⟩

class Facts : Prop where
  bcast_S_S8x4096 : S_.BroadcastsInDim S8x4096 (![] : Fin 0 → Fin S8x4096.rank)
  bcast_S_S4096x4096 : S_.BroadcastsInDim S4096x4096 (![] : Fin 0 → Fin S4096x4096.rank)
  bcast_S_S1x64x3 : S_.BroadcastsInDim S1x64x3 (![] : Fin 0 → Fin S1x64x3.rank)
  bcast_S_S64x1x3 : S_.BroadcastsInDim S64x1x3 (![] : Fin 0 → Fin S64x1x3.rank)

variable [Facts]

def fn {F : FTy → Type} [FloatOps F] (main_arg0 : FVec F S8x4096 .f32) (main_arg1 : FVec F S8 .f32) (main_arg2 : FVec F S4096x4096 .f32) (main_arg3 : FVec F S4096x4096 .f32) (main_arg4 : FVec F S128x64 .f32) (main_arg5 : FVec F S64 .f32) (main_arg6 : FVec F S64x64 .f32) (main_arg7 : FVec F S64 .f32) (main_arg8 : FVec F S1x64x3 .f32) (main_arg9 : FVec F S64x1x3 .f32) (main_arg10 : FVec F S4096x64 .f32) (main_arg11 : FVec F S64 .f32) (main_arg12 : FVec F S64x64 .f32) (main_arg13 : FVec F S64 .f32) (main_arg14 : FVec F S64x4096 .f32) (main_arg15 : FVec F S4096 .f32) : IVec S8x4096 1 × IVec S4096x4096 1 × IVec S4096x4096 1 × IVec S1x64x3 1 × IVec S64x1x3 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_v3 : FVec F S4096x4096 .f32 := Host.absf main_arg2
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4096x4096 .f32 := Host.absf main_arg3
  let main_cst_1 : FVec F S_ .f32 := constant S_ .f32 0x7F800000#32
  let main_v7 : FVec F S4096x4096 .f32 := broadcastInDim S4096x4096 ![] bcast_S_S4096x4096 main_cst_1
  let main_v8 : IVec S4096x4096 1 := cmpf .olt main_v6 main_v7
  let main_v9 : FVec F S1x64x3 .f32 := Host.absf main_arg8
  let main_cst_2 : FVec F S_ .f32 := constant S_ .f32 0x7F800000#32
  let main_v10 : FVec F S1x64x3 .f32 := broadcastInDim S1x64x3 ![] bcast_S_S1x64x3 main_cst_2
  let main_v11 : IVec S1x64x3 1 := cmpf .olt main_v9 main_v10
  let main_v12 : FVec F S64x1x3 .f32 := Host.absf main_arg9
  let main_cst_3 : FVec F S_ .f32 := constant S_ .f32 0x7F800000#32
  let main_v13 : FVec F S64x1x3 .f32 := broadcastInDim S64x1x3 ![] bcast_S_S64x1x3 main_cst_3
  let main_v14 : IVec S64x1x3 1 := cmpf .olt main_v12 main_v13
  (main_v2, main_v5, main_v8, main_v11, main_v14)
-- ==== Kernel.lean ====
abbrev S8x4096 : Shape := ⟨2, ![8, 4096]⟩
abbrev S8 : Shape := ⟨1, ![8]⟩
abbrev S4096x4096 : Shape := ⟨2, ![4096, 4096]⟩
abbrev S128x64 : Shape := ⟨2, ![128, 64]⟩
abbrev S64 : Shape := ⟨1, ![64]⟩
abbrev S64x64 : Shape := ⟨2, ![64, 64]⟩
abbrev S1x64x3 : Shape := ⟨3, ![1, 64, 3]⟩
abbrev S64x1x3 : Shape := ⟨3, ![64, 1, 3]⟩
abbrev S4096x64 : Shape := ⟨2, ![4096, 64]⟩
abbrev S64x4096 : Shape := ⟨2, ![64, 4096]⟩
abbrev S4096 : Shape := ⟨1, ![4096]⟩
abbrev S4096x8 : Shape := ⟨2, ![4096, 8]⟩
abbrev S8x1 : Shape := ⟨2, ![8, 1]⟩
abbrev S_ : Shape := ⟨0, ![]⟩
abbrev S1x64 : Shape := ⟨2, ![1, 64]⟩
abbrev S64x3 : Shape := ⟨2, ![64, 3]⟩
abbrev S1x4096 : Shape := ⟨2, ![1, 4096]⟩
abbrev S256x4096 : Shape := ⟨2, ![256, 4096]⟩
abbrev S4 : Shape := ⟨1, ![4]⟩
abbrev S1 : Shape := ⟨1, ![1]⟩
abbrev S8x64 : Shape := ⟨2, ![8, 64]⟩
abbrev S64x1 : Shape := ⟨2, ![64, 1]⟩
abbrev S1x1 : Shape := ⟨2, ![1, 1]⟩
abbrev S256x8 : Shape := ⟨2, ![256, 8]⟩
abbrev S64x8 : Shape := ⟨2, ![64, 8]⟩

abbrev nBuf : Space → Nat
  | .hbm => 36
  | .vmem => 26
  | .smem => 0
  | _ => 0

abbrev bufTy : (tb : Table) → Fin (tcTables nBuf tb) → BufTy
  | .hbm, ⟨0, _⟩ => ⟨S8x4096, .f32⟩
  | .hbm, ⟨1, _⟩ => ⟨S8, .f32⟩
  | .hbm, ⟨2, _⟩ => ⟨S4096x4096, .f32⟩
  | .hbm, ⟨3, _⟩ => ⟨S4096x4096, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64x3, .f32⟩
  | .hbm, ⟨9, _⟩ => ⟨S64x1x3, .f32⟩
  | .hbm, ⟨10, _⟩ => ⟨S4096x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x4096, .f32⟩
  | .hbm, ⟨15, _⟩ => ⟨S4096, .f32⟩
  | .hbm, ⟨16, _⟩ => ⟨S4096x8, .f32⟩
  | .hbm, ⟨17, _⟩ => ⟨S8x1, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S64x3, .f32⟩
  | .hbm, ⟨28, _⟩ => ⟨S64x3, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x4096, .f32⟩
  | .hbm, ⟨34, _⟩ => ⟨S64x4096, .f32⟩
  | .hbm, ⟨35, _⟩ => ⟨S8x4096, .f32⟩
  | .local _ .vmem, ⟨0, _⟩ => ⟨S4096x8, .f32⟩
  | .local _ .vmem, ⟨1, _⟩ => ⟨S8x1, .f32⟩
  | .local _ .vmem, ⟨2, _⟩ => ⟨S1x64, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S64x3, .f32⟩
  | .local _ .vmem, ⟨8, _⟩ => ⟨S64x3, .f32⟩
  | .local _ .vmem, ⟨9, _⟩ => ⟨S64x4096, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S64x4096, .f32⟩
  | .local _ .vmem, ⟨14, _⟩ => ⟨S1x4096, .f32⟩
  | .local _ .vmem, ⟨15, _⟩ => ⟨S8x4096, .f32⟩
  | .local _ .vmem, ⟨16, _⟩ => ⟨S4096x4096, .bf16⟩
  | .local _ .vmem, ⟨17, _⟩ => ⟨S256x4096, .f32⟩
  | .local _ .vmem, ⟨18, _⟩ => ⟨S256x4096, .f32⟩
  | .local _ .vmem, ⟨19, _⟩ => ⟨S256x4096, .f32⟩
  | .local _ .vmem, ⟨20, _⟩ => ⟨S256x4096, .f32⟩
  | .local _ .vmem, ⟨21, _⟩ => ⟨S4096x8, .bf16⟩
  | .local _ .vmem, ⟨22, _⟩ => ⟨S4096x8, .bf16⟩
  | .local _ .vmem, ⟨23, _⟩ => ⟨S4096x8, .bf16⟩
  | .local _ .vmem, ⟨24, _⟩ => ⟨S4096x8, .f32⟩
  | .local _ .vmem, ⟨25, _⟩ => ⟨S4096x8, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

@[reducible] def k0_t1_loop : Scf.Loop 32 :=
  let c0_i32_90 : BitVec 32 := 0#32
  let c4_i32 : BitVec 32 := 4#32
  let v143 : BitVec 32 := Scalar.addi c0_i32_90 c4_i32
  let c1_i32_91 : BitVec 32 := 1#32
  ⟨c0_i32_90, v143, c1_i32_91⟩
def k0_mult1 (k0_t1 : Fin k0_t1_loop.trips) : BitVec 32 :=
  let c4_i32_120 : BitVec 32 := 4#32
  let c0_i32_90 : BitVec 32 := 0#32
  let c1_i32_91 : BitVec 32 := 1#32
  let arg32 : BitVec 32 := Scf.iv c0_i32_90 c1_i32_91 k0_t1
  let v171 : BitVec 32 := Scalar.muli c4_i32_120 arg32
  v171
def k0_off1 (k0_t1 : Fin k0_t1_loop.trips) (c0_i32_121 : BitVec 32) (c0_i32_123 : BitVec 32) : Fin 2 → Nat :=
  let c4_i32_120 : BitVec 32 := 4#32
  let c0_i32_90 : BitVec 32 := 0#32
  let c1_i32_91 : BitVec 32 := 1#32
  let arg32 : BitVec 32 := Scf.iv c0_i32_90 c1_i32_91 k0_t1
  let v171 : BitVec 32 := Scalar.muli c4_i32_120 arg32
  let v172 : BitVec 32 := v171
  let v173 : BitVec 32 := Scalar.addi v172 c0_i32_121
  let c256_i32_122 : BitVec 32 := 256#32
  let v174 : BitVec 32 := Scalar.muli v173 c256_i32_122
  let v175 : BitVec 32 := Scalar.addi v174 c0_i32_123
  let c0_i32_127 : BitVec 32 := 0#32
  ![v175.toNat, 0]
def k0_mult2 (k0_t1 : Fin k0_t1_loop.trips) : BitVec 32 :=
  let c4_i32_120 : BitVec 32 := 4#32
  let c0_i32_90 : BitVec 32 := 0#32
  let c1_i32_91 : BitVec 32 := 1#32
  let arg32 : BitVec 32 := Scf.iv c0_i32_90 c1_i32_91 k0_t1
  let v171 : BitVec 32 := Scalar.muli c4_i32_120 arg32
  let v172 : BitVec 32 := v171
  let c0_i32_121 : BitVec 32 := 0#32
  let v173 : BitVec 32 := Scalar.addi v172 c0_i32_121
  let c256_i32_146 : BitVec 32 := 256#32
  let v198 : BitVec 32 := Scalar.muli v173 c256_i32_146
  v198
def k0_off2 (k0_t1 : Fin k0_t1_loop.trips) (c0_i32_121 : BitVec 32) : Fin 2 → Nat :=
  let c4_i32_120 : BitVec 32 := 4#32
  let c0_i32_90 : BitVec 32 := 0#32
  let c1_i32_91 : BitVec 32 := 1#32
  let arg32 : BitVec 32 := Scf.iv c0_i32_90 c1_i32_91 k0_t1
  let v171 : BitVec 32 := Scalar.muli c4_i32_120 arg32
  let v172 : BitVec 32 := v171
  let v173 : BitVec 32 := Scalar.addi v172 c0_i32_121
  let c256_i32_146 : BitVec 32 := 256#32
  let v198 : BitVec 32 := Scalar.muli v173 c256_i32_146
  let v199 : BitVec 32 := v198
  let v203 : Index := Scalar.indexCast v199
  let c0_150 : Index := 0#32
  ![v203.toNat, 0]
def k0_off3 (k0_t1 : Fin k0_t1_loop.trips) (c0_i32_121 : BitVec 32) : Fin 2 → Nat :=
  let c4_i32_120 : BitVec 32 := 4#32
  let c0_i32_90 : BitVec 32 := 0#32
  let c1_i32_91 : BitVec 32 := 1#32
  let arg32 : BitVec 32 := Scf.iv c0_i32_90 c1_i32_91 k0_t1
  let v171 : BitVec 32 := Scalar.muli c4_i32_120 arg32
  let v172 : BitVec 32 := v171
  let v173 : BitVec 32 := Scalar.addi v172 c0_i32_121
  let c256_i32_146 : BitVec 32 := 256#32
  let v198 : BitVec 32 := Scalar.muli v173 c256_i32_146
  let v199 : BitVec 32 := v198
  let v208 : Index := Scalar.indexCast v199
  let c0_151 : Index := 0#32
  ![v208.toNat, 0]
def k0_cond1 (k0_t1 : Fin k0_t1_loop.trips) : BitVec 1 :=
  let c4_i32_120 : BitVec 32 := 4#32
  let c0_i32_90 : BitVec 32 := 0#32
  let c1_i32_91 : BitVec 32 := 1#32
  let arg32 : BitVec 32 := Scf.iv c0_i32_90 c1_i32_91 k0_t1
  let v171 : BitVec 32 := Scalar.muli c4_i32_120 arg32
  let v172 : BitVec 32 := v171
  let c0_i32_121 : BitVec 32 := 0#32
  let v173 : BitVec 32 := Scalar.addi v172 c0_i32_121
  let c4_i32_152 : BitVec 32 := 4#32
  let v212 : BitVec 32 := Scalar.addi v173 c4_i32_152
  let c16_i32 : BitVec 32 := 16#32
  let v213 : BitVec 1 := Scalar.cmpi .slt v212 c16_i32
  let v214 : BitVec 32 := Scalar.extui v213
  let c0_i32_153 : BitVec 32 := 0#32
  let v215 : BitVec 1 := Scalar.cmpi .ne v214 c0_i32_153
  v215

def k0_off4 (k0_t1 : Fin k0_t1_loop.trips) (c0_i32_268 : BitVec 32) : Fin 2 → Nat :=
  let c4_i32_120 : BitVec 32 := 4#32
  let c0_i32_90 : BitVec 32 := 0#32
  let c1_i32_91 : BitVec 32 := 1#32
  let arg32 : BitVec 32 := Scf.iv c0_i32_90 c1_i32_91 k0_t1
  let v171 : BitVec 32 := Scalar.muli c4_i32_120 arg32
  let v172 : BitVec 32 := v171
  let c0_i32_121 : BitVec 32 := 0#32
  let v173 : BitVec 32 := Scalar.addi v172 c0_i32_121
  let c4_i32_152 : BitVec 32 := 4#32
  let v212 : BitVec 32 := Scalar.addi v173 c4_i32_152
  let c256_i32_267 : BitVec 32 := 256#32
  let v363 : BitVec 32 := Scalar.muli v212 c256_i32_267
  let v364 : BitVec 32 := Scalar.addi v363 c0_i32_268
  let c0_i32_272 : BitVec 32 := 0#32
  ![v364.toNat, 0]
def k0_cond2 (k0_t1 : Fin k0_t1_loop.trips) : BitVec 1 :=
  let c4_i32_120 : BitVec 32 := 4#32
  let c0_i32_90 : BitVec 32 := 0#32
  let c1_i32_91 : BitVec 32 := 1#32
  let arg32 : BitVec 32 := Scf.iv c0_i32_90 c1_i32_91 k0_t1
  let v171 : BitVec 32 := Scalar.muli c4_i32_120 arg32
  let v172 : BitVec 32 := v171
  let c0_i32_121 : BitVec 32 := 0#32
  let v173 : BitVec 32 := Scalar.addi v172 c0_i32_121
  let c4_i32_152 : BitVec 32 := 4#32
  let v212 : BitVec 32 := Scalar.addi v173 c4_i32_152
  let c16_i32_154 : BitVec 32 := 16#32
  let v216 : BitVec 1 := Scalar.cmpi .sge v212 c16_i32_154
  let v217 : BitVec 32 := Scalar.extui v216
  let c0_i32_155 : BitVec 32 := 0#32
  let v218 : BitVec 1 := Scalar.cmpi .ne v217 c0_i32_155
  v218

def k0_off5 (k0_t1 : Fin k0_t1_loop.trips) (c0_i32_269 : BitVec 32) : Fin 2 → Nat :=
  let c4_i32_120 : BitVec 32 := 4#32
  let c0_i32_90 : BitVec 32 := 0#32
  let c1_i32_91 : BitVec 32 := 1#32
  let arg32 : BitVec 32 := Scf.iv c0_i32_90 c1_i32_91 k0_t1
  let v171 : BitVec 32 := Scalar.muli c4_i32_120 arg32
  let v172 : BitVec 32 := v171
  let c0_i32_121 : BitVec 32 := 0#32
  let v173 : BitVec 32 := Scalar.addi v172 c0_i32_121
  let c4_i32_152 : BitVec 32 := 4#32
  let v212 : BitVec 32 := Scalar.addi v173 c4_i32_152
  let c16_i32_267 : BitVec 32 := 16#32
  let v363 : BitVec 32 := Scalar.subi v212 c16_i32_267
  let c256_i32_268 : BitVec 32 := 256#32
  let v364 : BitVec 32 := Scalar.muli v363 c256_i32_268
  let v365 : BitVec 32 := Scalar.addi v364 c0_i32_269
  let c0_i32_273 : BitVec 32 := 0#32
  ![v365.toNat, 0]
def k0_mult3 (k0_t1 : Fin k0_t1_loop.trips) : BitVec 32 :=
  let c4_i32_156 : BitVec 32 := 4#32
  let c0_i32_90 : BitVec 32 := 0#32
  let c1_i32_91 : BitVec 32 := 1#32
  let arg32 : BitVec 32 := Scf.iv c0_i32_90 c1_i32_91 k0_t1
  let v219 : BitVec 32 := Scalar.muli c4_i32_156 arg32
  v219
def k0_mult4 (k0_t1 : Fin k0_t1_loop.trips) : BitVec 32 :=
  let c4_i32_156 : BitVec 32 := 4#32
  let c0_i32_90 : BitVec 32 := 0#32
  let c1_i32_91 : BitVec 32 := 1#32
  let arg32 : BitVec 32 := Scf.iv c0_i32_90 c1_i32_91 k0_t1
  let v219 : BitVec 32 := Scalar.muli c4_i32_156 arg32
  let v220 : BitVec 32 := v219
  let c1_i32_157 : BitVec 32 := 1#32
  let v221 : BitVec 32 := Scalar.addi v220 c1_i32_157
  let c256_i32_182 : BitVec 32 := 256#32
  let v246 : BitVec 32 := Scalar.muli v221 c256_i32_182
  v246
def k0_cond3 (k0_t1 : Fin k0_t1_loop.trips) : BitVec 1 :=
  let c4_i32_156 : BitVec 32 := 4#32
  let c0_i32_90 : BitVec 32 := 0#32
  let c1_i32_91 : BitVec 32 := 1#32
  let arg32 : BitVec 32 := Scf.iv c0_i32_90 c1_i32_91 k0_t1
  let v219 : BitVec 32 := Scalar.muli c4_i32_156 arg32
  let v220 : BitVec 32 := v219
  let c1_i32_157 : BitVec 32 := 1#32
  let v221 : BitVec 32 := Scalar.addi v220 c1_i32_157
  let c4_i32_188 : BitVec 32 := 4#32
  let v260 : BitVec 32 := Scalar.addi v221 c4_i32_188
  let c16_i32_189 : BitVec 32 := 16#32
  let v261 : BitVec 1 := Scalar.cmpi .slt v260 c16_i32_189
  let v262 : BitVec 32 := Scalar.extui v261
  let c0_i32_190 : BitVec 32 := 0#32
  let v263 : BitVec 1 := Scalar.cmpi .ne v262 c0_i32_190
  v263

def k0_off6 (k0_t1 : Fin k0_t1_loop.trips) (c0_i32_268 : BitVec 32) : Fin 2 → Nat :=
  let c4_i32_156 : BitVec 32 := 4#32
  let c0_i32_90 : BitVec 32 := 0#32
  let c1_i32_91 : BitVec 32 := 1#32
  let arg32 : BitVec 32 := Scf.iv c0_i32_90 c1_i32_91 k0_t1
  let v219 : BitVec 32 := Scalar.muli c4_i32_156 arg32
  let v220 : BitVec 32 := v219
  let c1_i32_157 : BitVec 32 := 1#32
  let v221 : BitVec 32 := Scalar.addi v220 c1_i32_157
  let c4_i32_188 : BitVec 32 := 4#32
  let v260 : BitVec 32 := Scalar.addi v221 c4_i32_188
  let c256_i32_267 : BitVec 32 := 256#32
  let v363 : BitVec 32 := Scalar.muli v260 c256_i32_267
  let v364 : BitVec 32 := Scalar.addi v363 c0_i32_268
  let c0_i32_272 : BitVec 32 := 0#32
  ![v364.toNat, 0]
def k0_cond4 (k0_t1 : Fin k0_t1_loop.trips) : BitVec 1 :=
  let c4_i32_156 : BitVec 32 := 4#32
  let c0_i32_90 : BitVec 32 := 0#32
  let c1_i32_91 : BitVec 32 := 1#32
  let arg32 : BitVec 32 := Scf.iv c0_i32_90 c1_i32_91 k0_t1
  let v219 : BitVec 32 := Scalar.muli c4_i32_156 arg32
  let v220 : BitVec 32 := v219
  let c1_i32_157 : BitVec 32 := 1#32
  let v221 : BitVec 32 := Scalar.addi v220 c1_i32_157
  let c4_i32_188 : BitVec 32 := 4#32
  let v260 : BitVec 32 := Scalar.addi v221 c4_i32_188
  let c16_i32_191 : BitVec 32 := 16#32
  let v264 : BitVec 1 := Scalar.cmpi .sge v260 c16_i32_191
  let v265 : BitVec 32 := Scalar.extui v264
  let c0_i32_192 : BitVec 32 := 0#32
  let v266 : BitVec 1 := Scalar.cmpi .ne v265 c0_i32_192
  v266

def k0_off7 (k0_t1 : Fin k0_t1_loop.trips) (c0_i32_269 : BitVec 32) : Fin 2 → Nat :=
  let c4_i32_156 : BitVec 32 := 4#32
  let c0_i32_90 : BitVec 32 := 0#32
  let c1_i32_91 : BitVec 32 := 1#32
  let arg32 : BitVec 32 := Scf.iv c0_i32_90 c1_i32_91 k0_t1
  let v219 : BitVec 32 := Scalar.muli c4_i32_156 arg32
  let v220 : BitVec 32 := v219
  let c1_i32_157 : BitVec 32 := 1#32
  let v221 : BitVec 32 := Scalar.addi v220 c1_i32_157
  let c4_i32_188 : BitVec 32 := 4#32
  let v260 : BitVec 32 := Scalar.addi v221 c4_i32_188
  let c16_i32_267 : BitVec 32 := 16#32
  let v363 : BitVec 32 := Scalar.subi v260 c16_i32_267
  let c256_i32_268 : BitVec 32 := 256#32
  let v364 : BitVec 32 := Scalar.muli v363 c256_i32_268
  let v365 : BitVec 32 := Scalar.addi v364 c0_i32_269
  let c0_i32_273 : BitVec 32 := 0#32
  ![v365.toNat, 0]
def k0_mult5 (k0_t1 : Fin k0_t1_loop.trips) : BitVec 32 :=
  let c4_i32_193 : BitVec 32 := 4#32
  let c0_i32_90 : BitVec 32 := 0#32
  let c1_i32_91 : BitVec 32 := 1#32
  let arg32 : BitVec 32 := Scf.iv c0_i32_90 c1_i32_91 k0_t1
  let v267 : BitVec 32 := Scalar.muli c4_i32_193 arg32
  v267
def k0_mult6 (k0_t1 : Fin k0_t1_loop.trips) : BitVec 32 :=
  let c4_i32_193 : BitVec 32 := 4#32
  let c0_i32_90 : BitVec 32 := 0#32
  let c1_i32_91 : BitVec 32 := 1#32
  let arg32 : BitVec 32 := Scf.iv c0_i32_90 c1_i32_91 k0_t1
  let v267 : BitVec 32 := Scalar.muli c4_i32_193 arg32
  let v268 : BitVec 32 := v267
  let c2_i32_194 : BitVec 32 := 2#32
  let v269 : BitVec 32 := Scalar.addi v268 c2_i32_194
  let c256_i32_219 : BitVec 32 := 256#32
  let v294 : BitVec 32 := Scalar.muli v269 c256_i32_219
  v294
def k0_cond5 (k0_t1 : Fin k0_t1_loop.trips) : BitVec 1 :=
  let c4_i32_193 : BitVec 32 := 4#32
  let c0_i32_90 : BitVec 32 := 0#32
  let c1_i32_91 : BitVec 32 := 1#32
  let arg32 : BitVec 32 := Scf.iv c0_i32_90 c1_i32_91 k0_t1
  let v267 : BitVec 32 := Scalar.muli c4_i32_193 arg32
  let v268 : BitVec 32 := v267
  let c2_i32_194 : BitVec 32 := 2#32
  let v269 : BitVec 32 := Scalar.addi v268 c2_i32_194
  let c4_i32_225 : BitVec 32 := 4#32
  let v308 : BitVec 32 := Scalar.addi v269 c4_i32_225
  let c16_i32_226 : BitVec 32 := 16#32
  let v309 : BitVec 1 := Scalar.cmpi .slt v308 c16_i32_226
  let v310 : BitVec 32 := Scalar.extui v309
  let c0_i32_227 : BitVec 32 := 0#32
  let v311 : BitVec 1 := Scalar.cmpi .ne v310 c0_i32_227
  v311

def k0_off8 (k0_t1 : Fin k0_t1_loop.trips) (c0_i32_268 : BitVec 32) : Fin 2 → Nat :=
  let c4_i32_193 : BitVec 32 := 4#32
  let c0_i32_90 : BitVec 32 := 0#32
  let c1_i32_91 : BitVec 32 := 1#32
  let arg32 : BitVec 32 := Scf.iv c0_i32_90 c1_i32_91 k0_t1
  let v267 : BitVec 32 := Scalar.muli c4_i32_193 arg32
  let v268 : BitVec 32 := v267
  let c2_i32_194 : BitVec 32 := 2#32
  let v269 : BitVec 32 := Scalar.addi v268 c2_i32_194
  let c4_i32_225 : BitVec 32 := 4#32
  let v308 : BitVec 32 := Scalar.addi v269 c4_i32_225
  let c256_i32_267 : BitVec 32 := 256#32
  let v363 : BitVec 32 := Scalar.muli v308 c256_i32_267
  let v364 : BitVec 32 := Scalar.addi v363 c0_i32_268
  let c0_i32_272 : BitVec 32 := 0#32
  ![v364.toNat, 0]
def k0_cond6 (k0_t1 : Fin k0_t1_loop.trips) : BitVec 1 :=
  let c4_i32_193 : BitVec 32 := 4#32
  let c0_i32_90 : BitVec 32 := 0#32
  let c1_i32_91 : BitVec 32 := 1#32
  let arg32 : BitVec 32 := Scf.iv c0_i32_90 c1_i32_91 k0_t1
  let v267 : BitVec 32 := Scalar.muli c4_i32_193 arg32
  let v268 : BitVec 32 := v267
  let c2_i32_194 : BitVec 32 := 2#32
  let v269 : BitVec 32 := Scalar.addi v268 c2_i32_194
  let c4_i32_225 : BitVec 32 := 4#32
  let v308 : BitVec 32 := Scalar.addi v269 c4_i32_225
  let c16_i32_228 : BitVec 32 := 16#32
  let v312 : BitVec 1 := Scalar.cmpi .sge v308 c16_i32_228
  let v313 : BitVec 32 := Scalar.extui v312
  let c0_i32_229 : BitVec 32 := 0#32
  let v314 : BitVec 1 := Scalar.cmpi .ne v313 c0_i32_229
  v314

def k0_off9 (k0_t1 : Fin k0_t1_loop.trips) (c0_i32_269 : BitVec 32) : Fin 2 → Nat :=
  let c4_i32_193 : BitVec 32 := 4#32
  let c0_i32_90 : BitVec 32 := 0#32
  let c1_i32_91 : BitVec 32 := 1#32
  let arg32 : BitVec 32 := Scf.iv c0_i32_90 c1_i32_91 k0_t1
  let v267 : BitVec 32 := Scalar.muli c4_i32_193 arg32
  let v268 : BitVec 32 := v267
  let c2_i32_194 : BitVec 32 := 2#32
  let v269 : BitVec 32 := Scalar.addi v268 c2_i32_194
  let c4_i32_225 : BitVec 32 := 4#32
  let v308 : BitVec 32 := Scalar.addi v269 c4_i32_225
  let c16_i32_267 : BitVec 32 := 16#32
  let v363 : BitVec 32 := Scalar.subi v308 c16_i32_267
  let c256_i32_268 : BitVec 32 := 256#32
  let v364 : BitVec 32 := Scalar.muli v363 c256_i32_268
  let v365 : BitVec 32 := Scalar.addi v364 c0_i32_269
  let c0_i32_273 : BitVec 32 := 0#32
  ![v365.toNat, 0]
def k0_mult7 (k0_t1 : Fin k0_t1_loop.trips) : BitVec 32 :=
  let c4_i32_230 : BitVec 32 := 4#32
  let c0_i32_90 : BitVec 32 := 0#32
  let c1_i32_91 : BitVec 32 := 1#32
  let arg32 : BitVec 32 := Scf.iv c0_i32_90 c1_i32_91 k0_t1
  let v315 : BitVec 32 := Scalar.muli c4_i32_230 arg32
  v315
def k0_mult8 (k0_t1 : Fin k0_t1_loop.trips) : BitVec 32 :=
  let c4_i32_230 : BitVec 32 := 4#32
  let c0_i32_90 : BitVec 32 := 0#32
  let c1_i32_91 : BitVec 32 := 1#32
  let arg32 : BitVec 32 := Scf.iv c0_i32_90 c1_i32_91 k0_t1
  let v315 : BitVec 32 := Scalar.muli c4_i32_230 arg32
  let v316 : BitVec 32 := v315
  let c3_i32_231 : BitVec 32 := 3#32
  let v317 : BitVec 32 := Scalar.addi v316 c3_i32_231
  let c256_i32_256 : BitVec 32 := 256#32
  let v342 : BitVec 32 := Scalar.muli v317 c256_i32_256
  v342
def k0_cond7 (k0_t1 : Fin k0_t1_loop.trips) : BitVec 1 :=
  let c4_i32_230 : BitVec 32 := 4#32
  let c0_i32_90 : BitVec 32 := 0#32
  let c1_i32_91 : BitVec 32 := 1#32
  let arg32 : BitVec 32 := Scf.iv c0_i32_90 c1_i32_91 k0_t1
  let v315 : BitVec 32 := Scalar.muli c4_i32_230 arg32
  let v316 : BitVec 32 := v315
  let c3_i32_231 : BitVec 32 := 3#32
  let v317 : BitVec 32 := Scalar.addi v316 c3_i32_231
  let c4_i32_262 : BitVec 32 := 4#32
  let v356 : BitVec 32 := Scalar.addi v317 c4_i32_262
  let c16_i32_263 : BitVec 32 := 16#32
  let v357 : BitVec 1 := Scalar.cmpi .slt v356 c16_i32_263
  let v358 : BitVec 32 := Scalar.extui v357
  let c0_i32_264 : BitVec 32 := 0#32
  let v359 : BitVec 1 := Scalar.cmpi .ne v358 c0_i32_264
  v359

def k0_off10 (k0_t1 : Fin k0_t1_loop.trips) (c0_i32_268 : BitVec 32) : Fin 2 → Nat :=
  let c4_i32_230 : BitVec 32 := 4#32
  let c0_i32_90 : BitVec 32 := 0#32
  let c1_i32_91 : BitVec 32 := 1#32
  let arg32 : BitVec 32 := Scf.iv c0_i32_90 c1_i32_91 k0_t1
  let v315 : BitVec 32 := Scalar.muli c4_i32_230 arg32
  let v316 : BitVec 32 := v315
  let c3_i32_231 : BitVec 32 := 3#32
  let v317 : BitVec 32 := Scalar.addi v316 c3_i32_231
  let c4_i32_262 : BitVec 32 := 4#32
  let v356 : BitVec 32 := Scalar.addi v317 c4_i32_262
  let c256_i32_267 : BitVec 32 := 256#32
  let v363 : BitVec 32 := Scalar.muli v356 c256_i32_267
  let v364 : BitVec 32 := Scalar.addi v363 c0_i32_268
  let c0_i32_272 : BitVec 32 := 0#32
  ![v364.toNat, 0]
def k0_cond8 (k0_t1 : Fin k0_t1_loop.trips) : BitVec 1 :=
  let c4_i32_230 : BitVec 32 := 4#32
  let c0_i32_90 : BitVec 32 := 0#32
  let c1_i32_91 : BitVec 32 := 1#32
  let arg32 : BitVec 32 := Scf.iv c0_i32_90 c1_i32_91 k0_t1
  let v315 : BitVec 32 := Scalar.muli c4_i32_230 arg32
  let v316 : BitVec 32 := v315
  let c3_i32_231 : BitVec 32 := 3#32
  let v317 : BitVec 32 := Scalar.addi v316 c3_i32_231
  let c4_i32_262 : BitVec 32 := 4#32
  let v356 : BitVec 32 := Scalar.addi v317 c4_i32_262
  let c16_i32_265 : BitVec 32 := 16#32
  let v360 : BitVec 1 := Scalar.cmpi .sge v356 c16_i32_265
  let v361 : BitVec 32 := Scalar.extui v360
  let c0_i32_266 : BitVec 32 := 0#32
  let v362 : BitVec 1 := Scalar.cmpi .ne v361 c0_i32_266
  v362

def k0_off11 (k0_t1 : Fin k0_t1_loop.trips) (c0_i32_269 : BitVec 32) : Fin 2 → Nat :=
  let c4_i32_230 : BitVec 32 := 4#32
  let c0_i32_90 : BitVec 32 := 0#32
  let c1_i32_91 : BitVec 32 := 1#32
  let arg32 : BitVec 32 := Scf.iv c0_i32_90 c1_i32_91 k0_t1
  let v315 : BitVec 32 := Scalar.muli c4_i32_230 arg32
  let v316 : BitVec 32 := v315
  let c3_i32_231 : BitVec 32 := 3#32
  let v317 : BitVec 32 := Scalar.addi v316 c3_i32_231
  let c4_i32_262 : BitVec 32 := 4#32
  let v356 : BitVec 32 := Scalar.addi v317 c4_i32_262
  let c16_i32_267 : BitVec 32 := 16#32
  let v363 : BitVec 32 := Scalar.subi v356 c16_i32_267
  let c256_i32_268 : BitVec 32 := 256#32
  let v364 : BitVec 32 := Scalar.muli v363 c256_i32_268
  let v365 : BitVec 32 := Scalar.addi v364 c0_i32_269
  let c0_i32_273 : BitVec 32 := 0#32
  ![v365.toNat, 0]
@[reducible] def k0_t2_loop : Scf.Loop 32 :=
  let c0_i32_93 : BitVec 32 := 0#32
  let c4_i32_94 : BitVec 32 := 4#32
  let v144 : BitVec 32 := Scalar.addi c0_i32_93 c4_i32_94
  let c1_i32_95 : BitVec 32 := 1#32
  ⟨c0_i32_93, v144, c1_i32_95⟩
def k0_mult9 (k0_t2 : Fin k0_t2_loop.trips) : BitVec 32 :=
  let c4_i32_120 : BitVec 32 := 4#32
  let c0_i32_93 : BitVec 32 := 0#32
  let c1_i32_95 : BitVec 32 := 1#32
  let arg32 : BitVec 32 := Scf.iv c0_i32_93 c1_i32_95 k0_t2
  let v171 : BitVec 32 := Scalar.muli c4_i32_120 arg32
  v171
def k0_off12 (k0_t2 : Fin k0_t2_loop.trips) (c0_i32_121 : BitVec 32) (c0_i32_123 : BitVec 32) : Fin 2 → Nat :=
  let c4_i32_120 : BitVec 32 := 4#32
  let c0_i32_93 : BitVec 32 := 0#32
  let c1_i32_95 : BitVec 32 := 1#32
  let arg32 : BitVec 32 := Scf.iv c0_i32_93 c1_i32_95 k0_t2
  let v171 : BitVec 32 := Scalar.muli c4_i32_120 arg32
  let v172 : BitVec 32 := v171
  let v173 : BitVec 32 := Scalar.addi v172 c0_i32_121
  let c256_i32_122 : BitVec 32 := 256#32
  let v174 : BitVec 32 := Scalar.muli v173 c256_i32_122
  let v175 : BitVec 32 := Scalar.addi v174 c0_i32_123
  let c0_i32_127 : BitVec 32 := 0#32
  ![v175.toNat, 0]
def k0_mult10 (k0_t2 : Fin k0_t2_loop.trips) : BitVec 32 :=
  let c4_i32_120 : BitVec 32 := 4#32
  let c0_i32_93 : BitVec 32 := 0#32
  let c1_i32_95 : BitVec 32 := 1#32
  let arg32 : BitVec 32 := Scf.iv c0_i32_93 c1_i32_95 k0_t2
  let v171 : BitVec 32 := Scalar.muli c4_i32_120 arg32
  let v172 : BitVec 32 := v171
  let c0_i32_121 : BitVec 32 := 0#32
  let v173 : BitVec 32 := Scalar.addi v172 c0_i32_121
  let c256_i32_146 : BitVec 32 := 256#32
  let v198 : BitVec 32 := Scalar.muli v173 c256_i32_146
  v198
def k0_off13 (k0_t2 : Fin k0_t2_loop.trips) (c0_i32_121 : BitVec 32) : Fin 2 → Nat :=
  let c4_i32_120 : BitVec 32 := 4#32
  let c0_i32_93 : BitVec 32 := 0#32
  let c1_i32_95 : BitVec 32 := 1#32
  let arg32 : BitVec 32 := Scf.iv c0_i32_93 c1_i32_95 k0_t2
  let v171 : BitVec 32 := Scalar.muli c4_i32_120 arg32
  let v172 : BitVec 32 := v171
  let v173 : BitVec 32 := Scalar.addi v172 c0_i32_121
  let c256_i32_146 : BitVec 32 := 256#32
  let v198 : BitVec 32 := Scalar.muli v173 c256_i32_146
  let v199 : BitVec 32 := v198
  let v202 : Index := Scalar.indexCast v199
  let c0_150 : Index := 0#32
  ![v202.toNat, 0]
def k0_cond9 (k0_t2 : Fin k0_t2_loop.trips) : BitVec 1 :=
  let c4_i32_120 : BitVec 32 := 4#32
  let c0_i32_93 : BitVec 32 := 0#32
  let c1_i32_95 : BitVec 32 := 1#32
  let arg32 : BitVec 32 := Scf.iv c0_i32_93 c1_i32_95 k0_t2
  let v171 : BitVec 32 := Scalar.muli c4_i32_120 arg32
  let v172 : BitVec 32 := v171
  let c0_i32_121 : BitVec 32 := 0#32
  let v173 : BitVec 32 := Scalar.addi v172 c0_i32_121
  let c4_i32_154 : BitVec 32 := 4#32
  let v234 : BitVec 32 := Scalar.addi v173 c4_i32_154
  let c16_i32 : BitVec 32 := 16#32
  let v235 : BitVec 1 := Scalar.cmpi .slt v234 c16_i32
  let v236 : BitVec 32 := Scalar.extui v235
  let c0_i32_155 : BitVec 32 := 0#32
  let v237 : BitVec 1 := Scalar.cmpi .ne v236 c0_i32_155
  v237

def k0_off14 (k0_t2 : Fin k0_t2_loop.trips) (c0_i32_276 : BitVec 32) : Fin 2 → Nat :=
  let c4_i32_120 : BitVec 32 := 4#32
  let c0_i32_93 : BitVec 32 := 0#32
  let c1_i32_95 : BitVec 32 := 1#32
  let arg32 : BitVec 32 := Scf.iv c0_i32_93 c1_i32_95 k0_t2
  let v171 : BitVec 32 := Scalar.muli c4_i32_120 arg32
  let v172 : BitVec 32 := v171
  let c0_i32_121 : BitVec 32 := 0#32
  let v173 : BitVec 32 := Scalar.addi v172 c0_i32_121
  let c4_i32_154 : BitVec 32 := 4#32
  let v234 : BitVec 32 := Scalar.addi v173 c4_i32_154
  let c256_i32_275 : BitVec 32 := 256#32
  let v451 : BitVec 32 := Scalar.muli v234 c256_i32_275
  let v452 : BitVec 32 := Scalar.addi v451 c0_i32_276
  let c0_i32_280 : BitVec 32 := 0#32
  ![v452.toNat, 0]
def k0_cond10 (k0_t2 : Fin k0_t2_loop.trips) : BitVec 1 :=
  let c4_i32_120 : BitVec 32 := 4#32
  let c0_i32_93 : BitVec 32 := 0#32
  let c1_i32_95 : BitVec 32 := 1#32
  let arg32 : BitVec 32 := Scf.iv c0_i32_93 c1_i32_95 k0_t2
  let v171 : BitVec 32 := Scalar.muli c4_i32_120 arg32
  let v172 : BitVec 32 := v171
  let c0_i32_121 : BitVec 32 := 0#32
  let v173 : BitVec 32 := Scalar.addi v172 c0_i32_121
  let c4_i32_154 : BitVec 32 := 4#32
  let v234 : BitVec 32 := Scalar.addi v173 c4_i32_154
  let c16_i32_156 : BitVec 32 := 16#32
  let v238 : BitVec 1 := Scalar.cmpi .sge v234 c16_i32_156
  let v239 : BitVec 32 := Scalar.extui v238
  let c0_i32_157 : BitVec 32 := 0#32
  let v240 : BitVec 1 := Scalar.cmpi .ne v239 c0_i32_157
  v240

def k0_off15 (k0_t2 : Fin k0_t2_loop.trips) (c0_i32_277 : BitVec 32) : Fin 2 → Nat :=
  let c4_i32_120 : BitVec 32 := 4#32
  let c0_i32_93 : BitVec 32 := 0#32
  let c1_i32_95 : BitVec 32 := 1#32
  let arg32 : BitVec 32 := Scf.iv c0_i32_93 c1_i32_95 k0_t2
  let v171 : BitVec 32 := Scalar.muli c4_i32_120 arg32
  let v172 : BitVec 32 := v171
  let c0_i32_121 : BitVec 32 := 0#32
  let v173 : BitVec 32 := Scalar.addi v172 c0_i32_121
  let c4_i32_154 : BitVec 32 := 4#32
  let v234 : BitVec 32 := Scalar.addi v173 c4_i32_154
  let c16_i32_275 : BitVec 32 := 16#32
  let v451 : BitVec 32 := Scalar.subi v234 c16_i32_275
  let c256_i32_276 : BitVec 32 := 256#32
  let v452 : BitVec 32 := Scalar.muli v451 c256_i32_276
  let v453 : BitVec 32 := Scalar.addi v452 c0_i32_277
  let c0_i32_281 : BitVec 32 := 0#32
  ![v453.toNat, 0]
def k0_mult11 (k0_t2 : Fin k0_t2_loop.trips) : BitVec 32 :=
  let c4_i32_158 : BitVec 32 := 4#32
  let c0_i32_93 : BitVec 32 := 0#32
  let c1_i32_95 : BitVec 32 := 1#32
  let arg32 : BitVec 32 := Scf.iv c0_i32_93 c1_i32_95 k0_t2
  let v241 : BitVec 32 := Scalar.muli c4_i32_158 arg32
  v241
def k0_mult12 (k0_t2 : Fin k0_t2_loop.trips) : BitVec 32 :=
  let c4_i32_158 : BitVec 32 := 4#32
  let c0_i32_93 : BitVec 32 := 0#32
  let c1_i32_95 : BitVec 32 := 1#32
  let arg32 : BitVec 32 := Scf.iv c0_i32_93 c1_i32_95 k0_t2
  let v241 : BitVec 32 := Scalar.muli c4_i32_158 arg32
  let v242 : BitVec 32 := v241
  let c1_i32_159 : BitVec 32 := 1#32
  let v243 : BitVec 32 := Scalar.addi v242 c1_i32_159
  let c256_i32_184 : BitVec 32 := 256#32
  let v268 : BitVec 32 := Scalar.muli v243 c256_i32_184
  v268
def k0_cond11 (k0_t2 : Fin k0_t2_loop.trips) : BitVec 1 :=
  let c4_i32_158 : BitVec 32 := 4#32
  let c0_i32_93 : BitVec 32 := 0#32
  let c1_i32_95 : BitVec 32 := 1#32
  let arg32 : BitVec 32 := Scf.iv c0_i32_93 c1_i32_95 k0_t2
  let v241 : BitVec 32 := Scalar.muli c4_i32_158 arg32
  let v242 : BitVec 32 := v241
  let c1_i32_159 : BitVec 32 := 1#32
  let v243 : BitVec 32 := Scalar.addi v242 c1_i32_159
  let c4_i32_192 : BitVec 32 := 4#32
  let v304 : BitVec 32 := Scalar.addi v243 c4_i32_192
  let c16_i32_193 : BitVec 32 := 16#32
  let v305 : BitVec 1 := Scalar.cmpi .slt v304 c16_i32_193
  let v306 : BitVec 32 := Scalar.extui v305
  let c0_i32_194 : BitVec 32 := 0#32
  let v307 : BitVec 1 := Scalar.cmpi .ne v306 c0_i32_194
  v307

def k0_off16 (k0_t2 : Fin k0_t2_loop.trips) (c0_i32_276 : BitVec 32) : Fin 2 → Nat :=
  let c4_i32_158 : BitVec 32 := 4#32
  let c0_i32_93 : BitVec 32 := 0#32
  let c1_i32_95 : BitVec 32 := 1#32
  let arg32 : BitVec 32 := Scf.iv c0_i32_93 c1_i32_95 k0_t2
  let v241 : BitVec 32 := Scalar.muli c4_i32_158 arg32
  let v242 : BitVec 32 := v241
  let c1_i32_159 : BitVec 32 := 1#32
  let v243 : BitVec 32 := Scalar.addi v242 c1_i32_159
  let c4_i32_192 : BitVec 32 := 4#32
  let v304 : BitVec 32 := Scalar.addi v243 c4_i32_192
  let c256_i32_275 : BitVec 32 := 256#32
  let v451 : BitVec 32 := Scalar.muli v304 c256_i32_275
  let v452 : BitVec 32 := Scalar.addi v451 c0_i32_276
  let c0_i32_280 : BitVec 32 := 0#32
  ![v452.toNat, 0]
def k0_cond12 (k0_t2 : Fin k0_t2_loop.trips) : BitVec 1 :=
  let c4_i32_158 : BitVec 32 := 4#32
  let c0_i32_93 : BitVec 32 := 0#32
  let c1_i32_95 : BitVec 32 := 1#32
  let arg32 : BitVec 32 := Scf.iv c0_i32_93 c1_i32_95 k0_t2
  let v241 : BitVec 32 := Scalar.muli c4_i32_158 arg32
  let v242 : BitVec 32 := v241
  let c1_i32_159 : BitVec 32 := 1#32
  let v243 : BitVec 32 := Scalar.addi v242 c1_i32_159
  let c4_i32_192 : BitVec 32 := 4#32
  let v304 : BitVec 32 := Scalar.addi v243 c4_i32_192
  let c16_i32_195 : BitVec 32 := 16#32
  let v308 : BitVec 1 := Scalar.cmpi .sge v304 c16_i32_195
  let v309 : BitVec 32 := Scalar.extui v308
  let c0_i32_196 : BitVec 32 := 0#32
  let v310 : BitVec 1 := Scalar.cmpi .ne v309 c0_i32_196
  v310

def k0_off17 (k0_t2 : Fin k0_t2_loop.trips) (c0_i32_277 : BitVec 32) : Fin 2 → Nat :=
  let c4_i32_158 : BitVec 32 := 4#32
  let c0_i32_93 : BitVec 32 := 0#32
  let c1_i32_95 : BitVec 32 := 1#32
  let arg32 : BitVec 32 := Scf.iv c0_i32_93 c1_i32_95 k0_t2
  let v241 : BitVec 32 := Scalar.muli c4_i32_158 arg32
  let v242 : BitVec 32 := v241
  let c1_i32_159 : BitVec 32 := 1#32
  let v243 : BitVec 32 := Scalar.addi v242 c1_i32_159
  let c4_i32_192 : BitVec 32 := 4#32
  let v304 : BitVec 32 := Scalar.addi v243 c4_i32_192
  let c16_i32_275 : BitVec 32 := 16#32
  let v451 : BitVec 32 := Scalar.subi v304 c16_i32_275
  let c256_i32_276 : BitVec 32 := 256#32
  let v452 : BitVec 32 := Scalar.muli v451 c256_i32_276
  let v453 : BitVec 32 := Scalar.addi v452 c0_i32_277
  let c0_i32_281 : BitVec 32 := 0#32
  ![v453.toNat, 0]
def k0_mult13 (k0_t2 : Fin k0_t2_loop.trips) : BitVec 32 :=
  let c4_i32_197 : BitVec 32 := 4#32
  let c0_i32_93 : BitVec 32 := 0#32
  let c1_i32_95 : BitVec 32 := 1#32
  let arg32 : BitVec 32 := Scf.iv c0_i32_93 c1_i32_95 k0_t2
  let v311 : BitVec 32 := Scalar.muli c4_i32_197 arg32
  v311
def k0_mult14 (k0_t2 : Fin k0_t2_loop.trips) : BitVec 32 :=
  let c4_i32_197 : BitVec 32 := 4#32
  let c0_i32_93 : BitVec 32 := 0#32
  let c1_i32_95 : BitVec 32 := 1#32
  let arg32 : BitVec 32 := Scf.iv c0_i32_93 c1_i32_95 k0_t2
  let v311 : BitVec 32 := Scalar.muli c4_i32_197 arg32
  let v312 : BitVec 32 := v311
  let c2_i32_198 : BitVec 32 := 2#32
  let v313 : BitVec 32 := Scalar.addi v312 c2_i32_198
  let c256_i32_223 : BitVec 32 := 256#32
  let v338 : BitVec 32 := Scalar.muli v313 c256_i32_223
  v338
def k0_cond13 (k0_t2 : Fin k0_t2_loop.trips) : BitVec 1 :=
  let c4_i32_197 : BitVec 32 := 4#32
  let c0_i32_93 : BitVec 32 := 0#32
  let c1_i32_95 : BitVec 32 := 1#32
  let arg32 : BitVec 32 := Scf.iv c0_i32_93 c1_i32_95 k0_t2
  let v311 : BitVec 32 := Scalar.muli c4_i32_197 arg32
  let v312 : BitVec 32 := v311
  let c2_i32_198 : BitVec 32 := 2#32
  let v313 : BitVec 32 := Scalar.addi v312 c2_i32_198
  let c4_i32_231 : BitVec 32 := 4#32
  let v374 : BitVec 32 := Scalar.addi v313 c4_i32_231
  let c16_i32_232 : BitVec 32 := 16#32
  let v375 : BitVec 1 := Scalar.cmpi .slt v374 c16_i32_232
  let v376 : BitVec 32 := Scalar.extui v375
  let c0_i32_233 : BitVec 32 := 0#32
  let v377 : BitVec 1 := Scalar.cmpi .ne v376 c0_i32_233
  v377

def k0_off18 (k0_t2 : Fin k0_t2_loop.trips) (c0_i32_276 : BitVec 32) : Fin 2 → Nat :=
  let c4_i32_197 : BitVec 32 := 4#32
  let c0_i32_93 : BitVec 32 := 0#32
  let c1_i32_95 : BitVec 32 := 1#32
  let arg32 : BitVec 32 := Scf.iv c0_i32_93 c1_i32_95 k0_t2
  let v311 : BitVec 32 := Scalar.muli c4_i32_197 arg32
  let v312 : BitVec 32 := v311
  let c2_i32_198 : BitVec 32 := 2#32
  let v313 : BitVec 32 := Scalar.addi v312 c2_i32_198
  let c4_i32_231 : BitVec 32 := 4#32
  let v374 : BitVec 32 := Scalar.addi v313 c4_i32_231
  let c256_i32_275 : BitVec 32 := 256#32
  let v451 : BitVec 32 := Scalar.muli v374 c256_i32_275
  let v452 : BitVec 32 := Scalar.addi v451 c0_i32_276
  let c0_i32_280 : BitVec 32 := 0#32
  ![v452.toNat, 0]
def k0_cond14 (k0_t2 : Fin k0_t2_loop.trips) : BitVec 1 :=
  let c4_i32_197 : BitVec 32 := 4#32
  let c0_i32_93 : BitVec 32 := 0#32
  let c1_i32_95 : BitVec 32 := 1#32
  let arg32 : BitVec 32 := Scf.iv c0_i32_93 c1_i32_95 k0_t2
  let v311 : BitVec 32 := Scalar.muli c4_i32_197 arg32
  let v312 : BitVec 32 := v311
  let c2_i32_198 : BitVec 32 := 2#32
  let v313 : BitVec 32 := Scalar.addi v312 c2_i32_198
  let c4_i32_231 : BitVec 32 := 4#32
  let v374 : BitVec 32 := Scalar.addi v313 c4_i32_231
  let c16_i32_234 : BitVec 32 := 16#32
  let v378 : BitVec 1 := Scalar.cmpi .sge v374 c16_i32_234
  let v379 : BitVec 32 := Scalar.extui v378
  let c0_i32_235 : BitVec 32 := 0#32
  let v380 : BitVec 1 := Scalar.cmpi .ne v379 c0_i32_235
  v380

def k0_off19 (k0_t2 : Fin k0_t2_loop.trips) (c0_i32_277 : BitVec 32) : Fin 2 → Nat :=
  let c4_i32_197 : BitVec 32 := 4#32
  let c0_i32_93 : BitVec 32 := 0#32
  let c1_i32_95 : BitVec 32 := 1#32
  let arg32 : BitVec 32 := Scf.iv c0_i32_93 c1_i32_95 k0_t2
  let v311 : BitVec 32 := Scalar.muli c4_i32_197 arg32
  let v312 : BitVec 32 := v311
  let c2_i32_198 : BitVec 32 := 2#32
  let v313 : BitVec 32 := Scalar.addi v312 c2_i32_198
  let c4_i32_231 : BitVec 32 := 4#32
  let v374 : BitVec 32 := Scalar.addi v313 c4_i32_231
  let c16_i32_275 : BitVec 32 := 16#32
  let v451 : BitVec 32 := Scalar.subi v374 c16_i32_275
  let c256_i32_276 : BitVec 32 := 256#32
  let v452 : BitVec 32 := Scalar.muli v451 c256_i32_276
  let v453 : BitVec 32 := Scalar.addi v452 c0_i32_277
  let c0_i32_281 : BitVec 32 := 0#32
  ![v453.toNat, 0]
def k0_mult15 (k0_t2 : Fin k0_t2_loop.trips) : BitVec 32 :=
  let c4_i32_236 : BitVec 32 := 4#32
  let c0_i32_93 : BitVec 32 := 0#32
  let c1_i32_95 : BitVec 32 := 1#32
  let arg32 : BitVec 32 := Scf.iv c0_i32_93 c1_i32_95 k0_t2
  let v381 : BitVec 32 := Scalar.muli c4_i32_236 arg32
  v381
def k0_mult16 (k0_t2 : Fin k0_t2_loop.trips) : BitVec 32 :=
  let c4_i32_236 : BitVec 32 := 4#32
  let c0_i32_93 : BitVec 32 := 0#32
  let c1_i32_95 : BitVec 32 := 1#32
  let arg32 : BitVec 32 := Scf.iv c0_i32_93 c1_i32_95 k0_t2
  let v381 : BitVec 32 := Scalar.muli c4_i32_236 arg32
  let v382 : BitVec 32 := v381
  let c3_i32_237 : BitVec 32 := 3#32
  let v383 : BitVec 32 := Scalar.addi v382 c3_i32_237
  let c256_i32_262 : BitVec 32 := 256#32
  let v408 : BitVec 32 := Scalar.muli v383 c256_i32_262
  v408
def k0_cond15 (k0_t2 : Fin k0_t2_loop.trips) : BitVec 1 :=
  let c4_i32_236 : BitVec 32 := 4#32
  let c0_i32_93 : BitVec 32 := 0#32
  let c1_i32_95 : BitVec 32 := 1#32
  let arg32 : BitVec 32 := Scf.iv c0_i32_93 c1_i32_95 k0_t2
  let v381 : BitVec 32 := Scalar.muli c4_i32_236 arg32
  let v382 : BitVec 32 := v381
  let c3_i32_237 : BitVec 32 := 3#32
  let v383 : BitVec 32 := Scalar.addi v382 c3_i32_237
  let c4_i32_270 : BitVec 32 := 4#32
  let v444 : BitVec 32 := Scalar.addi v383 c4_i32_270
  let c16_i32_271 : BitVec 32 := 16#32
  let v445 : BitVec 1 := Scalar.cmpi .slt v444 c16_i32_271
  let v446 : BitVec 32 := Scalar.extui v445
  let c0_i32_272 : BitVec 32 := 0#32
  let v447 : BitVec 1 := Scalar.cmpi .ne v446 c0_i32_272
  v447

def k0_off20 (k0_t2 : Fin k0_t2_loop.trips) (c0_i32_276 : BitVec 32) : Fin 2 → Nat :=
  let c4_i32_236 : BitVec 32 := 4#32
  let c0_i32_93 : BitVec 32 := 0#32
  let c1_i32_95 : BitVec 32 := 1#32
  let arg32 : BitVec 32 := Scf.iv c0_i32_93 c1_i32_95 k0_t2
  let v381 : BitVec 32 := Scalar.muli c4_i32_236 arg32
  let v382 : BitVec 32 := v381
  let c3_i32_237 : BitVec 32 := 3#32
  let v383 : BitVec 32 := Scalar.addi v382 c3_i32_237
  let c4_i32_270 : BitVec 32 := 4#32
  let v444 : BitVec 32 := Scalar.addi v383 c4_i32_270
  let c256_i32_275 : BitVec 32 := 256#32
  let v451 : BitVec 32 := Scalar.muli v444 c256_i32_275
  let v452 : BitVec 32 := Scalar.addi v451 c0_i32_276
  let c0_i32_280 : BitVec 32 := 0#32
  ![v452.toNat, 0]
def k0_cond16 (k0_t2 : Fin k0_t2_loop.trips) : BitVec 1 :=
  let c4_i32_236 : BitVec 32 := 4#32
  let c0_i32_93 : BitVec 32 := 0#32
  let c1_i32_95 : BitVec 32 := 1#32
  let arg32 : BitVec 32 := Scf.iv c0_i32_93 c1_i32_95 k0_t2
  let v381 : BitVec 32 := Scalar.muli c4_i32_236 arg32
  let v382 : BitVec 32 := v381
  let c3_i32_237 : BitVec 32 := 3#32
  let v383 : BitVec 32 := Scalar.addi v382 c3_i32_237
  let c4_i32_270 : BitVec 32 := 4#32
  let v444 : BitVec 32 := Scalar.addi v383 c4_i32_270
  let c16_i32_273 : BitVec 32 := 16#32
  let v448 : BitVec 1 := Scalar.cmpi .sge v444 c16_i32_273
  let v449 : BitVec 32 := Scalar.extui v448
  let c0_i32_274 : BitVec 32 := 0#32
  let v450 : BitVec 1 := Scalar.cmpi .ne v449 c0_i32_274
  v450

def k0_off21 (k0_t2 : Fin k0_t2_loop.trips) (c0_i32_277 : BitVec 32) : Fin 2 → Nat :=
  let c4_i32_236 : BitVec 32 := 4#32
  let c0_i32_93 : BitVec 32 := 0#32
  let c1_i32_95 : BitVec 32 := 1#32
  let arg32 : BitVec 32 := Scf.iv c0_i32_93 c1_i32_95 k0_t2
  let v381 : BitVec 32 := Scalar.muli c4_i32_236 arg32
  let v382 : BitVec 32 := v381
  let c3_i32_237 : BitVec 32 := 3#32
  let v383 : BitVec 32 := Scalar.addi v382 c3_i32_237
  let c4_i32_270 : BitVec 32 := 4#32
  let v444 : BitVec 32 := Scalar.addi v383 c4_i32_270
  let c16_i32_275 : BitVec 32 := 16#32
  let v451 : BitVec 32 := Scalar.subi v444 c16_i32_275
  let c256_i32_276 : BitVec 32 := 256#32
  let v452 : BitVec 32 := Scalar.muli v451 c256_i32_276
  let v453 : BitVec 32 := Scalar.addi v452 c0_i32_277
  let c0_i32_281 : BitVec 32 := 0#32
  ![v453.toNat, 0]
@[reducible] def k0_t3_loop : Scf.Loop 32 :=
  let c0_i32_97 : BitVec 32 := 0#32
  let c4_i32_98 : BitVec 32 := 4#32
  let v145 : BitVec 32 := Scalar.addi c0_i32_97 c4_i32_98
  let c1_i32_99 : BitVec 32 := 1#32
  ⟨c0_i32_97, v145, c1_i32_99⟩
def k0_mult17 (k0_t3 : Fin k0_t3_loop.trips) : BitVec 32 :=
  let c4_i32_120 : BitVec 32 := 4#32
  let c0_i32_97 : BitVec 32 := 0#32
  let c1_i32_99 : BitVec 32 := 1#32
  let arg32 : BitVec 32 := Scf.iv c0_i32_97 c1_i32_99 k0_t3
  let v171 : BitVec 32 := Scalar.muli c4_i32_120 arg32
  v171
def k0_off22 (k0_t3 : Fin k0_t3_loop.trips) (c0_i32_121 : BitVec 32) (c0_i32_123 : BitVec 32) : Fin 2 → Nat :=
  let c4_i32_120 : BitVec 32 := 4#32
  let c0_i32_97 : BitVec 32 := 0#32
  let c1_i32_99 : BitVec 32 := 1#32
  let arg32 : BitVec 32 := Scf.iv c0_i32_97 c1_i32_99 k0_t3
  let v171 : BitVec 32 := Scalar.muli c4_i32_120 arg32
  let v172 : BitVec 32 := v171
  let v173 : BitVec 32 := Scalar.addi v172 c0_i32_121
  let c256_i32_122 : BitVec 32 := 256#32
  let v174 : BitVec 32 := Scalar.muli v173 c256_i32_122
  let v175 : BitVec 32 := Scalar.addi v174 c0_i32_123
  let c0_i32_127 : BitVec 32 := 0#32
  ![v175.toNat, 0]
def k0_mult18 (k0_t3 : Fin k0_t3_loop.trips) : BitVec 32 :=
  let c4_i32_120 : BitVec 32 := 4#32
  let c0_i32_97 : BitVec 32 := 0#32
  let c1_i32_99 : BitVec 32 := 1#32
  let arg32 : BitVec 32 := Scf.iv c0_i32_97 c1_i32_99 k0_t3
  let v171 : BitVec 32 := Scalar.muli c4_i32_120 arg32
  let v172 : BitVec 32 := v171
  let c0_i32_121 : BitVec 32 := 0#32
  let v173 : BitVec 32 := Scalar.addi v172 c0_i32_121
  let c256_i32_146 : BitVec 32 := 256#32
  let v198 : BitVec 32 := Scalar.muli v173 c256_i32_146
  v198
def k0_off23 (k0_t3 : Fin k0_t3_loop.trips) (c0_i32_121 : BitVec 32) : Fin 2 → Nat :=
  let c4_i32_120 : BitVec 32 := 4#32
  let c0_i32_97 : BitVec 32 := 0#32
  let c1_i32_99 : BitVec 32 := 1#32
  let arg32 : BitVec 32 := Scf.iv c0_i32_97 c1_i32_99 k0_t3
  let v171 : BitVec 32 := Scalar.muli c4_i32_120 arg32
  let v172 : BitVec 32 := v171
  let v173 : BitVec 32 := Scalar.addi v172 c0_i32_121
  let c256_i32_146 : BitVec 32 := 256#32
  let v198 : BitVec 32 := Scalar.muli v173 c256_i32_146
  let v199 : BitVec 32 := v198
  let v200 : Index := Scalar.indexCast v199
  let c0_147 : Index := 0#32
  ![v200.toNat, 0]
def k0_off24 (k0_t3 : Fin k0_t3_loop.trips) (c0_i32_121 : BitVec 32) : Fin 2 → Nat :=
  let c4_i32_120 : BitVec 32 := 4#32
  let c0_i32_97 : BitVec 32 := 0#32
  let c1_i32_99 : BitVec 32 := 1#32
  let arg32 : BitVec 32 := Scf.iv c0_i32_97 c1_i32_99 k0_t3
  let v171 : BitVec 32 := Scalar.muli c4_i32_120 arg32
  let v172 : BitVec 32 := v171
  let v173 : BitVec 32 := Scalar.addi v172 c0_i32_121
  let c256_i32_146 : BitVec 32 := 256#32
  let v198 : BitVec 32 := Scalar.muli v173 c256_i32_146
  let v199 : BitVec 32 := v198
  let v207 : Index := Scalar.indexCast v199
  let c0_156 : Index := 0#32
  ![v207.toNat, 0]
def k0_cond17 (k0_t3 : Fin k0_t3_loop.trips) : BitVec 1 :=
  let c4_i32_120 : BitVec 32 := 4#32
  let c0_i32_97 : BitVec 32 := 0#32
  let c1_i32_99 : BitVec 32 := 1#32
  let arg32 : BitVec 32 := Scf.iv c0_i32_97 c1_i32_99 k0_t3
  let v171 : BitVec 32 := Scalar.muli c4_i32_120 arg32
  let v172 : BitVec 32 := v171
  let c0_i32_121 : BitVec 32 := 0#32
  let v173 : BitVec 32 := Scalar.addi v172 c0_i32_121
  let c4_i32_159 : BitVec 32 := 4#32
  let v222 : BitVec 32 := Scalar.addi v173 c4_i32_159
  let c16_i32 : BitVec 32 := 16#32
  let v223 : BitVec 1 := Scalar.cmpi .slt v222 c16_i32
  let v224 : BitVec 32 := Scalar.extui v223
  let c0_i32_160 : BitVec 32 := 0#32
  let v225 : BitVec 1 := Scalar.cmpi .ne v224 c0_i32_160
  v225

def k0_off25 (k0_t3 : Fin k0_t3_loop.trips) (c0_i32_288 : BitVec 32) : Fin 2 → Nat :=
  let c4_i32_120 : BitVec 32 := 4#32
  let c0_i32_97 : BitVec 32 := 0#32
  let c1_i32_99 : BitVec 32 := 1#32
  let arg32 : BitVec 32 := Scf.iv c0_i32_97 c1_i32_99 k0_t3
  let v171 : BitVec 32 := Scalar.muli c4_i32_120 arg32
  let v172 : BitVec 32 := v171
  let c0_i32_121 : BitVec 32 := 0#32
  let v173 : BitVec 32 := Scalar.addi v172 c0_i32_121
  let c4_i32_159 : BitVec 32 := 4#32
  let v222 : BitVec 32 := Scalar.addi v173 c4_i32_159
  let c256_i32_287 : BitVec 32 := 256#32
  let v391 : BitVec 32 := Scalar.muli v222 c256_i32_287
  let v392 : BitVec 32 := Scalar.addi v391 c0_i32_288
  let c0_i32_292 : BitVec 32 := 0#32
  ![v392.toNat, 0]
def k0_mult19 (k0_t3 : Fin k0_t3_loop.trips) : BitVec 32 :=
  let c4_i32_161 : BitVec 32 := 4#32
  let c0_i32_97 : BitVec 32 := 0#32
  let c1_i32_99 : BitVec 32 := 1#32
  let arg32 : BitVec 32 := Scf.iv c0_i32_97 c1_i32_99 k0_t3
  let v226 : BitVec 32 := Scalar.muli c4_i32_161 arg32
  v226
def k0_mult20 (k0_t3 : Fin k0_t3_loop.trips) : BitVec 32 :=
  let c4_i32_161 : BitVec 32 := 4#32
  let c0_i32_97 : BitVec 32 := 0#32
  let c1_i32_99 : BitVec 32 := 1#32
  let arg32 : BitVec 32 := Scf.iv c0_i32_97 c1_i32_99 k0_t3
  let v226 : BitVec 32 := Scalar.muli c4_i32_161 arg32
  let v227 : BitVec 32 := v226
  let c1_i32_162 : BitVec 32 := 1#32
  let v228 : BitVec 32 := Scalar.addi v227 c1_i32_162
  let c256_i32_187 : BitVec 32 := 256#32
  let v253 : BitVec 32 := Scalar.muli v228 c256_i32_187
  v253
def k0_cond18 (k0_t3 : Fin k0_t3_loop.trips) : BitVec 1 :=
  let c4_i32_161 : BitVec 32 := 4#32
  let c0_i32_97 : BitVec 32 := 0#32
  let c1_i32_99 : BitVec 32 := 1#32
  let arg32 : BitVec 32 := Scf.iv c0_i32_97 c1_i32_99 k0_t3
  let v226 : BitVec 32 := Scalar.muli c4_i32_161 arg32
  let v227 : BitVec 32 := v226
  let c1_i32_162 : BitVec 32 := 1#32
  let v228 : BitVec 32 := Scalar.addi v227 c1_i32_162
  let c4_i32_200 : BitVec 32 := 4#32
  let v277 : BitVec 32 := Scalar.addi v228 c4_i32_200
  let c16_i32_201 : BitVec 32 := 16#32
  let v278 : BitVec 1 := Scalar.cmpi .slt v277 c16_i32_201
  let v279 : BitVec 32 := Scalar.extui v278
  let c0_i32_202 : BitVec 32 := 0#32
  let v280 : BitVec 1 := Scalar.cmpi .ne v279 c0_i32_202
  v280

def k0_off26 (k0_t3 : Fin k0_t3_loop.trips) (c0_i32_288 : BitVec 32) : Fin 2 → Nat :=
  let c4_i32_161 : BitVec 32 := 4#32
  let c0_i32_97 : BitVec 32 := 0#32
  let c1_i32_99 : BitVec 32 := 1#32
  let arg32 : BitVec 32 := Scf.iv c0_i32_97 c1_i32_99 k0_t3
  let v226 : BitVec 32 := Scalar.muli c4_i32_161 arg32
  let v227 : BitVec 32 := v226
  let c1_i32_162 : BitVec 32 := 1#32
  let v228 : BitVec 32 := Scalar.addi v227 c1_i32_162
  let c4_i32_200 : BitVec 32 := 4#32
  let v277 : BitVec 32 := Scalar.addi v228 c4_i32_200
  let c256_i32_287 : BitVec 32 := 256#32
  let v391 : BitVec 32 := Scalar.muli v277 c256_i32_287
  let v392 : BitVec 32 := Scalar.addi v391 c0_i32_288
  let c0_i32_292 : BitVec 32 := 0#32
  ![v392.toNat, 0]
def k0_mult21 (k0_t3 : Fin k0_t3_loop.trips) : BitVec 32 :=
  let c4_i32_203 : BitVec 32 := 4#32
  let c0_i32_97 : BitVec 32 := 0#32
  let c1_i32_99 : BitVec 32 := 1#32
  let arg32 : BitVec 32 := Scf.iv c0_i32_97 c1_i32_99 k0_t3
  let v281 : BitVec 32 := Scalar.muli c4_i32_203 arg32
  v281
def k0_mult22 (k0_t3 : Fin k0_t3_loop.trips) : BitVec 32 :=
  let c4_i32_203 : BitVec 32 := 4#32
  let c0_i32_97 : BitVec 32 := 0#32
  let c1_i32_99 : BitVec 32 := 1#32
  let arg32 : BitVec 32 := Scf.iv c0_i32_97 c1_i32_99 k0_t3
  let v281 : BitVec 32 := Scalar.muli c4_i32_203 arg32
  let v282 : BitVec 32 := v281
  let c2_i32_204 : BitVec 32 := 2#32
  let v283 : BitVec 32 := Scalar.addi v282 c2_i32_204
  let c256_i32_229 : BitVec 32 := 256#32
  let v308 : BitVec 32 := Scalar.muli v283 c256_i32_229
  v308
def k0_cond19 (k0_t3 : Fin k0_t3_loop.trips) : BitVec 1 :=
  let c4_i32_203 : BitVec 32 := 4#32
  let c0_i32_97 : BitVec 32 := 0#32
  let c1_i32_99 : BitVec 32 := 1#32
  let arg32 : BitVec 32 := Scf.iv c0_i32_97 c1_i32_99 k0_t3
  let v281 : BitVec 32 := Scalar.muli c4_i32_203 arg32
  let v282 : BitVec 32 := v281
  let c2_i32_204 : BitVec 32 := 2#32
  let v283 : BitVec 32 := Scalar.addi v282 c2_i32_204
  let c4_i32_242 : BitVec 32 := 4#32
  let v332 : BitVec 32 := Scalar.addi v283 c4_i32_242
  let c16_i32_243 : BitVec 32 := 16#32
  let v333 : BitVec 1 := Scalar.cmpi .slt v332 c16_i32_243
  let v334 : BitVec 32 := Scalar.extui v333
  let c0_i32_244 : BitVec 32 := 0#32
  let v335 : BitVec 1 := Scalar.cmpi .ne v334 c0_i32_244
  v335

def k0_off27 (k0_t3 : Fin k0_t3_loop.trips) (c0_i32_288 : BitVec 32) : Fin 2 → Nat :=
  let c4_i32_203 : BitVec 32 := 4#32
  let c0_i32_97 : BitVec 32 := 0#32
  let c1_i32_99 : BitVec 32 := 1#32
  let arg32 : BitVec 32 := Scf.iv c0_i32_97 c1_i32_99 k0_t3
  let v281 : BitVec 32 := Scalar.muli c4_i32_203 arg32
  let v282 : BitVec 32 := v281
  let c2_i32_204 : BitVec 32 := 2#32
  let v283 : BitVec 32 := Scalar.addi v282 c2_i32_204
  let c4_i32_242 : BitVec 32 := 4#32
  let v332 : BitVec 32 := Scalar.addi v283 c4_i32_242
  let c256_i32_287 : BitVec 32 := 256#32
  let v391 : BitVec 32 := Scalar.muli v332 c256_i32_287
  let v392 : BitVec 32 := Scalar.addi v391 c0_i32_288
  let c0_i32_292 : BitVec 32 := 0#32
  ![v392.toNat, 0]
def k0_mult23 (k0_t3 : Fin k0_t3_loop.trips) : BitVec 32 :=
  let c4_i32_245 : BitVec 32 := 4#32
  let c0_i32_97 : BitVec 32 := 0#32
  let c1_i32_99 : BitVec 32 := 1#32
  let arg32 : BitVec 32 := Scf.iv c0_i32_97 c1_i32_99 k0_t3
  let v336 : BitVec 32 := Scalar.muli c4_i32_245 arg32
  v336
def k0_mult24 (k0_t3 : Fin k0_t3_loop.trips) : BitVec 32 :=
  let c4_i32_245 : BitVec 32 := 4#32
  let c0_i32_97 : BitVec 32 := 0#32
  let c1_i32_99 : BitVec 32 := 1#32
  let arg32 : BitVec 32 := Scf.iv c0_i32_97 c1_i32_99 k0_t3
  let v336 : BitVec 32 := Scalar.muli c4_i32_245 arg32
  let v337 : BitVec 32 := v336
  let c3_i32_246 : BitVec 32 := 3#32
  let v338 : BitVec 32 := Scalar.addi v337 c3_i32_246
  let c256_i32_271 : BitVec 32 := 256#32
  let v363 : BitVec 32 := Scalar.muli v338 c256_i32_271
  v363
def k0_cond20 (k0_t3 : Fin k0_t3_loop.trips) : BitVec 1 :=
  let c4_i32_245 : BitVec 32 := 4#32
  let c0_i32_97 : BitVec 32 := 0#32
  let c1_i32_99 : BitVec 32 := 1#32
  let arg32 : BitVec 32 := Scf.iv c0_i32_97 c1_i32_99 k0_t3
  let v336 : BitVec 32 := Scalar.muli c4_i32_245 arg32
  let v337 : BitVec 32 := v336
  let c3_i32_246 : BitVec 32 := 3#32
  let v338 : BitVec 32 := Scalar.addi v337 c3_i32_246
  let c4_i32_284 : BitVec 32 := 4#32
  let v387 : BitVec 32 := Scalar.addi v338 c4_i32_284
  let c16_i32_285 : BitVec 32 := 16#32
  let v388 : BitVec 1 := Scalar.cmpi .slt v387 c16_i32_285
  let v389 : BitVec 32 := Scalar.extui v388
  let c0_i32_286 : BitVec 32 := 0#32
  let v390 : BitVec 1 := Scalar.cmpi .ne v389 c0_i32_286
  v390

def k0_off28 (k0_t3 : Fin k0_t3_loop.trips) (c0_i32_288 : BitVec 32) : Fin 2 → Nat :=
  let c4_i32_245 : BitVec 32 := 4#32
  let c0_i32_97 : BitVec 32 := 0#32
  let c1_i32_99 : BitVec 32 := 1#32
  let arg32 : BitVec 32 := Scf.iv c0_i32_97 c1_i32_99 k0_t3
  let v336 : BitVec 32 := Scalar.muli c4_i32_245 arg32
  let v337 : BitVec 32 := v336
  let c3_i32_246 : BitVec 32 := 3#32
  let v338 : BitVec 32 := Scalar.addi v337 c3_i32_246
  let c4_i32_284 : BitVec 32 := 4#32
  let v387 : BitVec 32 := Scalar.addi v338 c4_i32_284
  let c256_i32_287 : BitVec 32 := 256#32
  let v391 : BitVec 32 := Scalar.muli v387 c256_i32_287
  let v392 : BitVec 32 := Scalar.addi v391 c0_i32_288
  let c0_i32_292 : BitVec 32 := 0#32
  ![v392.toNat, 0]
abbrev stage0_0 : Fin 1 → Memref sig .tc .vmem S4096x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S8x4096 : Shape := ⟨2, ![8, 4096]⟩
abbrev S8 : Shape := ⟨1, ![8]⟩
abbrev S4096x4096 : Shape := ⟨2, ![4096, 4096]⟩
abbrev S128x64 : Shape := ⟨2, ![128, 64]⟩
abbrev S64 : Shape := ⟨1, ![64]⟩
abbrev S64x64 : Shape := ⟨2, ![64, 64]⟩
abbrev S1x64x3 : Shape := ⟨3, ![1, 64, 3]⟩
abbrev S64x1x3 : Shape := ⟨3, ![64, 1, 3]⟩
abbrev S4096x64 : Shape := ⟨2, ![4096, 64]⟩
abbrev S64x4096 : Shape := ⟨2, ![64, 4096]⟩
abbrev S4096 : Shape := ⟨1, ![4096]⟩
abbrev S_ : Shape := ⟨0, ![]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S8x4096x1 : Shape := ⟨3, ![8, 4096, 1]⟩
abbrev S8x4096x1x1 : Shape := ⟨4, ![8, 4096, 1, 1]⟩
abbrev S4096x8x1 : Shape := ⟨3, ![4096, 8, 1]⟩
abbrev S8x4096x1x3 : Shape := ⟨4, ![8, 4096, 1, 3]⟩
abbrev S8x4096x64 : Shape := ⟨3, ![8, 4096, 64]⟩
abbrev S8x4096x64x1 : Shape := ⟨4, ![8, 4096, 64, 1]⟩
abbrev S4096x8x64 : Shape := ⟨3, ![4096, 8, 64]⟩
abbrev S8x4096x64x3 : Shape := ⟨4, ![8, 4096, 64, 3]⟩
abbrev S1x4096 : Shape := ⟨2, ![1, 4096]⟩

abbrev nBuf : Space → Nat
  | .hbm => 91
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8, .f32⟩
  | .hbm, ⟨2, _⟩ => ⟨S4096x4096, .f32⟩
  | .hbm, ⟨3, _⟩ => ⟨S4096x4096, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64x3, .f32⟩
  | .hbm, ⟨9, _⟩ => ⟨S64x1x3, .f32⟩
  | .hbm, ⟨10, _⟩ => ⟨S4096x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x4096, .f32⟩
  | .hbm, ⟨15, _⟩ => ⟨S4096, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S8x1, .f32⟩
  | .hbm, ⟨25, _⟩ => ⟨S1x64, .f32⟩
  | .hbm, ⟨26, _⟩ => ⟨S8x64, .f32⟩
  | .hbm, ⟨27, _⟩ => ⟨S8x64, .f32⟩
  | .hbm, ⟨28, _⟩ => ⟨S8x64, .f32⟩
  | .hbm, ⟨29, _⟩ => ⟨S8x64, .f32⟩
  | .hbm, ⟨30, _⟩ => ⟨S8x64, .f32⟩
  | .hbm, ⟨31, _⟩ => ⟨S8x128, .f32⟩
  | .hbm, ⟨32, _⟩ => ⟨S8x64, .f32⟩
  | .hbm, ⟨33, _⟩ => ⟨S1x64, .f32⟩
  | .hbm, ⟨34, _⟩ => ⟨S8x64, .f32⟩
  | .hbm, ⟨35, _⟩ => ⟨S8x64, .f32⟩
  | .hbm, ⟨36, _⟩ => ⟨S8x64, .f32⟩
  | .hbm, ⟨37, _⟩ => ⟨S8x64, .f32⟩
  | .hbm, ⟨38, _⟩ => ⟨S_, .f32⟩
  | .hbm, ⟨39, _⟩ => ⟨S8x64, .f32⟩
  | .hbm, ⟨40, _⟩ => ⟨S8x64, .f32⟩
  | .hbm, ⟨41, _⟩ => ⟨S_, .f32⟩
  | .hbm, ⟨42, _⟩ => ⟨S8x64, .f32⟩
  | .hbm, ⟨43, _⟩ => ⟨S8x64, .f32⟩
  | .hbm, ⟨44, _⟩ => ⟨S8x64, .f32⟩
  | .hbm, ⟨45, _⟩ => ⟨S8x64, .f32⟩
  | .hbm, ⟨46, _⟩ => ⟨S1x64, .f32⟩
  | .hbm, ⟨47, _⟩ => ⟨S8x64, .f32⟩
  | .hbm, ⟨48, _⟩ => ⟨S8x64, .f32⟩
  | .hbm, ⟨49, _⟩ => ⟨S8x4096x1, .f32⟩
  | .hbm, ⟨50, _⟩ => ⟨S8x4096x1x1, .f32⟩
  | .hbm, ⟨51, _⟩ => ⟨S4096x8x1, .f32⟩
  | .hbm, ⟨52, _⟩ => ⟨S8x4096x1, .f32⟩
  | .hbm, ⟨53, _⟩ => ⟨S8x4096x1x1, .f32⟩
  | .hbm, ⟨54, _⟩ => ⟨S4096x8x1, .f32⟩
  | .hbm, ⟨55, _⟩ => ⟨S8x4096x1, .f32⟩
  | .hbm, ⟨56, _⟩ => ⟨S8x4096x1x1, .f32⟩
  | .hbm, ⟨57, _⟩ => ⟨S8x4096x1x3, .f32⟩
  | .hbm, ⟨58, _⟩ => ⟨S8x4096x64, .f32⟩
  | .hbm, ⟨59, _⟩ => ⟨S8x4096x64x1, .f32⟩
  | .hbm, ⟨60, _⟩ => ⟨S4096x8x64, .f32⟩
  | .hbm, ⟨61, _⟩ => ⟨S8x4096x64, .f32⟩
  | .hbm, ⟨62, _⟩ => ⟨S8x4096x64x1, .f32⟩
  | .hbm, ⟨63, _⟩ => ⟨S4096x8x64, .f32⟩
  | .hbm, ⟨64, _⟩ => ⟨S8x4096x64, .f32⟩
  | .hbm, ⟨65, _⟩ => ⟨S8x4096x64x1, .f32⟩
  | .hbm, ⟨66, _⟩ => ⟨S8x4096x64x3, .f32⟩
  | .hbm, ⟨67, _⟩ => ⟨S8x4096x1, .f32⟩
  | .hbm, ⟨68, _⟩ => ⟨S8x4096, .f32⟩
  | .hbm, ⟨69, _⟩ => ⟨S8x64, .f32⟩
  | .hbm, ⟨70, _⟩ => ⟨S1x64, .f32⟩
  | .hbm, ⟨71, _⟩ => ⟨S8x64, .f32⟩
  | .hbm, ⟨72, _⟩ => ⟨S8x64, .f32⟩
  | .hbm, ⟨73, _⟩ => ⟨S8x64, .f32⟩
  | .hbm, ⟨74, _⟩ => ⟨S8x64, .f32⟩
  | .hbm, ⟨75, _⟩ => ⟨S1x64, .f32⟩
  | .hbm, ⟨76, _⟩ => ⟨S8x64, .f32⟩
  | .hbm, ⟨77, _⟩ => ⟨S8x64, .f32⟩
  | .hbm, ⟨78, _⟩ => ⟨S8x64, .f32⟩
  | .hbm, ⟨79, _⟩ => ⟨S8x64, .f32⟩
  | .hbm, ⟨80, _⟩ => ⟨S_, .f32⟩
  | .hbm, ⟨81, _⟩ => ⟨S8x64, .f32⟩
  | .hbm, ⟨82, _⟩ => ⟨S8x64, .f32⟩
  | .hbm, ⟨83, _⟩ => ⟨S_, .f32⟩
  | .hbm, ⟨84, _⟩ => ⟨S8x64, .f32⟩
  | .hbm, ⟨85, _⟩ => ⟨S8x64, .f32⟩
  | .hbm, ⟨86, _⟩ => ⟨S8x64, .f32⟩
  | .hbm, ⟨87, _⟩ => ⟨S8x4096, .f32⟩
  | .hbm, ⟨88, _⟩ => ⟨S1x4096, .f32⟩
  | .hbm, ⟨89, _⟩ => ⟨S8x4096, .f32⟩
  | .hbm, ⟨90, _⟩ => ⟨S8x4096, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]
-- ==== Proof.Slot.lean ====
/-
  Hand-written, untrusted. One SLOT of a ring of transfers, over any signature: a buffer of 256 rows filled by four
  transfers of 64 rows each, each completing on a semaphore cell of its own. `issueSlot` starts the four, `waitSlot`
  waits for them; `Busy` is what the core holds between the two, and it states what the buffer will hold. Beside them,
  a load and a store of a whole buffer held at contents stated through its view (`owns`).
-/
module

public import Idealize.ShloMosaic.Lib.Transfers
public import Idealize.ShloMosaic.Lib.WholeRead
public import Idealize.ShloMosaic.Lib.Pipeline.FrameBody
public import Idealize.ShloMosaic.Lib.LaneScatter.Own
public import Idealize.ShloMosaic.Lib.ValueIdxCore
public import Idealize.ShloMosaic.Lib.Tactic

@[expose] public section

noncomputable section

namespace Cert.Proof.Slot

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

local notation "𝕄" => MT nD τ sig Unit Val ℕ (Pipeline.UD sig nD τ) ℕ

/-! ## Loads and stores of a buffer held through its view -/

section Access

variable {Λ : Labels} {defs : Defs nD τ sig Val Λ} (𝒱 : Variants) (c : Dev nD) (bd : Option 𝒱.V)
variable {α : Type} {s : Shape} {e : EltTy}

/-- The contents `X` with the rectangle `r` overwritten by `w`. -/
def upd (r : Rect s) (w : r.shape.Idx → Val e) (X : s.Idx → Val e) : s.Idx → Val e := by
  classical
  exact fun y => if h : ∃ j, r.emb j = y then w h.choose else X y

theorem upd_emb (r : Rect s) (w : r.shape.Idx → Val e) (X : s.Idx → Val e) (j : r.shape.Idx) :
    upd r w X (r.emb j) = w j := by
  have h : ∃ j', r.emb j' = r.emb j := ⟨j, rfl⟩
  unfold upd
  rw [dif_pos h, r.emb.injective h.choose_spec]

theorem upd_of_not (r : Rect s) (w : r.shape.Idx → Val e) (X : s.Idx → Val e) (y : s.Idx) (h : ¬ ∃ j, r.emb j = y) :
    upd r w X y = X y := by
  unfold upd; rw [dif_neg h]

/-- A load of a whole buffer held at `X` continues at `X` read through the rectangle. -/
theorem wp_load_owns {cs : CoreSpace} {M : Memref sig .tc cs s e} (hM : M.IsWhole) {r : LoadRect s} {hl : M.view.LoadsAt r}
    {k : (r.shape.Idx → Val e) → Prog (TpuEff nD τ sig Val Λ .tc) α} {q : PosShare TreeShare} {X : s.Idx → Val e} {Q : α → sProp 𝕄} :
    (owns (c : Thread nD τ) M q X : sProp 𝕄)
      ⊢ iprop(((owns (c : Thread nD τ) M q X : sProp 𝕄) -∗ wp frame (wpE defs 𝒱 (c : Thread nD τ) bd) Set.univ (k (fun j => X (r.idx j))) Q)
        -∗ wp frame (wpE defs 𝒱 (c : Thread nD τ) bd) Set.univ (.op (.load M r hl) k) Q) := by
  unfold owns
  iintro ⟨%f, %hf, H⟩ Hk
  obtain rfl := hM.eq_unread hf
  iapply (wp_load 𝒱 (c : Thread nD τ) bd Set.univ (m := M) (S := M.view.set) (f := hM.unread X)
    (View.setOn_subset_set _ _)) $$ H
  iintro H
  rw [show M.view.readAt Val r (hM.unread X) = fun j => X (r.idx j) from funext fun j => hM.readAt_unread X r j]
  iapply Hk
  iexists _; isplitr; swap; · iexact H
  ipureintro; exact hM.read_unread X

/-- A store through a rectangle of a whole buffer held at `X` continues holding it at `upd r w X`. -/
theorem wp_store_owns {cs : CoreSpace} {M : Memref sig .tc cs s e} (hM : M.IsWhole) {r : Rect s} {w : r.shape.Idx → Val e}
    {hx : (M.access r).Stores Finset.univ} {hm : (Finset.univ : Finset r.shape.Idx) = Finset.univ ∨ ∀ a, r.stride a = 1}
    {k : PUnit → Prog (TpuEff nD τ sig Val Λ .tc) α} {X : s.Idx → Val e} {Q : α → sProp 𝕄} :
    (owns (c : Thread nD τ) M fullShare X : sProp 𝕄)
      ⊢ iprop(((owns (c : Thread nD τ) M fullShare (upd r w X) : sProp 𝕄) -∗ wp frame (wpE defs 𝒱 (c : Thread nD τ) bd) Set.univ (k ⟨⟩) Q)
        -∗ wp frame (wpE defs 𝒱 (c : Thread nD τ) bd) Set.univ (.op (.store M r w Finset.univ hx hm) k) Q) := by
  unfold owns
  iintro ⟨%f, %hf, H⟩ Hk
  iapply (wp_store 𝒱 (c : Thread nD τ) bd Set.univ (m := M) (r := r) (S := M.view.set) (f := f)
    (View.set_slice_subset _ _)) $$ H
  iintro H
  iapply Hk
  iexists _; isplitr; swap; · iexact H
  ipureintro
  funext y
  by_cases h : ∃ j, r.emb j = y
  · obtain ⟨j, rfl⟩ := h
    rw [upd_emb]; exact View.read_slice_write_emb r f w (Finset.mem_univ j)
  · rw [upd_of_not _ _ _ _ h, ← hf]
    refine View.read_slice_write_of_not_mem r f w _ fun hy => h ?_
    obtain ⟨j, -, hj⟩ := Finset.mem_map.mp hy
    exact ⟨j, hj⟩

end Access

/-! ## One transfer of 64 rows -/

/-- A matrix of 4096 rows, a buffer of 256, a window of 64, and four semaphore cells. -/
abbrev SA : Shape := ⟨2, ![4096, 4096]⟩
abbrev SB : Shape := ⟨2, ![256, 4096]⟩
abbrev SW : Shape := ⟨2, ![64, 4096]⟩
abbrev S1 : Shape := ⟨1, ![1]⟩
abbrev S4 : Shape := ⟨1, ![4]⟩
abbrev S0 : Shape := ⟨0, ![]⟩

/-- A window of the matrix, and a window of the buffer. -/
abbrev srcWin (src : Memref sig .tc .hbm SA .f32) (o : Fin 2 → ℕ) (ho : ∀ a, o a + SW.size a ≤ SA.size a) :
    Memref sig .tc .hbm SW .f32 := src.slice (Rect.unit (s := SA) o SW.size ho) (fun _ => rfl)
abbrev bufWin (buf : Memref sig .tc .vmem SB .f32) (o : Fin 2 → ℕ) (ho : ∀ a, o a + SW.size a ≤ SB.size a) :
    Memref sig .tc .vmem SW .f32 := buf.slice (Rect.unit (s := SB) o SW.size ho) (fun _ => rfl)

/-- What a transfer of a window of the buffer credits. -/
abbrev amt (buf : Memref sig .tc .vmem SB .f32) : ℕ := buf.view.ref.dmaCredit SW .f32

section Cell

variable {Λ : Labels} {defs : Defs nD τ sig Val Λ} (𝒱 : Variants) (c : Dev nD) (bd : Option 𝒱.V)
variable {α : Type}
variable (src : Memref sig .tc .hbm SA .f32) (hsrc : src.IsWhole) (buf : Memref sig .tc .vmem SB .f32) (hbuf : buf.IsWhole)

/-- A transfer in flight on cell `sm`: it delivers the buffer's window at `Z` and gives the matrix's window back; the rest
    of the matrix (at share `q`) stays with the core. -/
def Cell (sm : DmaSem sig) (q : PosShare TreeShare) (X : SA.Idx → Val .f32) (Z : SB.Idx → Val .f32)
    (o : Fin 2 → ℕ) (ho : ∀ a, o a + SW.size a ≤ SA.size a) (b : Fin 2 → ℕ) (hb : ∀ a, b a + SW.size a ≤ SB.size a) : sProp 𝕄 :=
  iprop(Transfers.Flight countersEmb (c : Thread nD τ) (.dma sm) () (amt buf)
      iprop((buf.view.loc (c : Thread nD τ) ↦[(bufWin buf b hb).view.set]{fullShare} hbuf.unread Z)
        ∗ (src.view.loc (c : Thread nD τ) ↦[(srcWin src o ho).view.set]{q} hsrc.unread X))
    ∗ (src.view.loc (c : Thread nD τ) ↦[src.view.set \ (srcWin src o ho).view.set]{q} hsrc.unread X))

/-- Two contents that read alike at an index agree on the element under it. -/
theorem read_inj {κ : Kind} {sp : Space} {s : Shape} {e : EltTy} (v : View sig κ sp s e) {f g : v.ty.Contents Val} (j : s.Idx)
    (h : v.read Val f j = v.read Val g j) : f (v.emb j) = g (v.emb j) := by
  unfold View.read at h
  exact (cast_inj _).mp h

/-- Starting one transfer. -/
theorem wp_issue (hpos : 0 < amt buf) (sm : DmaSem sig) (q : PosShare TreeShare) (X : SA.Idx → Val .f32) (Y Z : SB.Idx → Val .f32)
    (o : Fin 2 → ℕ) (ho : ∀ a, o a + SW.size a ≤ SA.size a) (b : Fin 2 → ℕ) (hb : ∀ a, b a + SW.size a ≤ SB.size a)
    (hZ : ∀ j : SW.Idx, Z ((Rect.unit (s := SB) b SW.size hb).emb j) = X ((Rect.unit (s := SA) o SW.size ho).emb j))
    {h1 : (srcWin src o ho).view.WordExact} {h2 : (bufWin buf b hb).view.WordExact}
    {h3 : DmaTarget.Typed (nD := nD) (τ := τ) (p := .tc) .hbm (.dma sm) (.here (bufWin buf b hb))}
    {k : PUnit → Prog (TpuEff nD τ sig Val Λ .tc) α} {Q : α → sProp 𝕄} :
    iprop((src.view.loc (c : Thread nD τ) ↦[src.view.set]{q} hsrc.unread X)
        ∗ (buf.view.loc (c : Thread nD τ) ↦[(bufWin buf b hb).view.set]{fullShare} hbuf.unread Y)
        ∗ semVal ((c : Thread nD τ), SemLoc.dma sm) 0)
      ⊢ iprop((Cell c src hsrc buf hbuf sm q X Z o ho b hb -∗ wp frame (wpE defs 𝒱 (c : Thread nD τ) bd) Set.univ (k ⟨⟩) Q)
        -∗ wp frame (wpE defs 𝒱 (c : Thread nD τ) bd) Set.univ
          (.op (.enqueueDma (srcWin src o ho) (.here (bufWin buf b hb)) (.dma sm) h1 h2 h3) k) Q) := by
  have hsplit : (src.view.loc (c : Thread nD τ) ↦[src.view.set]{q} hsrc.unread X : sProp 𝕄) ⊢ _ :=
    (pointsTo_split_subset (View.set_slice_subset src.view (Rect.unit (s := SA) o SW.size ho))).1
  have hD : iprop((((bufWin buf b hb).view.loc (c : Thread nD τ)) ↦[(bufWin buf b hb).view.set]{fullShare}
        ((bufWin buf b hb).view.write Val (hbuf.unread Y) ((ReadAs.same : ReadAs Val SW .f32 SW .f32).apply
          ((srcWin src o ho).view.read Val (hsrc.unread X))) Finset.univ))
      ∗ ((srcWin src o ho).view.loc (c : Thread nD τ) ↦[(srcWin src o ho).view.set]{q} hsrc.unread X))
      ⊢ (iprop((buf.view.loc (c : Thread nD τ) ↦[(bufWin buf b hb).view.set]{fullShare} hbuf.unread Z)
        ∗ (src.view.loc (c : Thread nD τ) ↦[(srcWin src o ho).view.set]{q} hsrc.unread X)) : sProp 𝕄) := by
    refine sep_mono_left ?_
    rw [pointsTo_congr (g := hbuf.unread Z) fun i hi => ?_]
    · obtain ⟨j, -, rfl⟩ := Finset.mem_map.mp hi
      refine read_inj _ j ?_
      rw [View.read_write_univ]
      have e1 : (bufWin buf b hb).view.read Val (hbuf.unread Z) j = Z ((Rect.unit (s := SB) b SW.size hb).emb j) :=
        congrFun (hbuf.read_unread Z) ((Rect.unit (s := SB) b SW.size hb).emb j)
      have e2 : (srcWin src o ho).view.read Val (hsrc.unread X) j = X ((Rect.unit (s := SA) o SW.size ho).emb j) :=
        congrFun (hsrc.read_unread X) ((Rect.unit (s := SA) o SW.size ho).emb j)
      rw [e1, hZ, ← e2]
  iintro ⟨Hs, Hb, Hv⟩ Hk
  ihave Hs2 := hsplit $$ Hs
  icases Hs2 with ⟨Hw, Hrest⟩
  iapply (Transfers.wp_dmaLocal countersEmb 𝒱 (c : Thread nD τ) bd () (amt buf) rfl hpos (Finset.Subset.refl _)
    (src := srcWin src o ho) (dst := bufWin buf b hb)) $$ [Hw Hb Hv]
  · isplitl [Hw]; · iexact Hw
    isplitl [Hb]; · iexact Hb
    iexact Hv
  iintro HF
  iapply Hk
  unfold Cell
  isplitl [HF]
  · iapply (Transfers.Flight_mono countersEmb (c : Thread nD τ) hD); iexact HF
  · iexact Hrest

/-- Waiting for one transfer. -/
theorem wp_wait (sm : DmaSem sig) (q : PosShare TreeShare) (X : SA.Idx → Val .f32) (Z : SB.Idx → Val .f32)
    (o : Fin 2 → ℕ) (ho : ∀ a, o a + SW.size a ≤ SA.size a) (b : Fin 2 → ℕ) (hb : ∀ a, b a + SW.size a ≤ SB.size a)
    {src' : Memref sig .tc .hbm SW .f32} {h1 : src'.view.WordExact} {h2 : (bufWin buf b hb).view.WordExact}
    {k : PUnit → Prog (TpuEff nD τ sig Val Λ .tc) α} {W : Waits sig Unit}
    {Q : α → sProp 𝕄} :
    iprop(Cell c src hsrc buf hbuf sm q X Z o ho b hb ∗ owes (c : Thread nD τ) 0 W)
      ⊢ iprop((iprop((src.view.loc (c : Thread nD τ) ↦[src.view.set]{q} hsrc.unread X)
          ∗ (buf.view.loc (c : Thread nD τ) ↦[(bufWin buf b hb).view.set]{fullShare} hbuf.unread Z)
          ∗ semVal ((c : Thread nD τ), SemLoc.dma sm) 0 ∗ ∃ W', owes (c : Thread nD τ) 0 W')
            -∗ wp frame (wpE defs 𝒱 (c : Thread nD τ) bd) Set.univ (k ⟨⟩) Q)
        -∗ wp frame (wpE defs 𝒱 (c : Thread nD τ) bd) Set.univ
          (.op (.waitDma2 sm src' (bufWin buf b hb) h1 h2) k) Q) := by
  have hsplit : _ ⊢ (src.view.loc (c : Thread nD τ) ↦[src.view.set]{q} hsrc.unread X : sProp 𝕄) :=
    (pointsTo_split_subset (View.set_slice_subset src.view (Rect.unit (s := SA) o SW.size ho))).2
  unfold Cell
  iintro ⟨⟨HF, Hrest⟩, HO⟩ Hk
  iapply (Transfers.wp_waitLocal countersEmb 𝒱 (c : Thread nD τ) bd () (N := amt buf) rfl
    (srcw := src') (dstw := bufWin buf b hb)) $$ [HF HO]
  · isplitl [HF]; · iexact HF
    iexact HO
  iintro ⟨⟨Hb, Hw⟩, Hv, HO⟩
  iapply Hk
  isplitl [Hw Hrest]
  · iapply hsplit
    isplitl [Hw]; · iexact Hw
    iexact Hrest
  isplitl [Hb]; · iexact Hb
  isplitl [Hv]; · iexact Hv
  iexists _; iexact HO

end Cell

/-! ## The whole slot -/

/-- The four windows of 64 rows of a buffer of 256. -/
theorem bwin (s : ℕ) (hs : s < 4) : ∀ a, (![64 * s, 0] : Fin 2 → ℕ) a + SW.size a ≤ SB.size a := by
  intro a; fin_cases a
  · show 64 * s + 64 ≤ 256; omega
  · show 0 + 4096 ≤ 4096; omega

theorem semIn (s : ℕ) (hs : s < 4) : ∀ a, (![s] : Fin 1 → ℕ) a + S1.size a ≤ S4.size a := by
  intro a; fin_cases a; show s + 1 ≤ 4; omega

theorem lt0 : 0 < 4 := by decide
theorem lt1 : 1 < 4 := by decide
theorem lt2 : 2 < 4 := by decide
theorem lt3 : 3 < 4 := by decide

/-- The elements of a buffer's window, as elements of the buffer. -/
def winSet (buf : Memref sig .tc .vmem SB .f32) (s : ℕ) (hs : s < 4) : Finset buf.view.ty.Idx :=
  (bufWin buf ![64 * s, 0] (bwin s hs)).view.set

/-- Semaphore `s` of an array of four. -/
abbrev semAt (hq : S1.Squeezes S0) (sems : DmaSems sig S4) (s : ℕ) (hs : s < 4) : DmaSem sig :=
  ((sems.slice (Rect.unit (s := S4) ![s] S1.size (semIn s hs))).squeeze S0 hq).sem

/-- Row `n` and the 255 after it (modulo the 4096 rows), as a buffer. -/
def rowBlk {e : EltTy} (X : SA.Idx → Val e) (n : ℕ) : SB.Idx → Val e := fun y =>
  X (ValueIdx.ix2 ⟨(n + (y 0 : ℕ)) % 4096, Nat.mod_lt _ (by decide)⟩ (y 1))

theorem swin (n s : ℕ) (hn : n + 256 ≤ 4096) (hs : s < 4) : ∀ a, (![n + 64 * s, 0] : Fin 2 → ℕ) a + SW.size a ≤ SA.size a := by
  intro a; fin_cases a
  · show n + 64 * s + 64 ≤ 4096; omega
  · show 0 + 4096 ≤ 4096; omega

theorem rowBlk_win {e : EltTy} (X : SA.Idx → Val e) (n s : ℕ) (hn : n + 256 ≤ 4096) (hs : s < 4) (j : SW.Idx) :
    rowBlk X n ((Rect.unit (s := SB) ![64 * s, 0] SW.size (bwin s hs)).emb j)
      = X ((Rect.unit (s := SA) ![n + 64 * s, 0] SW.size (swin n s hn hs)).emb j) := by
  unfold rowBlk
  congr 1
  have h0 : (j 0 : ℕ) < 64 := (j 0).isLt
  rw [ValueIdx.eq_ix2 ((Rect.unit (s := SA) ![n + 64 * s, 0] SW.size (swin n s hn hs)).emb j)]
  congr 1
  apply Fin.ext
  show (n + (64 * s + 1 * (j 0 : ℕ))) % 4096 = n + 64 * s + 1 * (j 0 : ℕ)
  rw [Nat.mod_eq_of_lt (by omega)]; omega

/-- A quarter of a share. -/
def quarter (q : PosShare TreeShare) (s : ℕ) : PosShare TreeShare :=
  match s with
  | 0 => q.left.left
  | 1 => q.left.right
  | 2 => q.right.left
  | _ => q.right.right

theorem pointsTo_quarters {ℓ : Loc nD τ sig} {S : Finset (Idx ℓ)} {f : Buf Val ℓ} (q : PosShare TreeShare) :
    (ℓ ↦[S]{q} f : sProp 𝕄) ⊣⊢ iprop((ℓ ↦[S]{quarter q 0} f) ∗ (ℓ ↦[S]{quarter q 1} f) ∗ (ℓ ↦[S]{quarter q 2} f) ∗ (ℓ ↦[S]{quarter q 3} f)) := by
  have h : (ℓ ↦[S]{q} f : sProp 𝕄) ⊣⊢ _ := pointsTo_share (PosShare.mem_left_op_right q)
  have hl : (ℓ ↦[S]{q.left} f : sProp 𝕄) ⊣⊢ _ := pointsTo_share (PosShare.mem_left_op_right q.left)
  have hr : (ℓ ↦[S]{q.right} f : sProp 𝕄) ⊣⊢ _ := pointsTo_share (PosShare.mem_left_op_right q.right)
  constructor
  · iintro H
    ihave H2 := h.1 $$ H
    icases H2 with ⟨Hl, Hr⟩
    ihave H3 := hl.1 $$ Hl
    ihave H4 := hr.1 $$ Hr
    icases H3 with ⟨A, B⟩
    icases H4 with ⟨C, D⟩
    isplitl [A]; · iexact A
    isplitl [B]; · iexact B
    isplitl [C]; · iexact C
    iexact D
  · iintro ⟨A, B, C, D⟩
    iapply h.2
    isplitl [A B]
    · iapply hl.2
      isplitl [A]; · iexact A
      iexact B
    · iapply hr.2
      isplitl [C]; · iexact C
      iexact D

theorem mem_bufWin (buf : Memref sig .tc .vmem SB .f32) (s : ℕ) (hs : s < 4) (y : SB.Idx) :
    buf.view.emb y ∈ winSet buf s hs ↔ 64 * s ≤ (y 0 : ℕ) ∧ (y 0 : ℕ) < 64 * s + 64 := by
  have e : winSet buf s hs = (Rect.unit (s := SB) ![64 * s, 0] SW.size (bwin s hs)).set.map buf.view.emb :=
    View.set_slice buf.view _
  rw [e, Finset.mem_map', Rect.mem_set_unit]
  constructor
  · intro h; exact h 0
  · intro h a
    fin_cases a
    · exact h
    · refine ⟨Nat.zero_le _, ?_⟩
      show (y 1 : ℕ) < 0 + 4096
      have := (y 1).isLt
      have h2 : (y 1 : ℕ) < 4096 := this
      omega

/-- A buffer is its four windows. -/
theorem buf_split (c : Dev nD) (buf : Memref sig .tc .vmem SB .f32) (f : Buf Val (buf.view.loc (c : Thread nD τ))) :
    (buf.view.loc (c : Thread nD τ) ↦[buf.view.set]{fullShare} f : sProp 𝕄)
      ⊣⊢ iprop((buf.view.loc (c : Thread nD τ) ↦[winSet buf 0 lt0]{fullShare} f)
        ∗ (buf.view.loc (c : Thread nD τ) ↦[winSet buf 1 lt1]{fullShare} f)
        ∗ (buf.view.loc (c : Thread nD τ) ↦[winSet buf 2 lt2]{fullShare} f)
        ∗ (buf.view.loc (c : Thread nD τ) ↦[winSet buf 3 lt3]{fullShare} f)) := by
  have hin : ∀ s hs x, x ∈ winSet buf s hs → ∃ y, buf.view.emb y = x := fun s hs x hx => by
    obtain ⟨j, -, rfl⟩ := Finset.mem_map.mp hx; exact ⟨_, rfl⟩
  have hu : buf.view.set = winSet buf 0 lt0
      ∪ (winSet buf 1 lt1
      ∪ (winSet buf 2 lt2
      ∪ winSet buf 3 lt3)) := by
    ext x
    constructor
    · intro hx
      obtain ⟨y, -, rfl⟩ := Finset.mem_map.mp hx
      have key : ∀ z : ℕ, z < 256 → (64 * 0 ≤ z ∧ z < 64 * 0 + 64) ∨ (64 * 1 ≤ z ∧ z < 64 * 1 + 64)
          ∨ (64 * 2 ≤ z ∧ z < 64 * 2 + 64) ∨ (64 * 3 ≤ z ∧ z < 64 * 3 + 64) := by intro z hz; omega
      simp only [Finset.mem_union]
      rcases key _ (y 0).isLt with h | h | h | h
      · exact .inl ((mem_bufWin buf 0 lt0 y).2 h)
      · exact .inr (.inl ((mem_bufWin buf 1 lt1 y).2 h))
      · exact .inr (.inr (.inl ((mem_bufWin buf 2 lt2 y).2 h)))
      · exact .inr (.inr (.inr ((mem_bufWin buf 3 lt3 y).2 h)))
    · intro hx
      have : ∃ y, buf.view.emb y = x := by
        simp only [Finset.mem_union] at hx
        rcases hx with h | h | h | h <;> exact hin _ _ _ h
      obtain ⟨y, rfl⟩ := this
      exact Finset.mem_map_of_mem _ (Finset.mem_univ y)
  have hd : ∀ s hs s' hs', s < s' → Disjoint (winSet buf s hs) (winSet buf s' hs') := by
    intro s hs s' hs' hlt
    rw [Finset.disjoint_left]
    intro x hx hx'
    obtain ⟨y, rfl⟩ := hin _ _ _ hx
    rw [mem_bufWin] at hx hx'
    omega
  rw [hu]
  have h3 := pointsTo_union (Ix := Unit) (Val := Val) (Name := ℕ) (U := Pipeline.UD sig nD τ) (Lvl := ℕ)
    (ℓ := buf.view.loc (c : Thread nD τ)) (q := fullShare) (f := f) (hd 2 lt2 3 lt3 (by decide))
  have h2 := pointsTo_union (Ix := Unit) (Val := Val) (Name := ℕ) (U := Pipeline.UD sig nD τ) (Lvl := ℕ)
    (ℓ := buf.view.loc (c : Thread nD τ)) (q := fullShare) (f := f) (Finset.disjoint_union_right.mpr
    ⟨hd 1 lt1 2 lt2 (by decide), hd 1 lt1 3 lt3 (by decide)⟩)
  have h1 := pointsTo_union (Ix := Unit) (Val := Val) (Name := ℕ) (U := Pipeline.UD sig nD τ) (Lvl := ℕ)
    (ℓ := buf.view.loc (c : Thread nD τ)) (q := fullShare) (f := f) (Finset.disjoint_union_right.mpr
    ⟨hd 0 lt0 1 lt1 (by decide), Finset.disjoint_union_right.mpr
      ⟨hd 0 lt0 2 lt2 (by decide), hd 0 lt0 3 lt3 (by decide)⟩⟩)
  constructor
  · exact h1.1.trans (sep_mono_right (h2.1.trans (sep_mono_right h3.1)))
  · exact (sep_mono_right ((sep_mono_right h3.2).trans h2.2)).trans h1.2

section Slot

variable {Λ : Labels} {defs : Defs nD τ sig Val Λ} (𝒱 : Variants) (c : Dev nD) (bd : Option 𝒱.V)
variable {α : Type}
variable (src : Memref sig .tc .hbm SA .f32) (hsrc : src.IsWhole) (buf : Memref sig .tc .vmem SB .f32) (hbuf : buf.IsWhole)
variable (hq : S1.Squeezes S0) (sems : DmaSems sig S4)

/-- Starting the transfer of window `s`, from the matrix's window at `o`. -/
abbrev issue1 (s : ℕ) (hs : s < 4) (o : Fin 2 → ℕ) (ho : ∀ a, o a + SW.size a ≤ SA.size a)
    (k : PUnit → Prog (TpuEff nD τ sig Val Λ .tc) PUnit) : Prog (TpuEff nD τ sig Val Λ .tc) PUnit :=
  .op (.enqueueDma (srcWin src o ho) (.here (bufWin buf ![64 * s, 0] (bwin s hs))) (.dma (semAt hq sems s hs))
    (View.wordExact_bits rfl) (View.wordExact_bits rfl) ⟨Or.inl rfl, trivial⟩) k

/-- Waiting for the transfer of window `s`. -/
abbrev wait1 (s : ℕ) (hs : s < 4) (o : Fin 2 → ℕ) (ho : ∀ a, o a + SW.size a ≤ SA.size a)
    (k : PUnit → Prog (TpuEff nD τ sig Val Λ .tc) PUnit) : Prog (TpuEff nD τ sig Val Λ .tc) PUnit :=
  .op (.waitDma2 (semAt hq sems s hs) (srcWin src o ho) (bufWin buf ![64 * s, 0] (bwin s hs))
    (View.wordExact_bits rfl) (View.wordExact_bits rfl)) k

/-- Starting the four transfers of the slot. -/
def issueSlot (o : Fin 4 → Fin 2 → ℕ) (ho : ∀ s a, o s a + SW.size a ≤ SA.size a) : Prog (TpuEff nD τ sig Val Λ .tc) PUnit :=
  issue1 src buf hq sems 0 lt0 (o 0) (ho 0) fun _ => issue1 src buf hq sems 1 lt1 (o 1) (ho 1) fun _ =>
  issue1 src buf hq sems 2 lt2 (o 2) (ho 2) fun _ => issue1 src buf hq sems 3 lt3 (o 3) (ho 3) fun _ => .ret ⟨⟩

/-- Waiting for the four transfers of the slot. -/
def waitSlot (o : Fin 4 → Fin 2 → ℕ) (ho : ∀ s a, o s a + SW.size a ≤ SA.size a) : Prog (TpuEff nD τ sig Val Λ .tc) PUnit :=
  wait1 src buf hq sems 0 lt0 (o 0) (ho 0) fun _ => wait1 src buf hq sems 1 lt1 (o 1) (ho 1) fun _ =>
  wait1 src buf hq sems 2 lt2 (o 2) (ho 2) fun _ => wait1 src buf hq sems 3 lt3 (o 3) (ho 3) fun _ => .ret ⟨⟩

/-- The slot's four semaphores at rest. -/
def Sems : sProp 𝕄 :=
  iprop(semVal ((c : Thread nD τ), SemLoc.dma (semAt hq sems 0 lt0)) 0
    ∗ semVal ((c : Thread nD τ), SemLoc.dma (semAt hq sems 1 lt1)) 0
    ∗ semVal ((c : Thread nD τ), SemLoc.dma (semAt hq sems 2 lt2)) 0
    ∗ semVal ((c : Thread nD τ), SemLoc.dma (semAt hq sems 3 lt3)) 0)

/-- The slot in flight: its four transfers bring the 256 rows of `X` from row `n`. -/
def Busy (q : PosShare TreeShare) (X : SA.Idx → Val .f32) (n : ℕ) (hn : n + 256 ≤ 4096) : sProp 𝕄 :=
  iprop(Cell c src hsrc buf hbuf (semAt hq sems 0 lt0) (quarter q 0) X (rowBlk X n) ![n + 64 * 0, 0] (swin n 0 hn lt0) ![64 * 0, 0] (bwin 0 lt0)
    ∗ Cell c src hsrc buf hbuf (semAt hq sems 1 lt1) (quarter q 1) X (rowBlk X n) ![n + 64 * 1, 0] (swin n 1 hn lt1) ![64 * 1, 0] (bwin 1 lt1)
    ∗ Cell c src hsrc buf hbuf (semAt hq sems 2 lt2) (quarter q 2) X (rowBlk X n) ![n + 64 * 2, 0] (swin n 2 hn lt2) ![64 * 2, 0] (bwin 2 lt2)
    ∗ Cell c src hsrc buf hbuf (semAt hq sems 3 lt3) (quarter q 3) X (rowBlk X n) ![n + 64 * 3, 0] (swin n 3 hn lt3) ![64 * 3, 0] (bwin 3 lt3))

/-- Starting the slot: the buffer and the semaphores at rest, and a share of the matrix, become the slot in flight. -/
theorem wp_issueSlot (hpos : 0 < amt buf) (q : PosShare TreeShare) (X : SA.Idx → Val .f32) (Y : SB.Idx → Val .f32)
    (n : ℕ) (hn : n + 256 ≤ 4096) (o : Fin 4 → Fin 2 → ℕ) (ho : ∀ s a, o s a + SW.size a ≤ SA.size a)
    (ho' : ∀ s : Fin 4, o s = ![n + 64 * (s : ℕ), 0]) {Q : PUnit → sProp 𝕄} :
    iprop(owns (c : Thread nD τ) buf fullShare Y ∗ Sems c hq sems ∗ owns (c : Thread nD τ) src q X)
      ⊢ iprop((Busy c src hsrc buf hbuf hq sems q X n hn -∗ Q ⟨⟩)
        -∗ wp frame (wpE defs 𝒱 (c : Thread nD τ) bd) Set.univ (issueSlot (Λ := Λ) src buf hq sems o ho) Q) := by
  obtain rfl : o = fun s : Fin 4 => ![n + 64 * (s : ℕ), 0] := funext ho'
  unfold owns Sems Busy issueSlot
  iintro ⟨⟨%fb, %hfb, Hb⟩, ⟨S0, S1, S2, S3⟩, ⟨%fs, %hfs, Hs⟩⟩ Hk
  obtain rfl := hbuf.eq_unread hfb
  obtain rfl := hsrc.eq_unread hfs
  ihave Hb4 := (buf_split c buf (hbuf.unread Y)).1 $$ Hb
  icases Hb4 with ⟨B0, B1, B2, B3⟩
  ihave Hs4 := (pointsTo_quarters q).1 $$ Hs
  icases Hs4 with ⟨A0, A1, A2, A3⟩
  iapply (wp_issue 𝒱 c bd src hsrc buf hbuf hpos _ (quarter q 0) X Y (rowBlk X n) ![n + 64 * 0, 0] (swin n 0 hn lt0) ![64 * 0, 0] (bwin 0 lt0)
    (rowBlk_win X n 0 hn lt0)) $$ [A0 B0 S0]
  · isplitl [A0]; · iexact A0
    isplitl [B0]; · iexact B0
    iexact S0
  iintro C0
  iapply (wp_issue 𝒱 c bd src hsrc buf hbuf hpos _ (quarter q 1) X Y (rowBlk X n) ![n + 64 * 1, 0] (swin n 1 hn lt1) ![64 * 1, 0] (bwin 1 lt1)
    (rowBlk_win X n 1 hn lt1)) $$ [A1 B1 S1]
  · isplitl [A1]; · iexact A1
    isplitl [B1]; · iexact B1
    iexact S1
  iintro C1
  iapply (wp_issue 𝒱 c bd src hsrc buf hbuf hpos _ (quarter q 2) X Y (rowBlk X n) ![n + 64 * 2, 0] (swin n 2 hn lt2) ![64 * 2, 0] (bwin 2 lt2)
    (rowBlk_win X n 2 hn lt2)) $$ [A2 B2 S2]
  · isplitl [A2]; · iexact A2
    isplitl [B2]; · iexact B2
    iexact S2
  iintro C2
  iapply (wp_issue 𝒱 c bd src hsrc buf hbuf hpos _ (quarter q 3) X Y (rowBlk X n) ![n + 64 * 3, 0] (swin n 3 hn lt3) ![64 * 3, 0] (bwin 3 lt3)
    (rowBlk_win X n 3 hn lt3)) $$ [A3 B3 S3]
  · isplitl [A3]; · iexact A3
    isplitl [B3]; · iexact B3
    iexact S3
  iintro C3
  rw [wp_ret]
  imodintro
  iapply Hk
  isplitl [C0]; · iexact C0
  isplitl [C1]; · iexact C1
  isplitl [C2]; · iexact C2
  iexact C3

/-- Waiting for the slot: the buffer comes back holding the 256 rows, with the semaphores at rest and the share of the
    matrix. -/
theorem wp_waitSlot (q : PosShare TreeShare) (X : SA.Idx → Val .f32) (n : ℕ) (hn : n + 256 ≤ 4096)
    (src' : Memref sig .tc .hbm SA .f32) (o : Fin 4 → Fin 2 → ℕ) (ho : ∀ s a, o s a + SW.size a ≤ SA.size a)
    {Q : PUnit → sProp 𝕄} :
    iprop(Busy c src hsrc buf hbuf hq sems q X n hn ∗ ∃ W, owes (c : Thread nD τ) 0 W)
      ⊢ iprop((iprop(owns (c : Thread nD τ) buf fullShare (rowBlk X n) ∗ Sems c hq sems ∗ owns (c : Thread nD τ) src q X
          ∗ ∃ W', owes (c : Thread nD τ) 0 W') -∗ Q ⟨⟩)
        -∗ wp frame (wpE defs 𝒱 (c : Thread nD τ) bd) Set.univ (waitSlot (Λ := Λ) src' buf hq sems o ho) Q) := by
  unfold owns Sems Busy waitSlot
  iintro ⟨⟨C0, C1, C2, C3⟩, ⟨%W0, HO⟩⟩ Hk
  iapply (wp_wait 𝒱 c bd src hsrc buf hbuf) $$ [C0 HO]
  · isplitl [C0]; · iexact C0
    iexact HO
  iintro ⟨A0, B0, S0, ⟨%W1, HO⟩⟩
  iapply (wp_wait 𝒱 c bd src hsrc buf hbuf) $$ [C1 HO]
  · isplitl [C1]; · iexact C1
    iexact HO
  iintro ⟨A1, B1, S1, ⟨%W2, HO⟩⟩
  iapply (wp_wait 𝒱 c bd src hsrc buf hbuf) $$ [C2 HO]
  · isplitl [C2]; · iexact C2
    iexact HO
  iintro ⟨A2, B2, S2, ⟨%W3, HO⟩⟩
  iapply (wp_wait 𝒱 c bd src hsrc buf hbuf) $$ [C3 HO]
  · isplitl [C3]; · iexact C3
    iexact HO
  iintro ⟨A3, B3, S3, ⟨%W4, HO⟩⟩
  rw [wp_ret]
  imodintro
  iapply Hk
  isplitl [B0 B1 B2 B3]
  · iexists (hbuf.unread (rowBlk X n))
    isplitr
    · ipureintro; exact hbuf.read_unread _
    iapply (buf_split c buf (hbuf.unread (rowBlk X n))).2
    isplitl [B0]; · iexact B0
    isplitl [B1]; · iexact B1
    isplitl [B2]; · iexact B2
    iexact B3
  isplitl [S0 S1 S2 S3]
  · isplitl [S0]; · iexact S0
    isplitl [S1]; · iexact S1
    isplitl [S2]; · iexact S2
    iexact S3
  isplitl [A0 A1 A2 A3]
  · iexists (hsrc.unread X)
    isplitr
    · ipureintro; exact hsrc.read_unread _
    iapply (pointsTo_quarters q).2
    isplitl [A0]; · iexact A0
    isplitl [A1]; · iexact A1
    isplitl [A2]; · iexact A2
    iexact A3
  iexists W4; iexact HO

end Slot

/-- A whole buffer's share is its four quarters. -/
theorem owns_quarters {sp : Space} {s : Shape} {e : EltTy} (c : Dev nD) {M : Memref sig .tc sp s e} (hM : M.IsWhole) (q : PosShare TreeShare)
    (X : s.Idx → Val e) :
    (owns (c : Thread nD τ) M q X : sProp 𝕄)
      ⊣⊢ iprop(owns (c : Thread nD τ) M (quarter q 0) X ∗ owns (c : Thread nD τ) M (quarter q 1) X
        ∗ owns (c : Thread nD τ) M (quarter q 2) X ∗ owns (c : Thread nD τ) M (quarter q 3) X) := by
  have e : ∀ q, (owns (c : Thread nD τ) M q X : sProp 𝕄) ⊣⊢ (M.view.loc (c : Thread nD τ) ↦[M.view.set]{q} hM.unread X) := fun q => by
    unfold owns
    constructor
    · iintro ⟨%f, %hf, H⟩
      obtain rfl := hM.eq_unread hf
      iexact H
    · iintro H
      iexists _; isplitr; swap; · iexact H
      ipureintro; exact hM.read_unread X
  constructor
  · iintro H
    ihave H1 := (e q).1 $$ H
    ihave H2 := (pointsTo_quarters q).1 $$ H1
    icases H2 with ⟨A, B, C, D⟩
    isplitl [A]; · iapply (e _).2; iexact A
    isplitl [B]; · iapply (e _).2; iexact B
    isplitl [C]; · iapply (e _).2; iexact C
    iapply (e _).2; iexact D
  · iintro ⟨A, B, C, D⟩
    iapply (e q).2
    iapply (pointsTo_quarters q).2
    isplitl [A]; · iapply (e _).1; iexact A
    isplitl [B]; · iapply (e _).1; iexact B
    isplitl [C]; · iapply (e _).1; iexact C
    iapply (e _).1; iexact D

/-! ## A slot of the stream: sixteen blocks of the first matrix, then twice the sixteen of the second -/

section Ring

variable {Λ : Labels} {defs : Defs nD τ sig Val Λ} (𝒱 : Variants) (c : Dev nD) (bd : Option 𝒱.V)
variable (m0 : Memref sig .tc .hbm SA .f32) (hm0 : m0.IsWhole) (m1 : Memref sig .tc .hbm SA .f32) (hm1 : m1.IsWhole)
variable (X0 X1 : SA.Idx → Val .f32)
variable (buf : Memref sig .tc .vmem SB .f32) (hbuf : buf.IsWhole)
variable (hq : S1.Squeezes S0) (sems : DmaSems sig S4) (q : PosShare TreeShare)

/-- The slot at rest, its buffer holding `Y`. -/
def Free (Y : SB.Idx → Val .f32) : sProp 𝕄 :=
  iprop(owns (c : Thread nD τ) buf fullShare Y ∗ Sems c hq sems ∗ owns (c : Thread nD τ) m0 q X0 ∗ owns (c : Thread nD τ) m1 q X1)

theorem blk_le (g : ℕ) : 256 * (g % 16) + 256 ≤ 4096 := by
  have := Nat.mod_lt g (show 0 < 16 by decide); omega

/-- The slot with block `g` of the stream on its way, or at rest past the stream's end. -/
def Ready (g : ℕ) : sProp 𝕄 :=
  if g < 16 then iprop(Busy c m0 hm0 buf hbuf hq sems q X0 (256 * (g % 16)) (blk_le g) ∗ owns (c : Thread nD τ) m1 q X1)
  else if g < 48 then iprop(Busy c m1 hm1 buf hbuf hq sems q X1 (256 * (g % 16)) (blk_le g) ∗ owns (c : Thread nD τ) m0 q X0)
  else iprop(∃ Y, Free c m0 m1 X0 X1 buf hq sems q Y)

theorem wait_first (g : ℕ) (hg : g < 16) (src' : Memref sig .tc .hbm SA .f32) (o : Fin 4 → Fin 2 → ℕ)
    (ho : ∀ s a, o s a + SW.size a ≤ SA.size a) {Q : PUnit → sProp 𝕄} :
    iprop(Ready c m0 hm0 m1 hm1 X0 X1 buf hbuf hq sems q g ∗ ∃ W, owes (c : Thread nD τ) 0 W)
      ⊢ iprop((iprop(Free c m0 m1 X0 X1 buf hq sems q (rowBlk X0 (256 * (g % 16))) ∗ ∃ W', owes (c : Thread nD τ) 0 W') -∗ Q ⟨⟩)
        -∗ wp frame (wpE defs 𝒱 (c : Thread nD τ) bd) Set.univ (waitSlot (Λ := Λ) src' buf hq sems o ho) Q) := by
  unfold Ready Free
  rw [if_pos hg]
  iintro ⟨⟨HB, H1⟩, HO⟩ Hk
  iapply (wp_waitSlot 𝒱 c bd m0 hm0 buf hbuf hq sems q X0 (256 * (g % 16)) (blk_le g) src' o ho) $$ [HB HO]
  · isplitl [HB]; · iexact HB
    iexact HO
  iintro ⟨Hb, HS, H0, HO⟩
  iapply Hk
  isplitr [HO]; swap; · iexact HO
  isplitl [Hb]; · iexact Hb
  isplitl [HS]; · iexact HS
  isplitl [H0]; · iexact H0
  iexact H1

theorem wait_second (g : ℕ) (hg : ¬ g < 16) (hg' : g < 48) (src' : Memref sig .tc .hbm SA .f32) (o : Fin 4 → Fin 2 → ℕ)
    (ho : ∀ s a, o s a + SW.size a ≤ SA.size a) {Q : PUnit → sProp 𝕄} :
    iprop(Ready c m0 hm0 m1 hm1 X0 X1 buf hbuf hq sems q g ∗ ∃ W, owes (c : Thread nD τ) 0 W)
      ⊢ iprop((iprop(Free c m0 m1 X0 X1 buf hq sems q (rowBlk X1 (256 * (g % 16))) ∗ ∃ W', owes (c : Thread nD τ) 0 W') -∗ Q ⟨⟩)
        -∗ wp frame (wpE defs 𝒱 (c : Thread nD τ) bd) Set.univ (waitSlot (Λ := Λ) src' buf hq sems o ho) Q) := by
  unfold Ready Free
  rw [if_neg hg, if_pos hg']
  iintro ⟨⟨HB, H0⟩, HO⟩ Hk
  iapply (wp_waitSlot 𝒱 c bd m1 hm1 buf hbuf hq sems q X1 (256 * (g % 16)) (blk_le g) src' o ho) $$ [HB HO]
  · isplitl [HB]; · iexact HB
    iexact HO
  iintro ⟨Hb, HS, H1, HO⟩
  iapply Hk
  isplitr [HO]; swap; · iexact HO
  isplitl [Hb]; · iexact Hb
  isplitl [HS]; · iexact HS
  isplitl [H0]; · iexact H0
  iexact H1

theorem fetch_first (hpos : 0 < amt buf) (g : ℕ) (hg : g < 16) (Y : SB.Idx → Val .f32) (o : Fin 4 → Fin 2 → ℕ)
    (ho : ∀ s a, o s a + SW.size a ≤ SA.size a) (ho' : ∀ s : Fin 4, o s = ![256 * (g % 16) + 64 * (s : ℕ), 0])
    {Q : PUnit → sProp 𝕄} :
    Free c m0 m1 X0 X1 buf hq sems q Y
      ⊢ iprop((Ready c m0 hm0 m1 hm1 X0 X1 buf hbuf hq sems q g -∗ Q ⟨⟩)
        -∗ wp frame (wpE defs 𝒱 (c : Thread nD τ) bd) Set.univ (issueSlot (Λ := Λ) m0 buf hq sems o ho) Q) := by
  unfold Ready Free
  rw [if_pos hg]
  iintro ⟨Hb, HS, H0, H1⟩ Hk
  iapply (wp_issueSlot 𝒱 c bd m0 hm0 buf hbuf hq sems hpos q X0 Y (256 * (g % 16)) (blk_le g) o ho ho') $$ [Hb HS H0]
  · isplitl [Hb]; · iexact Hb
    isplitl [HS]; · iexact HS
    iexact H0
  iintro HB
  iapply Hk
  isplitl [HB]; · iexact HB
  iexact H1

theorem fetch_second (hpos : 0 < amt buf) (g : ℕ) (hg : ¬ g < 16) (hg' : g < 48) (Y : SB.Idx → Val .f32) (o : Fin 4 → Fin 2 → ℕ)
    (ho : ∀ s a, o s a + SW.size a ≤ SA.size a) (ho' : ∀ s : Fin 4, o s = ![256 * (g % 16) + 64 * (s : ℕ), 0])
    {Q : PUnit → sProp 𝕄} :
    Free c m0 m1 X0 X1 buf hq sems q Y
      ⊢ iprop((Ready c m0 hm0 m1 hm1 X0 X1 buf hbuf hq sems q g -∗ Q ⟨⟩)
        -∗ wp frame (wpE defs 𝒱 (c : Thread nD τ) bd) Set.univ (issueSlot (Λ := Λ) m1 buf hq sems o ho) Q) := by
  unfold Ready Free
  rw [if_neg hg, if_pos hg']
  iintro ⟨Hb, HS, H0, H1⟩ Hk
  iapply (wp_issueSlot 𝒱 c bd m1 hm1 buf hbuf hq sems hpos q X1 Y (256 * (g % 16)) (blk_le g) o ho ho') $$ [Hb HS H1]
  · isplitl [Hb]; · iexact Hb
    isplitl [HS]; · iexact HS
    iexact H1
  iintro HB
  iapply Hk
  isplitl [HB]; · iexact HB
  iexact H0

theorem ready_end (g : ℕ) (hg : ¬ g < 48) :
    (Ready c m0 hm0 m1 hm1 X0 X1 buf hbuf hq sems q g : sProp 𝕄) = iprop(∃ Y, Free c m0 m1 X0 X1 buf hq sems q Y) := by
  unfold Ready
  rw [if_neg (by omega), if_neg hg]

end Ring

/-! ## A buffer of 4096 rows written 256 rows at a time -/

/-- The 256 rows from row `n` (modulo 4096) of an array of 4096. -/
def rows {α : Type} {w : ℕ} (U : (⟨2, ![4096, w]⟩ : Shape).Idx → α) (n : ℕ) : (⟨2, ![256, w]⟩ : Shape).Idx → α := fun y =>
  U (ValueIdx.ix2 ⟨(n + (y 0 : ℕ)) % 4096, Nat.mod_lt _ (by decide)⟩ (y 1))

/-- The array whose rows `256 i` to `256 i + 255` are block `i`. -/
def tiled {α : Type} {w : ℕ} (f : ℕ → (⟨2, ![256, w]⟩ : Shape).Idx → α) : (⟨2, ![4096, w]⟩ : Shape).Idx → α := fun y =>
  f ((y 0 : ℕ) / 256) (ValueIdx.ix2 ⟨(y 0 : ℕ) % 256, Nat.mod_lt _ (by decide)⟩ (y 1))

theorem rows_tiled {α : Type} {w : ℕ} (f : ℕ → (⟨2, ![256, w]⟩ : Shape).Idx → α) (i : ℕ) (hi : i < 16) :
    rows (tiled f) (256 * i) = f i := by
  funext y
  have hy : ((y 0 : Fin 256) : ℕ) < 256 := (y 0).isLt
  have e : (256 * i + ((y 0 : Fin 256) : ℕ)) % 4096 = 256 * i + ((y 0 : Fin 256) : ℕ) := Nat.mod_eq_of_lt (by omega)
  unfold rows tiled
  have e1 : (256 * i + ((y 0 : Fin 256) : ℕ)) % 4096 / 256 = i := by rw [e]; omega
  have e2 : (256 * i + ((y 0 : Fin 256) : ℕ)) % 4096 % 256 = ((y 0 : Fin 256) : ℕ) := by rw [e]; omega
  show f ((256 * i + ((y 0 : Fin 256) : ℕ)) % 4096 / 256) (ValueIdx.ix2 ⟨(256 * i + ((y 0 : Fin 256) : ℕ)) % 4096 % 256, _⟩ (y 1)) = f i y
  rw [e1]
  congr 1
  rw [ValueIdx.eq_ix2 y]
  congr 1
  exact Fin.ext e2

section Part

variable {w : ℕ} {e : EltTy}

/-- The window of 256 rows from row `256 i`, at an index. -/
theorem win_idx (off : Fin 2 → ℕ) (inb : ∀ a, off a + (⟨2, ![256, w]⟩ : Shape).size a ≤ (⟨2, ![4096, w]⟩ : Shape).size a) (i : ℕ) (hi : i < 16)
    (hoff : off = ![256 * i, 0]) (j : (⟨2, ![256, w]⟩ : Shape).Idx) :
    (Rect.unit (s := ⟨2, ![4096, w]⟩) off (⟨2, ![256, w]⟩ : Shape).size inb).emb j
      = ValueIdx.ix2 ⟨(256 * i + ((j 0 : Fin 256) : ℕ)) % 4096, Nat.mod_lt _ (by decide)⟩ (j 1) := by
  subst hoff
  have hy : ((j 0 : Fin 256) : ℕ) < 256 := (j 0).isLt
  rw [ValueIdx.eq_ix2 ((Rect.unit (s := ⟨2, ![4096, w]⟩) ![256 * i, 0] (⟨2, ![256, w]⟩ : Shape).size inb).emb j)]
  congr 1
  · apply Fin.ext
    show 256 * i + 1 * ((j 0 : Fin 256) : ℕ) = (256 * i + ((j 0 : Fin 256) : ℕ)) % 4096
    rw [Nat.mod_eq_of_lt (by omega)]; omega
  · apply Fin.ext
    show 0 + 1 * ((j 1 : Fin w) : ℕ) = ((j 1 : Fin w) : ℕ)
    omega

/-- `Y` agrees with `U` on the first `256 i` rows. -/
def Upto (Y U : (⟨2, ![4096, w]⟩ : Shape).Idx → Val e) (i : ℕ) : Prop :=
  ∀ y, ((y 0 : Fin 4096) : ℕ) < 256 * i → Y y = U y

theorem upto_zero (Y U : (⟨2, ![4096, w]⟩ : Shape).Idx → Val e) : Upto Y U 0 := fun y hy => absurd hy (by omega)

theorem upto_full {Y U : (⟨2, ![4096, w]⟩ : Shape).Idx → Val e} (h : Upto Y U 16) : Y = U :=
  funext fun y => h y (show ((y 0 : Fin 4096) : ℕ) < 4096 from (y 0 : Fin 4096).isLt)

theorem upto_store {Y : (⟨2, ![4096, w]⟩ : Shape).Idx → Val e} {f : ℕ → (⟨2, ![256, w]⟩ : Shape).Idx → Val e} {i : ℕ} (hi : i < 16)
    (h : Upto Y (tiled f) i) (off : Fin 2 → ℕ) (inb : ∀ a, off a + (⟨2, ![256, w]⟩ : Shape).size a ≤ (⟨2, ![4096, w]⟩ : Shape).size a)
    (hoff : off = ![256 * i, 0]) :
    Upto (upd (Rect.unit (s := ⟨2, ![4096, w]⟩) off (⟨2, ![256, w]⟩ : Shape).size inb) (f i) Y) (tiled f) (i + 1) := by
  intro y hy
  by_cases hlt : ((y 0 : Fin 4096) : ℕ) < 256 * i
  · rw [upd_of_not, h y hlt]
    rintro ⟨j, rfl⟩
    rw [win_idx off inb i hi hoff] at hlt
    have hj : ((j 0 : Fin 256) : ℕ) < 256 := (j 0).isLt
    have hlt' : (256 * i + ((j 0 : Fin 256) : ℕ)) % 4096 < 256 * i := hlt
    rw [Nat.mod_eq_of_lt (by omega)] at hlt'
    omega
  · obtain ⟨j, rfl⟩ : ∃ j, (Rect.unit (s := ⟨2, ![4096, w]⟩) off (⟨2, ![256, w]⟩ : Shape).size inb).emb j = y := by
      refine ⟨ValueIdx.ix2 ⟨((y 0 : Fin 4096) : ℕ) - 256 * i, by omega⟩ (y 1), ?_⟩
      rw [win_idx off inb i hi hoff]
      refine Eq.trans ?_ (ValueIdx.eq_ix2 y).symm
      congr 1
      apply Fin.ext
      show (256 * i + (((y 0 : Fin 4096) : ℕ) - 256 * i)) % 4096 = ((y 0 : Fin 4096) : ℕ)
      have h4 : ((y 0 : Fin 4096) : ℕ) < 4096 := (y 0 : Fin 4096).isLt
      generalize ((y 0 : Fin 4096) : ℕ) = z at hlt h4
      rw [Nat.mod_eq_of_lt] <;> omega
    rw [upd_emb, win_idx off inb i hi hoff]
    exact (congrFun (rows_tiled f i hi) j).symm

theorem upto_load {Y U : (⟨2, ![4096, w]⟩ : Shape).Idx → Val e} {i i' : ℕ} (hi : i < 16) (hi' : i < i')
    (h : Upto Y U i') (off : Fin 2 → ℕ) (inb : ∀ a, off a + (⟨2, ![256, w]⟩ : Shape).size a ≤ (⟨2, ![4096, w]⟩ : Shape).size a)
    (hoff : off = ![256 * i, 0]) :
    (fun j => Y ((Rect.unit (s := ⟨2, ![4096, w]⟩) off (⟨2, ![256, w]⟩ : Shape).size inb).toLoadRect.idx j)) = rows U (256 * i) := by
  funext j
  have e := win_idx off inb i hi hoff j
  show Y ((Rect.unit (s := ⟨2, ![4096, w]⟩) off (⟨2, ![256, w]⟩ : Shape).size inb).emb j) = _
  rw [e]
  refine h _ ?_
  show (256 * i + ((j 0 : Fin 256) : ℕ)) % 4096 < 256 * i'
  have hj : ((j 0 : Fin 256) : ℕ) < 256 := (j 0).isLt
  rw [Nat.mod_eq_of_lt (by omega)]; omega

/-- A buffer held with its first `256 i` rows at `U`. -/
def Held (c : Dev nD) (M : Memref sig .tc .vmem ⟨2, ![4096, w]⟩ e) (U : (⟨2, ![4096, w]⟩ : Shape).Idx → Val e) (i : ℕ) : sProp 𝕄 :=
  iprop(∃ Y, ⌜Upto Y U i⌝ ∗ owns (c : Thread nD τ) M fullShare Y)

end Part

/-- A load of all of an array reads it. -/
theorem load_all {s : Shape} {e : EltTy} (X : s.Idx → Val e) (off : Fin s.rank → ℕ) (inb : ∀ a, off a + s.size a ≤ s.size a) :
    (fun j => X ((Rect.unit (s := s) off s.size inb).toLoadRect.idx j)) = X := by
  funext j
  congr 1
  funext a
  apply Fin.ext
  show off a + 1 * (j a : ℕ) = (j a : ℕ)
  have := inb a
  omega

end Cert.Proof.Slot

end
-- ==== Proof.Trips.lean ====
/-
  Hand-written, untrusted. One trip of each of the kernel's three loops, read as four SEGMENTS (one per slot of the ring:
  wait for the slot, use the 256 rows it brought, start the slot's next fetch). Nothing is run here: each theorem says
  the trip IS those four segments, in the two cases the loop has (a next fetch from the same matrix; at the last trip,
  from the other one, or none).
-/
module

public import proofs.«01_k».proof.Proof.Gen.KernelIdeal.Skeleton
public import proofs.«01_k».proof.Proof.Slot

@[expose] public section

noncomputable section

namespace Cert.KernelIdeal.Trips

open Idealize.ShloMosaic Idealize.SL.Sem
open Cert.KernelIdeal.Gen
open Cert.Proof.Slot (waitSlot issueSlot)

variable {F : FTy → Type} [FloatOps F]
variable (arg0 : Memref sig .tc .hbm S4096x4096 .f32) (harg0 : arg0.IsWhole) (arg1 : Memref sig .tc .hbm S4096x4096 .f32) (harg1 : arg1.IsWhole) (arg2 : Memref sig .tc .vmem S4096x8 .f32) (harg2 : arg2.IsWhole) (arg3 : Memref sig .tc .vmem S8x1 .f32) (harg3 : arg3.IsWhole) (arg4 : Memref sig .tc .vmem S1x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x3 .f32) (harg9 : arg9.IsWhole) (arg10 : Memref sig .tc .vmem S64x3 .f32) (harg10 : arg10.IsWhole) (arg11 : Memref sig .tc .vmem S64x4096 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x4096 .f32) (harg15 : arg15.IsWhole) (arg16 : Memref sig .tc .vmem S1x4096 .f32) (harg16 : arg16.IsWhole) (arg17 : Memref sig .tc .vmem S8x4096 .f32) (harg17 : arg17.IsWhole) (arg18 : Memref sig .tc .vmem S4096x4096 .bf16) (harg18 : arg18.IsWhole) (arg19 : Memref sig .tc .vmem S256x4096 .f32) (harg19 : arg19.IsWhole) (arg20 : Memref sig .tc .vmem S256x4096 .f32) (harg20 : arg20.IsWhole) (arg21 : Memref sig .tc .vmem S256x4096 .f32) (harg21 : arg21.IsWhole) (arg22 : Memref sig .tc .vmem S256x4096 .f32) (harg22 : arg22.IsWhole) (arg23 : Memref sig .tc .vmem S4096x8 .bf16) (harg23 : arg23.IsWhole) (arg24 : Memref sig .tc .vmem S4096x8 .bf16) (harg24 : arg24.IsWhole) (arg25 : Memref sig .tc .vmem S4096x8 .bf16) (harg25 : arg25.IsWhole) (arg26 : Memref sig .tc .vmem S4096x8 .f32) (harg26 : arg26.IsWhole) (arg27 : Memref sig .tc .vmem S4096x8 .f32) (harg27 : arg27.IsWhole) (arg28 : DmaSems sig S4) (arg29 : DmaSems sig S4) (arg30 : DmaSems sig S4) (arg31 : DmaSems sig S4)

/-- A load of a whole buffer of 256 rows, and of a whole vector of 4096 rows. -/
abbrev rAll : Rect S256x4096 := Rect.unit (s := S256x4096) ![0, 0] S256x4096.size inb_S256x4096_S256x4096_0_0
abbrev rVec : Rect S4096x8 := Rect.unit (s := S4096x8) ![0, 0] S4096x8.size inb_S4096x8_S4096x8_0_0

/-- The rows a segment of loop 1 stores to: of the product `u`, of the stash. -/
abbrev r2 (k : Fin k0_t1_loop.trips) (j : Fin 4) : Rect S4096x8 :=
  Rect.unit (s := S4096x8) (k0_off2 k (BitVec.ofNat 32 j.val)) S256x8.size (k0_off2_inb k j)
abbrev r3 (k : Fin k0_t1_loop.trips) (j : Fin 4) : Rect S4096x4096 :=
  Rect.unit (s := S4096x4096) (k0_off3 k (BitVec.ofNat 32 j.val)) S256x4096.size (k0_off3_inb k j)
/-- The rows a segment of loop 2 reads and stores to. -/
abbrev r13 (k : Fin k0_t2_loop.trips) (j : Fin 4) : Rect S4096x8 :=
  Rect.unit (s := S4096x8) (k0_off13 k (BitVec.ofNat 32 j.val)) S256x8.size (k0_off13_inb k j)
/-- The rows a segment of loop 3 reads and stores to: of the stash, of the vectors. -/
abbrev r23 (k : Fin k0_t3_loop.trips) (j : Fin 4) : Rect S4096x4096 :=
  Rect.unit (s := S4096x4096) (k0_off23 k (BitVec.ofNat 32 j.val)) S256x4096.size (k0_off23_inb k j)
abbrev r24 (k : Fin k0_t3_loop.trips) (j : Fin 4) : Rect S4096x8 :=
  Rect.unit (s := S4096x8) (k0_off24 k (BitVec.ofNat 32 j.val)) S256x8.size (k0_off24_inb k j)

/-- Loop 1's use of the rows in `buf`: the product into its rows of `arg23`, the rows themselves into the stash `arg18`. -/
def use1 (buf : Memref sig .tc .vmem S256x4096 .f32) (v142 : FVec F S4096x8 .f32) (k : Fin k0_t1_loop.trips) (j : Fin 4) :
    Prog (TpuEff nD τ sig (Elt F) Λ₀ .tc) PUnit :=
  .op (.load buf rAll.toLoadRect (View.loadsAt_vmem h_S256x4096)) fun v200 =>
  .op (.load arg23 (r2 k j).toLoadRect (View.loadsAt_vmem h_S256x8)) fun _ =>
  .op (.store arg23 (r2 k j) (k0_pay2 v142 v200) Finset.univ
    (View.stores_vmem h_S256x8 (harg23.storeExact_slice rfl _ (k0_off2_packedbf16 k j)) (fun _ => rfl)) (.inl rfl)) fun _ =>
  .op (.load arg18 (r3 k j).toLoadRect (View.loadsAt_vmem h_S256x4096)) fun _ =>
  .op (.store arg18 (r3 k j) (k0_pay3 v200) Finset.univ
    (View.stores_vmem h_S256x4096 (harg18.storeExact_slice rfl _ (k0_off3_packedbf16 k j)) (fun _ => rfl)) (.inl rfl)) fun _ =>
  .ret ⟨⟩

/-- Loop 2's use of the rows in `buf`: the three combinations into their rows of `arg24`, `arg25`, `arg26`. -/
def use2 (buf : Memref sig .tc .vmem S256x4096 .f32) (v109 v120 v125 v130 v135 v140 : FVec F S1x1 .f32)
    (v142 : FVec F S4096x8 .f32) (k : Fin k0_t2_loop.trips) (j : Fin 4) :
    Prog (TpuEff nD τ sig (Elt F) Λ₀ .tc) PUnit :=
  .op (.load buf rAll.toLoadRect (View.loadsAt_vmem h_S256x4096)) fun v200 =>
  .op (.load arg23 (r13 k j).toLoadRect (View.loadsAt_vmem h_S256x8)) fun v203 =>
  .op (.load arg24 (r13 k j).toLoadRect (View.loadsAt_vmem h_S256x8)) fun _ =>
  .op (.store arg24 (r13 k j) (k0_pay12 v109 v120 v142 v200 v203) Finset.univ
    (View.stores_vmem h_S256x8 (harg24.storeExact_slice rfl _ (k0_off13_packedbf16 k j)) (fun _ => rfl)) (.inl rfl)) fun _ =>
  .op (.load arg25 (r13 k j).toLoadRect (View.loadsAt_vmem h_S256x8)) fun _ =>
  .op (.store arg25 (r13 k j) (k0_pay13 v125 v130 v142 v200 v203) Finset.univ
    (View.stores_vmem h_S256x8 (harg25.storeExact_slice rfl _ (k0_off13_packedbf16 k j)) (fun _ => rfl)) (.inl rfl)) fun _ =>
  .op (.load arg26 (r13 k j).toLoadRect (View.loadsAt_vmem h_S256x8)) fun _ =>
  .op (.store arg26 (r13 k j) (k0_pay14 v135 v140 v142 v200 v203) Finset.univ
    (View.stores_vmem_bits_univ h_S256x8 rfl) (.inl rfl)) fun _ =>
  .ret ⟨⟩

/-- Loop 3's use of the rows in `buf` and of the stash's: the result's rows into `arg27`. -/
def use3 (buf : Memref sig .tc .vmem S256x4096 .f32) (v98 : FVec F S1x1 .f32) (k : Fin k0_t3_loop.trips) (j : Fin 4) :
    Prog (TpuEff nD τ sig (Elt F) Λ₀ .tc) PUnit :=
  .op (.load arg18 (r23 k j).toLoadRect (View.loadsAt_vmem h_S256x4096)) fun v366 =>
  .op (.load arg25 rVec.toLoadRect (View.loadsAt_vmem h_S4096x8)) fun v367 =>
  .op (.load buf rAll.toLoadRect (View.loadsAt_vmem h_S256x4096)) fun v369 =>
  .op (.load arg26 rVec.toLoadRect (View.loadsAt_vmem h_S4096x8)) fun v370 =>
  .op (.load arg2 (r24 k j).toLoadRect (View.loadsAt_vmem h_S256x8)) fun v373 =>
  .op (.load arg24 (r24 k j).toLoadRect (View.loadsAt_vmem h_S256x8)) fun v378 =>
  .op (.load arg27 (r24 k j).toLoadRect (View.loadsAt_vmem h_S256x8)) fun _ =>
  .op (.store arg27 (r24 k j) (k0_pay52 v98 v366 v367 v369 v370 v373 v378) Finset.univ
    (View.stores_vmem_bits_univ h_S256x8 rfl) (.inl rfl)) fun _ =>
  .ret ⟨⟩

/-- A slot's wait, in loop `1`, `2`, `3`. -/
abbrev w1 (buf : Memref sig .tc .vmem S256x4096 .f32) (sems : DmaSems sig S4) (k : Fin k0_t1_loop.trips) (j : Fin 4) :
    Prog (TpuEff nD τ sig (Elt F) Λ₀ .tc) PUnit :=
  waitSlot arg0 buf squeezes_S1_S_ sems (fun s => k0_off1 k (BitVec.ofNat 32 j.val) (BitVec.ofNat 32 (64 * s.val)))
    (fun s => k0_off1_inb k j s)
abbrev w2 (buf : Memref sig .tc .vmem S256x4096 .f32) (sems : DmaSems sig S4) (k : Fin k0_t2_loop.trips) (j : Fin 4) :
    Prog (TpuEff nD τ sig (Elt F) Λ₀ .tc) PUnit :=
  waitSlot arg1 buf squeezes_S1_S_ sems (fun s => k0_off12 k (BitVec.ofNat 32 j.val) (BitVec.ofNat 32 (64 * s.val)))
    (fun s => k0_off12_inb k j s)
abbrev w3 (buf : Memref sig .tc .vmem S256x4096 .f32) (sems : DmaSems sig S4) (k : Fin k0_t3_loop.trips) (j : Fin 4) :
    Prog (TpuEff nD τ sig (Elt F) Λ₀ .tc) PUnit :=
  waitSlot arg1 buf squeezes_S1_S_ sems (fun s => k0_off22 k (BitVec.ofNat 32 j.val) (BitVec.ofNat 32 (64 * s.val)))
    (fun s => k0_off22_inb k j s)

/-- A slot's next fetch, from rows whose offsets `o` gives window by window. -/
abbrev fetch (src : Memref sig .tc .hbm S4096x4096 .f32) (buf : Memref sig .tc .vmem S256x4096 .f32) (sems : DmaSems sig S4)
    (o : BitVec 32 → Fin 2 → ℕ) (ho : ∀ (r : Fin 4), ∀ a, (o (BitVec.ofNat 32 (64 * r.val))) a + S64x4096.size a ≤ S4096x4096.size a) :
    Prog (TpuEff nD τ sig (Elt F) Λ₀ .tc) PUnit :=
  issueSlot src buf squeezes_S1_S_ sems (fun s => o (BitVec.ofNat 32 (64 * s.val))) ho

/-- A segment: the slot's wait, its use, its next fetch. -/
def seg (w u f : Prog (TpuEff nD τ sig (Elt F) Λ₀ .tc) PUnit) : Prog (TpuEff nD τ sig (Elt F) Λ₀ .tc) PUnit := do
  w; u; f

/-- A trip of four segments. -/
def four (a b c d : Prog (TpuEff nD τ sig (Elt F) Λ₀ .tc) PUnit) : Prog (TpuEff nD τ sig (Elt F) Λ₀ .tc) Unit := do
  a; b; c; d; pure ⟨⟩

variable (v91 : FVec F S64x3 .f32) (v93 : FVec F S64x3 .f32) (v98 : FVec F S1x1 .f32) (v109 : FVec F S1x1 .f32) (v114 : FVec F S1x1 .f32) (v117 : FVec F S64x1 .f32) (v141 : Vec F S4096x8 .f32)

set_option maxRecDepth 65536 in
/-- A trip of loop 1, before the last. -/
theorem t1_lt (k : Fin k0_t1_loop.trips) (h1 : k0_cond1 k = 1#1) (h2 : ¬ k0_cond2 k = 1#1) (h3 : k0_cond3 k = 1#1) (h4 : ¬ k0_cond4 k = 1#1) (h5 : k0_cond5 k = 1#1) (h6 : ¬ k0_cond6 k = 1#1) (h7 : k0_cond7 k = 1#1) (h8 : ¬ k0_cond8 k = 1#1) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 v141 k ⟨⟩
    = four
      (seg (w1 arg0 arg19 arg28 k 0)
        (use1 arg18 harg18 arg23 harg23 arg19 (k0_pay51 v141) k 0)
        (fetch arg0 arg19 arg28 (k0_off4 k) (k0_off4_inb k h1)))
      (seg (w1 arg0 arg20 arg29 k 1)
        (use1 arg18 harg18 arg23 harg23 arg20 (k0_pay51 v141) k 1)
        (fetch arg0 arg20 arg29 (k0_off6 k) (k0_off6_inb k h3)))
      (seg (w1 arg0 arg21 arg30 k 2)
        (use1 arg18 harg18 arg23 harg23 arg21 (k0_pay51 v141) k 2)
        (fetch arg0 arg21 arg30 (k0_off8 k) (k0_off8_inb k h5)))
      (seg (w1 arg0 arg22 arg31 k 3)
        (use1 arg18 harg18 arg23 harg23 arg22 (k0_pay51 v141) k 3)
        (fetch arg0 arg22 arg31 (k0_off10 k) (k0_off10_inb k h7))) := by
  unfold k0_t1_body
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [dif_pos h1, dif_neg h2, dif_pos h3, dif_neg h4, dif_pos h5, dif_neg h6, dif_pos h7, dif_neg h8]
  rfl

set_option maxRecDepth 65536 in
/-- A trip of loop 1, the last. -/
theorem t1_last (k : Fin k0_t1_loop.trips) (h2 : k0_cond2 k = 1#1) (h1 : ¬ k0_cond1 k = 1#1) (h4 : k0_cond4 k = 1#1) (h3 : ¬ k0_cond3 k = 1#1) (h6 : k0_cond6 k = 1#1) (h5 : ¬ k0_cond5 k = 1#1) (h8 : k0_cond8 k = 1#1) (h7 : ¬ k0_cond7 k = 1#1) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 v141 k ⟨⟩
    = four
      (seg (w1 arg0 arg19 arg28 k 0)
        (use1 arg18 harg18 arg23 harg23 arg19 (k0_pay51 v141) k 0)
        (fetch arg1 arg19 arg28 (k0_off5 k) (k0_off5_inb k h2)))
      (seg (w1 arg0 arg20 arg29 k 1)
        (use1 arg18 harg18 arg23 harg23 arg20 (k0_pay51 v141) k 1)
        (fetch arg1 arg20 arg29 (k0_off7 k) (k0_off7_inb k h4)))
      (seg (w1 arg0 arg21 arg30 k 2)
        (use1 arg18 harg18 arg23 harg23 arg21 (k0_pay51 v141) k 2)
        (fetch arg1 arg21 arg30 (k0_off9 k) (k0_off9_inb k h6)))
      (seg (w1 arg0 arg22 arg31 k 3)
        (use1 arg18 harg18 arg23 harg23 arg22 (k0_pay51 v141) k 3)
        (fetch arg1 arg22 arg31 (k0_off11 k) (k0_off11_inb k h8))) := by
  unfold k0_t1_body
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [dif_pos h2, dif_neg h1, dif_pos h4, dif_neg h3, dif_pos h6, dif_neg h5, dif_pos h8, dif_neg h7]
  rfl

set_option maxRecDepth 65536 in
/-- A trip of loop 2, before the last. -/
theorem t2_lt (k : Fin k0_t2_loop.trips) (h9 : k0_cond9 k = 1#1) (h10 : ¬ k0_cond10 k = 1#1) (h11 : k0_cond11 k = 1#1) (h12 : ¬ k0_cond12 k = 1#1) (h13 : k0_cond13 k = 1#1) (h14 : ¬ k0_cond14 k = 1#1) (h15 : k0_cond15 k = 1#1) (h16 : ¬ k0_cond16 k = 1#1) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 v141 k ⟨⟩
    = four
      (seg (w2 arg1 arg19 arg28 k 0)
        (use2 arg23 arg24 harg24 arg25 harg25 arg26 arg19 v109 (k0_pay46 v114 v117) (k0_pay47 v91 v93) (k0_pay48 v91 v93) (k0_pay49 v91 v93) (k0_pay50 v91 v93) (k0_pay51 v141) k 0)
        (fetch arg1 arg19 arg28 (k0_off14 k) (k0_off14_inb k h9)))
      (seg (w2 arg1 arg20 arg29 k 1)
        (use2 arg23 arg24 harg24 arg25 harg25 arg26 arg20 v109 (k0_pay46 v114 v117) (k0_pay47 v91 v93) (k0_pay48 v91 v93) (k0_pay49 v91 v93) (k0_pay50 v91 v93) (k0_pay51 v141) k 1)
        (fetch arg1 arg20 arg29 (k0_off16 k) (k0_off16_inb k h11)))
      (seg (w2 arg1 arg21 arg30 k 2)
        (use2 arg23 arg24 harg24 arg25 harg25 arg26 arg21 v109 (k0_pay46 v114 v117) (k0_pay47 v91 v93) (k0_pay48 v91 v93) (k0_pay49 v91 v93) (k0_pay50 v91 v93) (k0_pay51 v141) k 2)
        (fetch arg1 arg21 arg30 (k0_off18 k) (k0_off18_inb k h13)))
      (seg (w2 arg1 arg22 arg31 k 3)
        (use2 arg23 arg24 harg24 arg25 harg25 arg26 arg22 v109 (k0_pay46 v114 v117) (k0_pay47 v91 v93) (k0_pay48 v91 v93) (k0_pay49 v91 v93) (k0_pay50 v91 v93) (k0_pay51 v141) k 3)
        (fetch arg1 arg22 arg31 (k0_off20 k) (k0_off20_inb k h15))) := by
  unfold k0_t2_body
  rw [k0_part14_eq_skeleton]
  unfold k0_part14_skel
  rw [k0_part7_eq_skeleton, k0_part8_eq_skeleton, k0_part9_eq_skeleton, k0_part10_eq_skeleton, k0_part11_eq_skeleton, k0_part12_eq_skeleton, k0_part13_eq_skeleton]
  unfold k0_part7_skel k0_part8_skel k0_part9_skel k0_part10_skel k0_part11_skel k0_part12_skel k0_part13_skel
  simp only [dif_pos h9, dif_neg h10, dif_pos h11, dif_neg h12, dif_pos h13, dif_neg h14, dif_pos h15, dif_neg h16]
  rfl

set_option maxRecDepth 65536 in
/-- A trip of loop 2, the last. -/
theorem t2_last (k : Fin k0_t2_loop.trips) (h10 : k0_cond10 k = 1#1) (h9 : ¬ k0_cond9 k = 1#1) (h12 : k0_cond12 k = 1#1) (h11 : ¬ k0_cond11 k = 1#1) (h14 : k0_cond14 k = 1#1) (h13 : ¬ k0_cond13 k = 1#1) (h16 : k0_cond16 k = 1#1) (h15 : ¬ k0_cond15 k = 1#1) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 v141 k ⟨⟩
    = four
      (seg (w2 arg1 arg19 arg28 k 0)
        (use2 arg23 arg24 harg24 arg25 harg25 arg26 arg19 v109 (k0_pay46 v114 v117) (k0_pay47 v91 v93) (k0_pay48 v91 v93) (k0_pay49 v91 v93) (k0_pay50 v91 v93) (k0_pay51 v141) k 0)
        (fetch arg1 arg19 arg28 (k0_off15 k) (k0_off15_inb k h10)))
      (seg (w2 arg1 arg20 arg29 k 1)
        (use2 arg23 arg24 harg24 arg25 harg25 arg26 arg20 v109 (k0_pay46 v114 v117) (k0_pay47 v91 v93) (k0_pay48 v91 v93) (k0_pay49 v91 v93) (k0_pay50 v91 v93) (k0_pay51 v141) k 1)
        (fetch arg1 arg20 arg29 (k0_off17 k) (k0_off17_inb k h12)))
      (seg (w2 arg1 arg21 arg30 k 2)
        (use2 arg23 arg24 harg24 arg25 harg25 arg26 arg21 v109 (k0_pay46 v114 v117) (k0_pay47 v91 v93) (k0_pay48 v91 v93) (k0_pay49 v91 v93) (k0_pay50 v91 v93) (k0_pay51 v141) k 2)
        (fetch arg1 arg21 arg30 (k0_off19 k) (k0_off19_inb k h14)))
      (seg (w2 arg1 arg22 arg31 k 3)
        (use2 arg23 arg24 harg24 arg25 harg25 arg26 arg22 v109 (k0_pay46 v114 v117) (k0_pay47 v91 v93) (k0_pay48 v91 v93) (k0_pay49 v91 v93) (k0_pay50 v91 v93) (k0_pay51 v141) k 3)
        (fetch arg1 arg22 arg31 (k0_off21 k) (k0_off21_inb k h16))) := by
  unfold k0_t2_body
  rw [k0_part14_eq_skeleton]
  unfold k0_part14_skel
  rw [k0_part7_eq_skeleton, k0_part8_eq_skeleton, k0_part9_eq_skeleton, k0_part10_eq_skeleton, k0_part11_eq_skeleton, k0_part12_eq_skeleton, k0_part13_eq_skeleton]
  unfold k0_part7_skel k0_part8_skel k0_part9_skel k0_part10_skel k0_part11_skel k0_part12_skel k0_part13_skel
  simp only [dif_pos h10, dif_neg h9, dif_pos h12, dif_neg h11, dif_pos h14, dif_neg h13, dif_pos h16, dif_neg h15]
  rfl

set_option maxRecDepth 65536 in
/-- A trip of loop 3, before the last. -/
theorem t3_lt (k : Fin k0_t3_loop.trips) (h17 : k0_cond17 k = 1#1) (h18 : k0_cond18 k = 1#1) (h19 : k0_cond19 k = 1#1) (h20 : k0_cond20 k = 1#1) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 k ⟨⟩
    = four
      (seg (w3 arg1 arg19 arg28 k 0)
        (use3 arg2 arg18 arg24 arg25 arg26 arg27 arg19 v98 k 0)
        (fetch arg1 arg19 arg28 (k0_off25 k) (k0_off25_inb k h17)))
      (seg (w3 arg1 arg20 arg29 k 1)
        (use3 arg2 arg18 arg24 arg25 arg26 arg27 arg20 v98 k 1)
        (fetch arg1 arg20 arg29 (k0_off26 k) (k0_off26_inb k h18)))
      (seg (w3 arg1 arg21 arg30 k 2)
        (use3 arg2 arg18 arg24 arg25 arg26 arg27 arg21 v98 k 2)
        (fetch arg1 arg21 arg30 (k0_off27 k) (k0_off27_inb k h19)))
      (seg (w3 arg1 arg22 arg31 k 3)
        (use3 arg2 arg18 arg24 arg25 arg26 arg27 arg22 v98 k 3)
        (fetch arg1 arg22 arg31 (k0_off28 k) (k0_off28_inb k h20))) := by
  unfold k0_t3_body
  rw [k0_part15_eq_skeleton, k0_part16_eq_skeleton, k0_part17_eq_skeleton, k0_part18_eq_skeleton, k0_part19_eq_skeleton, k0_part20_eq_skeleton]
  unfold k0_part15_skel k0_part16_skel k0_part17_skel k0_part18_skel k0_part19_skel k0_part20_skel
  simp only [dif_pos h17, dif_pos h18, dif_pos h19, dif_pos h20]
  rfl

set_option maxRecDepth 65536 in
/-- A trip of loop 3, the last. -/
theorem t3_last (k : Fin k0_t3_loop.trips) (h17 : ¬ k0_cond17 k = 1#1) (h18 : ¬ k0_cond18 k = 1#1) (h19 : ¬ k0_cond19 k = 1#1) (h20 : ¬ k0_cond20 k = 1#1) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 k ⟨⟩
    = four
      (seg (w3 arg1 arg19 arg28 k 0)
        (use3 arg2 arg18 arg24 arg25 arg26 arg27 arg19 v98 k 0)
        (.ret ⟨⟩))
      (seg (w3 arg1 arg20 arg29 k 1)
        (use3 arg2 arg18 arg24 arg25 arg26 arg27 arg20 v98 k 1)
        (.ret ⟨⟩))
      (seg (w3 arg1 arg21 arg30 k 2)
        (use3 arg2 arg18 arg24 arg25 arg26 arg27 arg21 v98 k 2)
        (.ret ⟨⟩))
      (seg (w3 arg1 arg22 arg31 k 3)
        (use3 arg2 arg18 arg24 arg25 arg26 arg27 arg22 v98 k 3)
        (.ret ⟨⟩)) := by
  unfold k0_t3_body
  rw [k0_part15_eq_skeleton, k0_part16_eq_skeleton, k0_part17_eq_skeleton, k0_part18_eq_skeleton, k0_part19_eq_skeleton, k0_part20_eq_skeleton]
  unfold k0_part15_skel k0_part16_skel k0_part17_skel k0_part18_skel k0_part19_skel k0_part20_skel
  simp only [dif_neg h17, dif_neg h18, dif_neg h19, dif_neg h20]
  rfl

/-- The fetch of block `j` of the first matrix, before the loops. -/
abbrev first (buf : Memref sig .tc .vmem S256x4096 .f32) (sems : DmaSems sig S4) (j : ℕ) (hj : j < 4) :
    Prog (TpuEff nD τ sig (Elt F) Λ₀ .tc) PUnit :=
  issueSlot arg0 buf squeezes_S1_S_ sems (fun s => ![256 * j + 64 * s.val, 0])
    (fun s => Cert.Proof.Slot.swin (256 * j) s.val (by omega) s.isLt)

/-- The kernel's three loops, and the product of what they leave. -/
def loops : Prog (TpuEff nD τ sig (Elt F) Λ₀ .tc) (FVec F S8x64 .f32) :=
  .op (.load arg2 (Rect.unit (s := S4096x8) ![0, 0] S4096x8.size inb_S4096x8_S4096x8_0_0).toLoadRect (View.loadsAt_vmem h_S4096x8)) fun v141 =>
  Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 v141) >>= fun _ =>
  Scf.Loop.for k0_t2_loop k0_t2_ok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 v141) >>= fun _ =>
  Scf.Loop.for k0_t3_loop k0_t3_ok ⟨⟩ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117) >>= fun _ =>
  .op (.load arg11 (Rect.unit (s := S64x4096) ![0, 0] S64x4096.size inb_S64x4096_S64x4096_0_0).toLoadRect (View.loadsAt_vmem h_S64x4096)) fun v146 =>
  .op (.load arg27 (Rect.unit (s := S4096x8) ![0, 0] S4096x8.size inb_S4096x8_S4096x8_0_0).toLoadRect (View.loadsAt_vmem h_S4096x8)) fun v148 =>
  .ret (k0_pay53 v146 v148)

/-- The kernel after its first fetches: its loads, its three loops, its last products and the store of the result. -/
def afterFetch : Prog (TpuEff nD τ sig (Elt F) Λ₀ .tc) PUnit :=
  .op (.load arg3 (Rect.unit (s := S8x1) ![0, 0] S8x1.size inb_S8x1_S8x1_0_0).toLoadRect (View.loadsAt_vmem h_S8x1)) fun v64 =>
  .op (.load arg4 (Rect.unit (s := S1x64) ![0, 0] S1x64.size inb_S1x64_S1x64_0_0).toLoadRect (View.loadsAt_vmem h_S1x64)) fun v66 =>
  .op (.load arg5 (Rect.unit (s := S128x64) ![0, 0] S64x64.size inb_S128x64_S64x64_0_0).toLoadRect (View.loadsAt_vmem h_S64x64)) fun v73 =>
  .op (.load arg5 (Rect.unit (s := S128x64) ![64, 0] S64x64.size inb_S128x64_S64x64_64_0).toLoadRect (View.loadsAt_vmem h_S64x64)) fun v75 =>
  .op (.load arg6 (Rect.unit (s := S1x64) ![0, 0] S1x64.size inb_S1x64_S1x64_0_0).toLoadRect (View.loadsAt_vmem h_S1x64)) fun v78 =>
  .op (.load arg7 (Rect.unit (s := S64x64) ![0, 0] S64x64.size inb_S64x64_S64x64_0_0).toLoadRect (View.loadsAt_vmem h_S64x64)) fun v84 =>
  .op (.load arg8 (Rect.unit (s := S1x64) ![0, 0] S1x64.size inb_S1x64_S1x64_0_0).toLoadRect (View.loadsAt_vmem h_S1x64)) fun v86 =>
  .op (.load arg9 (Rect.unit (s := S64x3) ![0, 0] S64x3.size inb_S64x3_S64x3_0_0).toLoadRect (View.loadsAt_vmem h_S64x3)) fun v90 =>
  .op (.load arg10 (Rect.unit (s := S64x3) ![0, 0] S64x3.size inb_S64x3_S64x3_0_0).toLoadRect (View.loadsAt_vmem h_S64x3)) fun v92 =>
  loops arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 (k0_pay40 v90) (k0_pay41 v92) (k0_pay42 v90 v92) (k0_pay43 v90 v92) (k0_pay44 v90 v92) (k0_pay45 v90 v92) >>= fun v150 =>
  .op (.load arg12 (Rect.unit (s := S1x64) ![0, 0] S1x64.size inb_S1x64_S1x64_0_0).toLoadRect (View.loadsAt_vmem h_S1x64)) fun v151 =>
  .op (.load arg13 (Rect.unit (s := S64x64) ![0, 0] S64x64.size inb_S64x64_S64x64_0_0).toLoadRect (View.loadsAt_vmem h_S64x64)) fun v156 =>
  .op (.load arg14 (Rect.unit (s := S1x64) ![0, 0] S1x64.size inb_S1x64_S1x64_0_0).toLoadRect (View.loadsAt_vmem h_S1x64)) fun v158 =>
  .op (.load arg15 (Rect.unit (s := S64x4096) ![0, 0] S64x4096.size inb_S64x4096_S64x4096_0_0).toLoadRect (View.loadsAt_vmem h_S64x4096)) fun v164 =>
  .op (.load arg16 (Rect.unit (s := S1x4096) ![0, 0] S1x4096.size inb_S1x4096_S1x4096_0_0).toLoadRect (View.loadsAt_vmem h_S1x4096)) fun v166 =>
  .op (.load arg17 (Rect.unit (s := S8x4096) ![0, 0] S8x4096.size inb_S8x4096_S8x4096_0_0).toLoadRect (View.loadsAt_vmem h_S8x4096)) fun _ =>
  .op (.store arg17 (Rect.unit (s := S8x4096) ![0, 0] S8x4096.size inb_S8x4096_S8x4096_0_0)
    (k0_pay1 (k0_pay39 (k0_pay37 v64 v66) (k0_pay38 v64 v66 v73) v75 v78 v84 v86) v150 v151 v156 v158 v164 v166)
    Finset.univ (View.stores_vmem_bits_univ h_S8x4096 rfl) (.inl rfl)) fun _ =>
  .ret ⟨⟩

set_option maxRecDepth 65536 in
/-- The kernel is its four first fetches and what follows them. -/
theorem body_eq : cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31
    = (first arg0 arg19 arg28 0 (by decide) >>= fun _ => first arg0 arg20 arg29 1 (by decide) >>= fun _ =>
      first arg0 arg21 arg30 2 (by decide) >>= fun _ => first arg0 arg22 arg31 3 (by decide) >>= fun _ =>
      afterFetch arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31) := by
  rw [cc0__body_eq_skeleton]
  unfold cc0__body_skel
  rw [k0_part21_eq_skeleton, k0_part22_eq_skeleton, k0_part23_eq_skeleton, k0_part24_eq_skeleton, k0_part25_eq_skeleton]
  rfl

end Cert.KernelIdeal.Trips

end
-- ==== Proof.Offsets.lean ====
/-
  Hand-written, untrusted. The row offsets and the branch conditions of the kernel's three loops, trip by trip.
-/
module

public import proofs.«01_k».proof.Proof.Gen.KernelIdeal.Skeleton

@[expose] public section

noncomputable section

namespace Cert.KernelIdeal.Offsets

open Idealize.ShloMosaic
open Cert.KernelIdeal

theorem trips1 : k0_t1_loop.trips = 4 := by decide
theorem trips2 : k0_t2_loop.trips = 4 := by decide
theorem trips3 : k0_t3_loop.trips = 4 := by decide

set_option maxRecDepth 65536 in
theorem off2_eq : ∀ (k : Fin k0_t1_loop.trips) (j : Fin 4), k0_off2 k (BitVec.ofNat 32 j.val) = ![256 * (4 * k.val + j.val), 0] := by
  decide
set_option maxRecDepth 65536 in
theorem off3_eq : ∀ (k : Fin k0_t1_loop.trips) (j : Fin 4), k0_off3 k (BitVec.ofNat 32 j.val) = ![256 * (4 * k.val + j.val), 0] := by
  decide
set_option maxRecDepth 65536 in
theorem off13_eq : ∀ (k : Fin k0_t2_loop.trips) (j : Fin 4), k0_off13 k (BitVec.ofNat 32 j.val) = ![256 * (4 * k.val + j.val), 0] := by
  decide
set_option maxRecDepth 65536 in
theorem off23_eq : ∀ (k : Fin k0_t3_loop.trips) (j : Fin 4), k0_off23 k (BitVec.ofNat 32 j.val) = ![256 * (4 * k.val + j.val), 0] := by
  decide
set_option maxRecDepth 65536 in
theorem off24_eq : ∀ (k : Fin k0_t3_loop.trips) (j : Fin 4), k0_off24 k (BitVec.ofNat 32 j.val) = ![256 * (4 * k.val + j.val), 0] := by
  decide

set_option maxRecDepth 65536 in
theorem conds1_lt : ∀ k : Fin k0_t1_loop.trips, k.val < 3 → k0_cond1 k = 1#1 ∧ ¬ k0_cond2 k = 1#1 ∧ k0_cond3 k = 1#1 ∧ ¬ k0_cond4 k = 1#1 ∧ k0_cond5 k = 1#1 ∧ ¬ k0_cond6 k = 1#1 ∧ k0_cond7 k = 1#1 ∧ ¬ k0_cond8 k = 1#1 := by
  decide
set_option maxRecDepth 65536 in
theorem conds1_last : ∀ k : Fin k0_t1_loop.trips, ¬ k.val < 3 → ¬ k0_cond1 k = 1#1 ∧ k0_cond2 k = 1#1 ∧ ¬ k0_cond3 k = 1#1 ∧ k0_cond4 k = 1#1 ∧ ¬ k0_cond5 k = 1#1 ∧ k0_cond6 k = 1#1 ∧ ¬ k0_cond7 k = 1#1 ∧ k0_cond8 k = 1#1 := by
  decide
set_option maxRecDepth 65536 in
theorem conds2_lt : ∀ k : Fin k0_t2_loop.trips, k.val < 3 → k0_cond9 k = 1#1 ∧ ¬ k0_cond10 k = 1#1 ∧ k0_cond11 k = 1#1 ∧ ¬ k0_cond12 k = 1#1 ∧ k0_cond13 k = 1#1 ∧ ¬ k0_cond14 k = 1#1 ∧ k0_cond15 k = 1#1 ∧ ¬ k0_cond16 k = 1#1 := by
  decide
set_option maxRecDepth 65536 in
theorem conds2_last : ∀ k : Fin k0_t2_loop.trips, ¬ k.val < 3 → ¬ k0_cond9 k = 1#1 ∧ k0_cond10 k = 1#1 ∧ ¬ k0_cond11 k = 1#1 ∧ k0_cond12 k = 1#1 ∧ ¬ k0_cond13 k = 1#1 ∧ k0_cond14 k = 1#1 ∧ ¬ k0_cond15 k = 1#1 ∧ k0_cond16 k = 1#1 := by
  decide
set_option maxRecDepth 65536 in
theorem conds3_lt : ∀ k : Fin k0_t3_loop.trips, k.val < 3 → k0_cond17 k = 1#1 ∧ k0_cond18 k = 1#1 ∧ k0_cond19 k = 1#1 ∧ k0_cond20 k = 1#1 := by
  decide
set_option maxRecDepth 65536 in
theorem conds3_last : ∀ k : Fin k0_t3_loop.trips, ¬ k.val < 3 → ¬ k0_cond17 k = 1#1 ∧ ¬ k0_cond18 k = 1#1 ∧ ¬ k0_cond19 k = 1#1 ∧ ¬ k0_cond20 k = 1#1 := by
  decide

set_option maxRecDepth 65536 in
theorem off4_eq : ∀ k : Fin k0_t1_loop.trips, k.val < 3 → ∀ s : Fin 4, k0_off4 k (BitVec.ofNat 32 (64 * s.val)) = ![256 * ((4 * k.val + 0 + 4) % 16) + 64 * s.val, 0] := by
  decide
set_option maxRecDepth 65536 in
theorem off5_eq : ∀ k : Fin k0_t1_loop.trips, ¬ k.val < 3 → ∀ s : Fin 4, k0_off5 k (BitVec.ofNat 32 (64 * s.val)) = ![256 * ((4 * k.val + 0 + 4) % 16) + 64 * s.val, 0] := by
  decide
set_option maxRecDepth 65536 in
theorem off14_eq : ∀ k : Fin k0_t2_loop.trips, k.val < 3 → ∀ s : Fin 4, k0_off14 k (BitVec.ofNat 32 (64 * s.val)) = ![256 * ((16 + (4 * k.val + 0) + 4) % 16) + 64 * s.val, 0] := by
  decide
set_option maxRecDepth 65536 in
theorem off15_eq : ∀ k : Fin k0_t2_loop.trips, ¬ k.val < 3 → ∀ s : Fin 4, k0_off15 k (BitVec.ofNat 32 (64 * s.val)) = ![256 * ((16 + (4 * k.val + 0) + 4) % 16) + 64 * s.val, 0] := by
  decide
set_option maxRecDepth 65536 in
theorem off25_eq : ∀ k : Fin k0_t3_loop.trips, k.val < 3 → ∀ s : Fin 4, k0_off25 k (BitVec.ofNat 32 (64 * s.val)) = ![256 * ((32 + (4 * k.val + 0) + 4) % 16) + 64 * s.val, 0] := by
  decide
set_option maxRecDepth 65536 in
theorem off6_eq : ∀ k : Fin k0_t1_loop.trips, k.val < 3 → ∀ s : Fin 4, k0_off6 k (BitVec.ofNat 32 (64 * s.val)) = ![256 * ((4 * k.val + 1 + 4) % 16) + 64 * s.val, 0] := by
  decide
set_option maxRecDepth 65536 in
theorem off7_eq : ∀ k : Fin k0_t1_loop.trips, ¬ k.val < 3 → ∀ s : Fin 4, k0_off7 k (BitVec.ofNat 32 (64 * s.val)) = ![256 * ((4 * k.val + 1 + 4) % 16) + 64 * s.val, 0] := by
  decide
set_option maxRecDepth 65536 in
theorem off16_eq : ∀ k : Fin k0_t2_loop.trips, k.val < 3 → ∀ s : Fin 4, k0_off16 k (BitVec.ofNat 32 (64 * s.val)) = ![256 * ((16 + (4 * k.val + 1) + 4) % 16) + 64 * s.val, 0] := by
  decide
set_option maxRecDepth 65536 in
theorem off17_eq : ∀ k : Fin k0_t2_loop.trips, ¬ k.val < 3 → ∀ s : Fin 4, k0_off17 k (BitVec.ofNat 32 (64 * s.val)) = ![256 * ((16 + (4 * k.val + 1) + 4) % 16) + 64 * s.val, 0] := by
  decide
set_option maxRecDepth 65536 in
theorem off26_eq : ∀ k : Fin k0_t3_loop.trips, k.val < 3 → ∀ s : Fin 4, k0_off26 k (BitVec.ofNat 32 (64 * s.val)) = ![256 * ((32 + (4 * k.val + 1) + 4) % 16) + 64 * s.val, 0] := by
  decide
set_option maxRecDepth 65536 in
theorem off8_eq : ∀ k : Fin k0_t1_loop.trips, k.val < 3 → ∀ s : Fin 4, k0_off8 k (BitVec.ofNat 32 (64 * s.val)) = ![256 * ((4 * k.val + 2 + 4) % 16) + 64 * s.val, 0] := by
  decide
set_option maxRecDepth 65536 in
theorem off9_eq : ∀ k : Fin k0_t1_loop.trips, ¬ k.val < 3 → ∀ s : Fin 4, k0_off9 k (BitVec.ofNat 32 (64 * s.val)) = ![256 * ((4 * k.val + 2 + 4) % 16) + 64 * s.val, 0] := by
  decide
set_option maxRecDepth 65536 in
theorem off18_eq : ∀ k : Fin k0_t2_loop.trips, k.val < 3 → ∀ s : Fin 4, k0_off18 k (BitVec.ofNat 32 (64 * s.val)) = ![256 * ((16 + (4 * k.val + 2) + 4) % 16) + 64 * s.val, 0] := by
  decide
set_option maxRecDepth 65536 in
theorem off19_eq : ∀ k : Fin k0_t2_loop.trips, ¬ k.val < 3 → ∀ s : Fin 4, k0_off19 k (BitVec.ofNat 32 (64 * s.val)) = ![256 * ((16 + (4 * k.val + 2) + 4) % 16) + 64 * s.val, 0] := by
  decide
set_option maxRecDepth 65536 in
theorem off27_eq : ∀ k : Fin k0_t3_loop.trips, k.val < 3 → ∀ s : Fin 4, k0_off27 k (BitVec.ofNat 32 (64 * s.val)) = ![256 * ((32 + (4 * k.val + 2) + 4) % 16) + 64 * s.val, 0] := by
  decide
set_option maxRecDepth 65536 in
theorem off10_eq : ∀ k : Fin k0_t1_loop.trips, k.val < 3 → ∀ s : Fin 4, k0_off10 k (BitVec.ofNat 32 (64 * s.val)) = ![256 * ((4 * k.val + 3 + 4) % 16) + 64 * s.val, 0] := by
  decide
set_option maxRecDepth 65536 in
theorem off11_eq : ∀ k : Fin k0_t1_loop.trips, ¬ k.val < 3 → ∀ s : Fin 4, k0_off11 k (BitVec.ofNat 32 (64 * s.val)) = ![256 * ((4 * k.val + 3 + 4) % 16) + 64 * s.val, 0] := by
  decide
set_option maxRecDepth 65536 in
theorem off20_eq : ∀ k : Fin k0_t2_loop.trips, k.val < 3 → ∀ s : Fin 4, k0_off20 k (BitVec.ofNat 32 (64 * s.val)) = ![256 * ((16 + (4 * k.val + 3) + 4) % 16) + 64 * s.val, 0] := by
  decide
set_option maxRecDepth 65536 in
theorem off21_eq : ∀ k : Fin k0_t2_loop.trips, ¬ k.val < 3 → ∀ s : Fin 4, k0_off21 k (BitVec.ofNat 32 (64 * s.val)) = ![256 * ((16 + (4 * k.val + 3) + 4) % 16) + 64 * s.val, 0] := by
  decide
set_option maxRecDepth 65536 in
theorem off28_eq : ∀ k : Fin k0_t3_loop.trips, k.val < 3 → ∀ s : Fin 4, k0_off28 k (BitVec.ofNat 32 (64 * s.val)) = ![256 * ((32 + (4 * k.val + 3) + 4) % 16) + 64 * s.val, 0] := by
  decide

end Cert.KernelIdeal.Offsets

end
-- ==== Proof.Run.lean ====
/-
  Hand-written, untrusted. What one segment, one trip and one loop of the kernel leave in its buffers.
-/
module

public import proofs.«01_k».proof.Proof.Trips
public import proofs.«01_k».proof.Proof.Offsets

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Trips Cert.KernelIdeal.Offsets
open Cert.Proof.Slot

variable {F : FTy → Type} [FloatOps F]

local notation "𝕄" => MT nD τ sig Unit (Elt F) ℕ (Pipeline.UD sig nD τ) ℕ

/-! ## The arrays the loops build -/

/-- The first product, block by block, at the narrow type. -/
def Uval (X0 : FVec F S4096x4096 .f32) (X2 : FVec F S4096x8 .f32) : FVec F S4096x8 .bf16 :=
  tiled fun i => k0_pay2 (k0_pay51 X2) (rows X0 (256 * i))
/-- The first matrix at the narrow type, block by block. -/
def Sval (X0 : FVec F S4096x4096 .f32) : FVec F S4096x4096 .bf16 := tiled fun i => k0_pay3 (rows X0 (256 * i))
/-- The three combinations of the second loop. -/
def Rval (v109 v120 : FVec F S1x1 .f32) (X0 X1 : FVec F S4096x4096 .f32) (X2 : FVec F S4096x8 .f32) : FVec F S4096x8 .bf16 :=
  tiled fun i => k0_pay12 v109 v120 (k0_pay51 X2) (rows X1 (256 * i)) (rows (Uval X0 X2) (256 * i))
def Pval (v125 v130 : FVec F S1x1 .f32) (X0 X1 : FVec F S4096x4096 .f32) (X2 : FVec F S4096x8 .f32) : FVec F S4096x8 .bf16 :=
  tiled fun i => k0_pay13 v125 v130 (k0_pay51 X2) (rows X1 (256 * i)) (rows (Uval X0 X2) (256 * i))
def Qval (v135 v140 : FVec F S1x1 .f32) (X0 X1 : FVec F S4096x4096 .f32) (X2 : FVec F S4096x8 .f32) : FVec F S4096x8 .f32 :=
  tiled fun i => k0_pay14 v135 v140 (k0_pay51 X2) (rows X1 (256 * i)) (rows (Uval X0 X2) (256 * i))
/-- The result of the third loop, from the second's. -/
def Oval (v98 : FVec F S1x1 .f32) (R P : FVec F S4096x8 .bf16) (Qv : FVec F S4096x8 .f32)
    (X0 X1 : FVec F S4096x4096 .f32) (X2 : FVec F S4096x8 .f32) : FVec F S4096x8 .f32 :=
  tiled fun i => k0_pay52 v98 (rows (Sval X0) (256 * i)) P (rows X1 (256 * i)) Qv (rows X2 (256 * i)) (rows R (256 * i))

/-! ## A segment's use of its rows -/

variable (𝒱 : Variants) (c : Dev nD) (bd : Option 𝒱.V)
variable {defs : Defs nD τ sig (Elt F) Λ₀}

variable (arg0 : Memref sig .tc .hbm S4096x4096 .f32) (harg0 : arg0.IsWhole) (arg1 : Memref sig .tc .hbm S4096x4096 .f32) (harg1 : arg1.IsWhole) (arg2 : Memref sig .tc .vmem S4096x8 .f32) (harg2 : arg2.IsWhole) (arg3 : Memref sig .tc .vmem S8x1 .f32) (harg3 : arg3.IsWhole) (arg4 : Memref sig .tc .vmem S1x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x3 .f32) (harg9 : arg9.IsWhole) (arg10 : Memref sig .tc .vmem S64x3 .f32) (harg10 : arg10.IsWhole) (arg11 : Memref sig .tc .vmem S64x4096 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x4096 .f32) (harg15 : arg15.IsWhole) (arg16 : Memref sig .tc .vmem S1x4096 .f32) (harg16 : arg16.IsWhole) (arg17 : Memref sig .tc .vmem S8x4096 .f32) (harg17 : arg17.IsWhole) (arg18 : Memref sig .tc .vmem S4096x4096 .bf16) (harg18 : arg18.IsWhole) (arg19 : Memref sig .tc .vmem S256x4096 .f32) (harg19 : arg19.IsWhole) (arg20 : Memref sig .tc .vmem S256x4096 .f32) (harg20 : arg20.IsWhole) (arg21 : Memref sig .tc .vmem S256x4096 .f32) (harg21 : arg21.IsWhole) (arg22 : Memref sig .tc .vmem S256x4096 .f32) (harg22 : arg22.IsWhole) (arg23 : Memref sig .tc .vmem S4096x8 .bf16) (harg23 : arg23.IsWhole) (arg24 : Memref sig .tc .vmem S4096x8 .bf16) (harg24 : arg24.IsWhole) (arg25 : Memref sig .tc .vmem S4096x8 .bf16) (harg25 : arg25.IsWhole) (arg26 : Memref sig .tc .vmem S4096x8 .f32) (harg26 : arg26.IsWhole) (arg27 : Memref sig .tc .vmem S4096x8 .f32) (harg27 : arg27.IsWhole) (arg28 : DmaSems sig S4) (arg29 : DmaSems sig S4) (arg30 : DmaSems sig S4) (arg31 : DmaSems sig S4)

variable (X0 X1 : FVec F S4096x4096 .f32) (X2 : FVec F S4096x8 .f32) (q : PosShare TreeShare)

/-- A slot of the ring over the two matrices. -/
abbrev Rdy (buf : Memref sig .tc .vmem S256x4096 .f32) (hbuf : buf.IsWhole) (sems : DmaSems sig S4) (g : ℕ) : sProp 𝕄 :=
  Ready c arg0 harg0 arg1 harg1 X0 X1 buf hbuf squeezes_S1_S_ sems q g
abbrev Fre (buf : Memref sig .tc .vmem S256x4096 .f32) (sems : DmaSems sig S4) (Y : FVec F S256x4096 .f32) : sProp 𝕄 :=
  Free c arg0 arg1 X0 X1 buf squeezes_S1_S_ sems q Y
/-- What the thread owes. -/
abbrev Owe : sProp 𝕄 := iprop(∃ W, owes (c : Thread nD τ) 0 W)

/-- A program that starts a slot's next fetch. -/
def Fetches (buf : Memref sig .tc .vmem S256x4096 .f32) (hbuf : buf.IsWhole) (sems : DmaSems sig S4) (g : ℕ) (f : Prog (TpuEff nD τ sig (Elt F) Λ₀ .tc) PUnit) : Prop :=
  ∀ (Y : FVec F S256x4096 .f32) (Q : PUnit → sProp 𝕄), Fre c arg0 arg1 X0 X1 q buf sems Y
    ⊢ iprop((Rdy c arg0 harg0 arg1 harg1 X0 X1 q buf hbuf sems g -∗ Q ⟨⟩) -∗ wp frame (wpE defs 𝒱 (c : Thread nD τ) bd) Set.univ f Q)

theorem use1_spec (buf : Memref sig .tc .vmem S256x4096 .f32) (hbuf : buf.IsWhole) (k : Fin k0_t1_loop.trips) (j : Fin 4) (i : ℕ) (hi : i = 4 * k.val + j.val) (hi' : i < 16)
    {Q : PUnit → sProp 𝕄} :
    iprop(owns (c : Thread nD τ) buf fullShare (rows X0 (256 * i)) ∗ Held c arg23 (Uval X0 X2) i ∗ Held c arg18 (Sval X0) i)
      ⊢ iprop((iprop(owns (c : Thread nD τ) buf fullShare (rows X0 (256 * i)) ∗ Held c arg23 (Uval X0 X2) (i + 1) ∗ Held c arg18 (Sval X0) (i + 1)) -∗ Q ⟨⟩)
        -∗ wp frame (wpE defs 𝒱 (c : Thread nD τ) bd) Set.univ (use1 arg18 harg18 arg23 harg23 buf (k0_pay51 X2) k j) Q) := by
  unfold use1 Held
  iintro ⟨Hb, ⟨%Y3, %h3, H3⟩, ⟨%Y8, %h8, H8⟩⟩ Hk
  iapply (wp_load_owns 𝒱 c bd hbuf) $$ Hb
  iintro Hb
  iapply (wp_load_owns 𝒱 c bd harg23) $$ H3
  iintro H3
  iapply (wp_store_owns 𝒱 c bd harg23) $$ H3
  iintro H3
  iapply (wp_load_owns 𝒱 c bd harg18) $$ H8
  iintro H8
  iapply (wp_store_owns 𝒱 c bd harg18) $$ H8
  iintro H8
  rw [wp_ret]
  imodintro
  iapply Hk
  rw [load_all]
  isplitl [Hb]; · iexact Hb
  isplitl [H3]
  · iexists _; isplitr; swap; · iexact H3
    ipureintro; exact upto_store hi' h3 _ _ (hi ▸ off2_eq k j)
  · iexists _; isplitr; swap; · iexact H8
    ipureintro; exact upto_store hi' h8 _ _ (hi ▸ off3_eq k j)

include harg23 harg26 in
theorem use2_spec (buf : Memref sig .tc .vmem S256x4096 .f32) (hbuf : buf.IsWhole) (v109 v120 v125 v130 v135 v140 : FVec F S1x1 .f32) (k : Fin k0_t2_loop.trips) (j : Fin 4) (i : ℕ) (hi : i = 4 * k.val + j.val) (hi' : i < 16)
    {Q : PUnit → sProp 𝕄} :
    iprop(owns (c : Thread nD τ) buf fullShare (rows X1 (256 * i)) ∗ owns (c : Thread nD τ) arg23 fullShare (Uval X0 X2) ∗ Held c arg24 (Rval v109 v120 X0 X1 X2) (i) ∗ Held c arg25 (Pval v125 v130 X0 X1 X2) (i) ∗ Held c arg26 (Qval v135 v140 X0 X1 X2) (i))
      ⊢ iprop((iprop(owns (c : Thread nD τ) buf fullShare (rows X1 (256 * i)) ∗ owns (c : Thread nD τ) arg23 fullShare (Uval X0 X2) ∗ Held c arg24 (Rval v109 v120 X0 X1 X2) (i + 1) ∗ Held c arg25 (Pval v125 v130 X0 X1 X2) (i + 1) ∗ Held c arg26 (Qval v135 v140 X0 X1 X2) (i + 1)) -∗ Q ⟨⟩)
        -∗ wp frame (wpE defs 𝒱 (c : Thread nD τ) bd) Set.univ (use2 arg23 arg24 harg24 arg25 harg25 arg26 buf v109 v120 v125 v130 v135 v140 (k0_pay51 X2) k j) Q) := by
  unfold use2 Held
  iintro ⟨Hb, H3, ⟨%Y4, %h4, H4⟩, ⟨%Y5, %h5, H5⟩, ⟨%Y6, %h6, H6⟩⟩ Hk
  iapply (wp_load_owns 𝒱 c bd hbuf) $$ Hb
  iintro Hb
  iapply (wp_load_owns 𝒱 c bd harg23) $$ H3
  iintro H3
  iapply (wp_load_owns 𝒱 c bd harg24) $$ H4
  iintro H4
  iapply (wp_store_owns 𝒱 c bd harg24) $$ H4
  iintro H4
  iapply (wp_load_owns 𝒱 c bd harg25) $$ H5
  iintro H5
  iapply (wp_store_owns 𝒱 c bd harg25) $$ H5
  iintro H5
  iapply (wp_load_owns 𝒱 c bd harg26) $$ H6
  iintro H6
  iapply (wp_store_owns 𝒱 c bd harg26) $$ H6
  iintro H6
  rw [wp_ret]
  imodintro
  iapply Hk
  have eU : (fun a => Uval X0 X2 ((r13 k j).toLoadRect.idx a)) = rows (Uval X0 X2) (256 * i) :=
    upto_load (Val := Elt F) (e := .bf16) hi' (Nat.lt_succ_self i) (fun _ _ => rfl) _ _ (hi ▸ off13_eq k j)
  rw [load_all, eU]
  isplitl [Hb]; · iexact Hb
  isplitl [H3]; · iexact H3
  isplitl [H4]
  · iexists _; isplitr; swap; · iexact H4
    ipureintro; exact upto_store hi' h4 _ _ (hi ▸ off13_eq k j)
  isplitl [H5]
  · iexists _; isplitr; swap; · iexact H5
    ipureintro; exact upto_store hi' h5 _ _ (hi ▸ off13_eq k j)
  · iexists _; isplitr; swap; · iexact H6
    ipureintro; exact upto_store hi' h6 _ _ (hi ▸ off13_eq k j)

include harg2 harg18 harg24 harg25 harg26 harg27 in
theorem use3_spec (buf : Memref sig .tc .vmem S256x4096 .f32) (hbuf : buf.IsWhole) (v98 : FVec F S1x1 .f32) (R P : FVec F S4096x8 .bf16) (Qv : FVec F S4096x8 .f32) (k : Fin k0_t3_loop.trips) (j : Fin 4) (i : ℕ) (hi : i = 4 * k.val + j.val) (hi' : i < 16)
    {Q : PUnit → sProp 𝕄} :
    iprop(owns (c : Thread nD τ) buf fullShare (rows X1 (256 * i)) ∗ (owns (c : Thread nD τ) arg2 fullShare X2 ∗ owns (c : Thread nD τ) arg18 fullShare (Sval X0) ∗ owns (c : Thread nD τ) arg24 fullShare R ∗ owns (c : Thread nD τ) arg25 fullShare P ∗ owns (c : Thread nD τ) arg26 fullShare Qv) ∗ Held c arg27 (Oval v98 R P Qv X0 X1 X2) i)
      ⊢ iprop((iprop(owns (c : Thread nD τ) buf fullShare (rows X1 (256 * i)) ∗ (owns (c : Thread nD τ) arg2 fullShare X2 ∗ owns (c : Thread nD τ) arg18 fullShare (Sval X0) ∗ owns (c : Thread nD τ) arg24 fullShare R ∗ owns (c : Thread nD τ) arg25 fullShare P ∗ owns (c : Thread nD τ) arg26 fullShare Qv) ∗ Held c arg27 (Oval v98 R P Qv X0 X1 X2) (i + 1)) -∗ Q ⟨⟩)
        -∗ wp frame (wpE defs 𝒱 (c : Thread nD τ) bd) Set.univ (use3 arg2 arg18 arg24 arg25 arg26 arg27 buf v98 k j) Q) := by
  unfold use3 Held
  iintro ⟨Hb, ⟨H2, H8, H4, H5, H6⟩, ⟨%Y7, %h7, H7⟩⟩ Hk
  iapply (wp_load_owns 𝒱 c bd harg18) $$ H8
  iintro H8
  iapply (wp_load_owns 𝒱 c bd harg25) $$ H5
  iintro H5
  iapply (wp_load_owns 𝒱 c bd hbuf) $$ Hb
  iintro Hb
  iapply (wp_load_owns 𝒱 c bd harg26) $$ H6
  iintro H6
  iapply (wp_load_owns 𝒱 c bd harg2) $$ H2
  iintro H2
  iapply (wp_load_owns 𝒱 c bd harg24) $$ H4
  iintro H4
  iapply (wp_load_owns 𝒱 c bd harg27) $$ H7
  iintro H7
  iapply (wp_store_owns 𝒱 c bd harg27) $$ H7
  iintro H7
  rw [wp_ret]
  imodintro
  iapply Hk
  have eS : (fun a => Sval X0 ((r23 k j).toLoadRect.idx a)) = rows (Sval X0) (256 * i) :=
    upto_load (Val := Elt F) (e := .bf16) hi' (Nat.lt_succ_self i) (fun _ _ => rfl) _ _ (hi ▸ off23_eq k j)
  have e2 : (fun a => X2 ((r24 k j).toLoadRect.idx a)) = rows X2 (256 * i) :=
    upto_load (Val := Elt F) (e := .f32) hi' (Nat.lt_succ_self i) (fun _ _ => rfl) _ _ (hi ▸ off24_eq k j)
  have eR : (fun a => R ((r24 k j).toLoadRect.idx a)) = rows R (256 * i) :=
    upto_load (Val := Elt F) (e := .bf16) hi' (Nat.lt_succ_self i) (fun _ _ => rfl) _ _ (hi ▸ off24_eq k j)
  have eP : (fun a => P (rVec.toLoadRect.idx a)) = P := load_all (Val := Elt F) (e := .bf16) P _ _
  have eQ : (fun a => Qv (rVec.toLoadRect.idx a)) = Qv := load_all (Val := Elt F) (e := .f32) Qv _ _
  have eB : (fun a => rows X1 (256 * i) (rAll.toLoadRect.idx a)) = rows X1 (256 * i) := load_all (Val := Elt F) (e := .f32) _ _ _
  rw [eS, eP, eB, eQ, e2, eR]
  isplitl [Hb]; · iexact Hb
  isplitl [H2 H8 H4 H5 H6]
  · isplitl [H2]; · iexact H2
    isplitl [H8]; · iexact H8
    isplitl [H4]; · iexact H4
    isplitl [H5]; · iexact H5
    iexact H6
  · iexists _; isplitr; swap; · iexact H7
    ipureintro; exact upto_store hi' h7 _ _ (hi ▸ off24_eq k j)

/-- A segment of loop 1. -/
theorem seg1_spec (buf : Memref sig .tc .vmem S256x4096 .f32) (hbuf : buf.IsWhole) (sems : DmaSems sig S4)  (k : Fin k0_t1_loop.trips) (j : Fin 4) (i : ℕ) (hi : i = 4 * k.val + j.val) (hi' : i < 16)
    (g g' i' : ℕ) (hg : g = 0 + i) (hg' : g' = g + 4) (hi'' : i' = i + 1)
    (f : Prog (TpuEff nD τ sig (Elt F) Λ₀ .tc) PUnit) (hf : Fetches 𝒱 c bd (defs := defs) arg0 harg0 arg1 harg1 X0 X1 q buf hbuf sems g' f)
    {Q : PUnit → sProp 𝕄} :
    iprop(Rdy c arg0 harg0 arg1 harg1 X0 X1 q buf hbuf sems (g) ∗ (Held c arg23 (Uval X0 X2) (i) ∗ Held c arg18 (Sval X0) (i)) ∗ Owe c)
      ⊢ iprop((iprop(Rdy c arg0 harg0 arg1 harg1 X0 X1 q buf hbuf sems (g') ∗ (Held c arg23 (Uval X0 X2) (i') ∗ Held c arg18 (Sval X0) (i')) ∗ Owe c) -∗ Q ⟨⟩)
        -∗ wp frame (wpE defs 𝒱 (c : Thread nD τ) bd) Set.univ (seg (w1 arg0 buf sems k j) (use1 arg18 harg18 arg23 harg23 buf (k0_pay51 X2) k j) f) Q) := by
  subst hg hg' hi''
  unfold seg
  simp only [wp_bind]
  iintro ⟨HR, HP, HO⟩ Hk
  iapply (wait_first 𝒱 c bd arg0 harg0 arg1 harg1 X0 X1 buf hbuf squeezes_S1_S_ sems q (0 + i) (by omega)) $$ [HR HO]
  · isplitl [HR]; · iexact HR
    iexact HO
  rw [show (0 + i) % 16 = i by omega, show rowBlk (Val := Elt F) (e := .f32) X0 (256 * i) = rows X0 (256 * i) from rfl]
  unfold Free
  iintro ⟨⟨Hb, HS, H0, H1⟩, HO⟩
  iapply (use1_spec (X0 := X0) (hbuf := hbuf) (i := i) (hi := hi) (hi' := hi')) $$ [Hb HP]
  · isplitl [Hb]; · iexact Hb
    iexact HP
  iintro ⟨Hb, HP⟩
  iapply (hf (rows X0 (256 * i)) _) $$ [Hb HS H0 H1]
  · unfold Fre Free
    isplitl [Hb]; · iexact Hb
    isplitl [HS]; · iexact HS
    isplitl [H0]; · iexact H0
    iexact H1
  iintro HR
  iapply Hk
  isplitl [HR]; · iexact HR
  isplitl [HP]; · iexact HP
  iexact HO

include harg23 harg26 in
/-- A segment of loop 2. -/
theorem seg2_spec (buf : Memref sig .tc .vmem S256x4096 .f32) (hbuf : buf.IsWhole) (sems : DmaSems sig S4) (v109 v120 v125 v130 v135 v140 : FVec F S1x1 .f32) (k : Fin k0_t2_loop.trips) (j : Fin 4) (i : ℕ) (hi : i = 4 * k.val + j.val) (hi' : i < 16)
    (g g' i' : ℕ) (hg : g = 16 + i) (hg' : g' = g + 4) (hi'' : i' = i + 1)
    (f : Prog (TpuEff nD τ sig (Elt F) Λ₀ .tc) PUnit) (hf : Fetches 𝒱 c bd (defs := defs) arg0 harg0 arg1 harg1 X0 X1 q buf hbuf sems g' f)
    {Q : PUnit → sProp 𝕄} :
    iprop(Rdy c arg0 harg0 arg1 harg1 X0 X1 q buf hbuf sems (g) ∗ (owns (c : Thread nD τ) arg23 fullShare (Uval X0 X2) ∗ Held c arg24 (Rval v109 v120 X0 X1 X2) (i) ∗ Held c arg25 (Pval v125 v130 X0 X1 X2) (i) ∗ Held c arg26 (Qval v135 v140 X0 X1 X2) (i)) ∗ Owe c)
      ⊢ iprop((iprop(Rdy c arg0 harg0 arg1 harg1 X0 X1 q buf hbuf sems (g') ∗ (owns (c : Thread nD τ) arg23 fullShare (Uval X0 X2) ∗ Held c arg24 (Rval v109 v120 X0 X1 X2) (i') ∗ Held c arg25 (Pval v125 v130 X0 X1 X2) (i') ∗ Held c arg26 (Qval v135 v140 X0 X1 X2) (i')) ∗ Owe c) -∗ Q ⟨⟩)
        -∗ wp frame (wpE defs 𝒱 (c : Thread nD τ) bd) Set.univ (seg (w2 arg1 buf sems k j) (use2 arg23 arg24 harg24 arg25 harg25 arg26 buf v109 v120 v125 v130 v135 v140 (k0_pay51 X2) k j) f) Q) := by
  subst hg hg' hi''
  unfold seg
  simp only [wp_bind]
  iintro ⟨HR, HP, HO⟩ Hk
  iapply (wait_second 𝒱 c bd arg0 harg0 arg1 harg1 X0 X1 buf hbuf squeezes_S1_S_ sems q (16 + i) (by omega) (by omega)) $$ [HR HO]
  · isplitl [HR]; · iexact HR
    iexact HO
  rw [show (16 + i) % 16 = i by omega, show rowBlk (Val := Elt F) (e := .f32) X1 (256 * i) = rows X1 (256 * i) from rfl]
  unfold Free
  iintro ⟨⟨Hb, HS, H0, H1⟩, HO⟩
  iapply (use2_spec (X0 := X0) (X1 := X1) (harg23 := harg23) (harg26 := harg26) (hbuf := hbuf) (i := i) (hi := hi) (hi' := hi')) $$ [Hb HP]
  · isplitl [Hb]; · iexact Hb
    iexact HP
  iintro ⟨Hb, HP⟩
  iapply (hf (rows X1 (256 * i)) _) $$ [Hb HS H0 H1]
  · unfold Fre Free
    isplitl [Hb]; · iexact Hb
    isplitl [HS]; · iexact HS
    isplitl [H0]; · iexact H0
    iexact H1
  iintro HR
  iapply Hk
  isplitl [HR]; · iexact HR
  isplitl [HP]; · iexact HP
  iexact HO

include harg2 harg18 harg24 harg25 harg26 harg27 in
/-- A segment of loop 3. -/
theorem seg3_spec (buf : Memref sig .tc .vmem S256x4096 .f32) (hbuf : buf.IsWhole) (sems : DmaSems sig S4) (v98 : FVec F S1x1 .f32) (R P : FVec F S4096x8 .bf16) (Qv : FVec F S4096x8 .f32) (k : Fin k0_t3_loop.trips) (j : Fin 4) (i : ℕ) (hi : i = 4 * k.val + j.val) (hi' : i < 16)
    (g g' i' : ℕ) (hg : g = 32 + i) (hg' : g' = g + 4) (hi'' : i' = i + 1)
    (f : Prog (TpuEff nD τ sig (Elt F) Λ₀ .tc) PUnit) (hf : Fetches 𝒱 c bd (defs := defs) arg0 harg0 arg1 harg1 X0 X1 q buf hbuf sems g' f)
    {Q : PUnit → sProp 𝕄} :
    iprop(Rdy c arg0 harg0 arg1 harg1 X0 X1 q buf hbuf sems (g) ∗ ((owns (c : Thread nD τ) arg2 fullShare X2 ∗ owns (c : Thread nD τ) arg18 fullShare (Sval X0) ∗ owns (c : Thread nD τ) arg24 fullShare R ∗ owns (c : Thread nD τ) arg25 fullShare P ∗ owns (c : Thread nD τ) arg26 fullShare Qv) ∗ Held c arg27 (Oval v98 R P Qv X0 X1 X2) (i)) ∗ Owe c)
      ⊢ iprop((iprop(Rdy c arg0 harg0 arg1 harg1 X0 X1 q buf hbuf sems (g') ∗ ((owns (c : Thread nD τ) arg2 fullShare X2 ∗ owns (c : Thread nD τ) arg18 fullShare (Sval X0) ∗ owns (c : Thread nD τ) arg24 fullShare R ∗ owns (c : Thread nD τ) arg25 fullShare P ∗ owns (c : Thread nD τ) arg26 fullShare Qv) ∗ Held c arg27 (Oval v98 R P Qv X0 X1 X2) (i')) ∗ Owe c) -∗ Q ⟨⟩)
        -∗ wp frame (wpE defs 𝒱 (c : Thread nD τ) bd) Set.univ (seg (w3 arg1 buf sems k j) (use3 arg2 arg18 arg24 arg25 arg26 arg27 buf v98 k j) f) Q) := by
  subst hg hg' hi''
  unfold seg
  simp only [wp_bind]
  iintro ⟨HR, HP, HO⟩ Hk
  iapply (wait_second 𝒱 c bd arg0 harg0 arg1 harg1 X0 X1 buf hbuf squeezes_S1_S_ sems q (32 + i) (by omega) (by omega)) $$ [HR HO]
  · isplitl [HR]; · iexact HR
    iexact HO
  rw [show (32 + i) % 16 = i by omega, show rowBlk (Val := Elt F) (e := .f32) X1 (256 * i) = rows X1 (256 * i) from rfl]
  unfold Free
  iintro ⟨⟨Hb, HS, H0, H1⟩, HO⟩
  iapply (use3_spec (harg2 := harg2) (harg18 := harg18) (harg24 := harg24) (harg25 := harg25) (harg26 := harg26) (harg27 := harg27) (X0 := X0) (X1 := X1) (X2 := X2) (R := R) (P := P) (Qv := Qv) (hbuf := hbuf) (i := i) (hi := hi) (hi' := hi')) $$ [Hb HP]
  · isplitl [Hb]; · iexact Hb
    iexact HP
  iintro ⟨Hb, HP⟩
  iapply (hf (rows X1 (256 * i)) _) $$ [Hb HS H0 H1]
  · unfold Fre Free
    isplitl [Hb]; · iexact Hb
    isplitl [HS]; · iexact HS
    isplitl [H0]; · iexact H0
    iexact H1
  iintro HR
  iapply Hk
  isplitl [HR]; · iexact HR
  isplitl [HP]; · iexact HP
  iexact HO

end Cert.KernelIdeal.Run

end
-- ==== Proof.Passes.lean ====
/-
  Hand-written, untrusted. The trips of the kernel's three loops, and the loops.
-/
module

public import proofs.«01_k».proof.Proof.Run

@[expose] public section

noncomputable section

namespace Cert.KernelIdeal.Passes

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Trips Cert.KernelIdeal.Offsets Cert.KernelIdeal.Run
open Cert.Proof.Slot

variable {F : FTy → Type} [FloatOps F]

local notation "𝕄" => MT nD τ sig Unit (Elt F) ℕ (Pipeline.UD sig nD τ) ℕ

variable (𝒱 : Variants) (c : Dev nD) (bd : Option 𝒱.V)
variable {defs : Defs nD τ sig (Elt F) Λ₀}

variable (arg0 : Memref sig .tc .hbm S4096x4096 .f32) (harg0 : arg0.IsWhole) (arg1 : Memref sig .tc .hbm S4096x4096 .f32) (harg1 : arg1.IsWhole) (arg2 : Memref sig .tc .vmem S4096x8 .f32) (harg2 : arg2.IsWhole) (arg3 : Memref sig .tc .vmem S8x1 .f32) (harg3 : arg3.IsWhole) (arg4 : Memref sig .tc .vmem S1x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x3 .f32) (harg9 : arg9.IsWhole) (arg10 : Memref sig .tc .vmem S64x3 .f32) (harg10 : arg10.IsWhole) (arg11 : Memref sig .tc .vmem S64x4096 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x4096 .f32) (harg15 : arg15.IsWhole) (arg16 : Memref sig .tc .vmem S1x4096 .f32) (harg16 : arg16.IsWhole) (arg17 : Memref sig .tc .vmem S8x4096 .f32) (harg17 : arg17.IsWhole) (arg18 : Memref sig .tc .vmem S4096x4096 .bf16) (harg18 : arg18.IsWhole) (arg19 : Memref sig .tc .vmem S256x4096 .f32) (harg19 : arg19.IsWhole) (arg20 : Memref sig .tc .vmem S256x4096 .f32) (harg20 : arg20.IsWhole) (arg21 : Memref sig .tc .vmem S256x4096 .f32) (harg21 : arg21.IsWhole) (arg22 : Memref sig .tc .vmem S256x4096 .f32) (harg22 : arg22.IsWhole) (arg23 : Memref sig .tc .vmem S4096x8 .bf16) (harg23 : arg23.IsWhole) (arg24 : Memref sig .tc .vmem S4096x8 .bf16) (harg24 : arg24.IsWhole) (arg25 : Memref sig .tc .vmem S4096x8 .bf16) (harg25 : arg25.IsWhole) (arg26 : Memref sig .tc .vmem S4096x8 .f32) (harg26 : arg26.IsWhole) (arg27 : Memref sig .tc .vmem S4096x8 .f32) (harg27 : arg27.IsWhole) (arg28 : DmaSems sig S4) (arg29 : DmaSems sig S4) (arg30 : DmaSems sig S4) (arg31 : DmaSems sig S4)

variable (X0 X1 : FVec F S4096x4096 .f32) (X2 : FVec F S4096x8 .f32)

section Fetch

variable (q : PosShare TreeShare) (buf : Memref sig .tc .vmem S256x4096 .f32) (hbuf : buf.IsWhole) (sems : DmaSems sig S4)

/-- A fetch from the first matrix. -/
theorem fetches_first (hpos : 0 < amt buf) (g : ℕ) (hg : g < 16) (o : BitVec 32 → Fin 2 → ℕ)
    (ho : ∀ (r : Fin 4), ∀ a, (o (BitVec.ofNat 32 (64 * r.val))) a + S64x4096.size a ≤ S4096x4096.size a)
    (ho' : ∀ s : Fin 4, o (BitVec.ofNat 32 (64 * s.val)) = ![256 * (g % 16) + 64 * s.val, 0]) :
    Fetches 𝒱 c bd (defs := defs) arg0 harg0 arg1 harg1 X0 X1 q buf hbuf sems g (fetch arg0 buf sems o ho) := fun Y Q =>
  fetch_first (Val := Elt F) 𝒱 c bd arg0 harg0 arg1 harg1 X0 X1 buf hbuf squeezes_S1_S_ sems q hpos g hg Y _ _ ho'

/-- A fetch from the second matrix. -/
theorem fetches_second (hpos : 0 < amt buf) (g : ℕ) (hg : ¬ g < 16) (hg' : g < 48) (o : BitVec 32 → Fin 2 → ℕ)
    (ho : ∀ (r : Fin 4), ∀ a, (o (BitVec.ofNat 32 (64 * r.val))) a + S64x4096.size a ≤ S4096x4096.size a)
    (ho' : ∀ s : Fin 4, o (BitVec.ofNat 32 (64 * s.val)) = ![256 * (g % 16) + 64 * s.val, 0]) :
    Fetches 𝒱 c bd (defs := defs) arg0 harg0 arg1 harg1 X0 X1 q buf hbuf sems g (fetch arg1 buf sems o ho) := fun Y Q =>
  fetch_second (Val := Elt F) 𝒱 c bd arg0 harg0 arg1 harg1 X0 X1 buf hbuf squeezes_S1_S_ sems q hpos g hg hg' Y _ _ ho'

/-- No fetch, past the end of the stream. -/
theorem fetches_end (g : ℕ) (hg : ¬ g < 48) :
    Fetches 𝒱 c bd (defs := defs) arg0 harg0 arg1 harg1 X0 X1 q buf hbuf sems g (.ret ⟨⟩) := fun Y Q => by
  unfold Rdy Fre
  rw [ready_end (Val := Elt F) c arg0 harg0 arg1 harg1 X0 X1 buf hbuf squeezes_S1_S_ sems q g hg]
  iintro H Hk
  rw [wp_ret]
  imodintro
  iapply Hk
  iexists Y
  iexact H

end Fetch

/-- The ring, its next four blocks from block `g` of the stream on, and what the thread owes. -/
def Ring (g : ℕ) : sProp 𝕄 :=
  iprop(Rdy c arg0 harg0 arg1 harg1 X0 X1 (quarter fullShare 0) arg19 harg19 arg28 (g)
    ∗ Rdy c arg0 harg0 arg1 harg1 X0 X1 (quarter fullShare 1) arg20 harg20 arg29 (g + 1)
    ∗ Rdy c arg0 harg0 arg1 harg1 X0 X1 (quarter fullShare 2) arg21 harg21 arg30 (g + 2)
    ∗ Rdy c arg0 harg0 arg1 harg1 X0 X1 (quarter fullShare 3) arg22 harg22 arg31 (g + 3)
    ∗ Owe c)

include harg18 harg23 in
/-- The four segments of a trip of loop 1. -/
theorem four1_spec  (k : Fin k0_t1_loop.trips) (g gn : ℕ) (hg : g = 0 + 4 * k.val) (hgn : gn = 0 + 4 * (k.val + 1)) (f0 f1 f2 f3 : Prog (TpuEff nD τ sig (Elt F) Λ₀ .tc) PUnit)
    (hf0 : Fetches 𝒱 c bd (defs := defs) arg0 harg0 arg1 harg1 X0 X1 (quarter fullShare 0) arg19 harg19 arg28 (gn) f0)
    (hf1 : Fetches 𝒱 c bd (defs := defs) arg0 harg0 arg1 harg1 X0 X1 (quarter fullShare 1) arg20 harg20 arg29 (gn + 1) f1)
    (hf2 : Fetches 𝒱 c bd (defs := defs) arg0 harg0 arg1 harg1 X0 X1 (quarter fullShare 2) arg21 harg21 arg30 (gn + 2) f2)
    (hf3 : Fetches 𝒱 c bd (defs := defs) arg0 harg0 arg1 harg1 X0 X1 (quarter fullShare 3) arg22 harg22 arg31 (gn + 3) f3)
    {Q : PUnit → sProp 𝕄} :
    iprop(Ring c arg0 harg0 arg1 harg1 arg19 harg19 arg20 harg20 arg21 harg21 arg22 harg22 arg28 arg29 arg30 arg31 X0 X1 (g) ∗ (Held c arg23 (Uval X0 X2) (4 * k.val) ∗ Held c arg18 (Sval X0) (4 * k.val)))
      ⊢ iprop((iprop(Ring c arg0 harg0 arg1 harg1 arg19 harg19 arg20 harg20 arg21 harg21 arg22 harg22 arg28 arg29 arg30 arg31 X0 X1 (gn) ∗ (Held c arg23 (Uval X0 X2) (4 * (k.val + 1)) ∗ Held c arg18 (Sval X0) (4 * (k.val + 1)))) -∗ Q ⟨⟩)
        -∗ wp frame (wpE defs 𝒱 (c : Thread nD τ) bd) Set.univ (four
        (seg (w1 arg0 arg19 arg28 k 0) (use1 arg18 harg18 arg23 harg23 arg19 (k0_pay51 X2) k 0) f0)
        (seg (w1 arg0 arg20 arg29 k 1) (use1 arg18 harg18 arg23 harg23 arg20 (k0_pay51 X2) k 1) f1)
        (seg (w1 arg0 arg21 arg30 k 2) (use1 arg18 harg18 arg23 harg23 arg21 (k0_pay51 X2) k 2) f2)
        (seg (w1 arg0 arg22 arg31 k 3) (use1 arg18 harg18 arg23 harg23 arg22 (k0_pay51 X2) k 3) f3)) Q) := by
  have hk : k.val < 4 := k.isLt
  unfold four Ring
  simp only [wp_bind]
  iintro ⟨⟨R0, R1, R2, R3, HO⟩, HP⟩ Hk
  iapply (seg1_spec 𝒱 c bd (defs := defs) (arg0 := arg0) (harg0 := harg0) (arg1 := arg1) (harg1 := harg1) (X0 := X0) (X1 := X1) (X2 := X2) (harg18 := harg18) (harg23 := harg23) (q := quarter fullShare 0) (buf := arg19) (hbuf := harg19) (sems := arg28) (k := k) (j := 0) (i := 4 * k.val) (hi := by simp) (hi' := by omega)
    (g := g) (g' := gn) (i' := 4 * k.val + 1) (hg := by omega) (hg' := by omega) (hi'' := by omega) (f := f0) (hf := hf0)) $$ [R0 HP HO]
  · isplitl [R0]; · iexact R0
    isplitl [HP]; · iexact HP
    iexact HO
  iintro ⟨R0, HP, HO⟩
  iapply (seg1_spec 𝒱 c bd (defs := defs) (arg0 := arg0) (harg0 := harg0) (arg1 := arg1) (harg1 := harg1) (X0 := X0) (X1 := X1) (X2 := X2) (harg18 := harg18) (harg23 := harg23) (q := quarter fullShare 1) (buf := arg20) (hbuf := harg20) (sems := arg29) (k := k) (j := 1) (i := 4 * k.val + 1) (hi := by simp) (hi' := by omega)
    (g := g + 1) (g' := gn + 1) (i' := 4 * k.val + 2) (hg := by omega) (hg' := by omega) (hi'' := by omega) (f := f1) (hf := hf1)) $$ [R1 HP HO]
  · isplitl [R1]; · iexact R1
    isplitl [HP]; · iexact HP
    iexact HO
  iintro ⟨R1, HP, HO⟩
  iapply (seg1_spec 𝒱 c bd (defs := defs) (arg0 := arg0) (harg0 := harg0) (arg1 := arg1) (harg1 := harg1) (X0 := X0) (X1 := X1) (X2 := X2) (harg18 := harg18) (harg23 := harg23) (q := quarter fullShare 2) (buf := arg21) (hbuf := harg21) (sems := arg30) (k := k) (j := 2) (i := 4 * k.val + 2) (hi := by simp) (hi' := by omega)
    (g := g + 2) (g' := gn + 2) (i' := 4 * k.val + 3) (hg := by omega) (hg' := by omega) (hi'' := by omega) (f := f2) (hf := hf2)) $$ [R2 HP HO]
  · isplitl [R2]; · iexact R2
    isplitl [HP]; · iexact HP
    iexact HO
  iintro ⟨R2, HP, HO⟩
  iapply (seg1_spec 𝒱 c bd (defs := defs) (arg0 := arg0) (harg0 := harg0) (arg1 := arg1) (harg1 := harg1) (X0 := X0) (X1 := X1) (X2 := X2) (harg18 := harg18) (harg23 := harg23) (q := quarter fullShare 3) (buf := arg22) (hbuf := harg22) (sems := arg31) (k := k) (j := 3) (i := 4 * k.val + 3) (hi := by simp) (hi' := by omega)
    (g := g + 3) (g' := gn + 3) (i' := 4 * (k.val + 1)) (hg := by omega) (hg' := by omega) (hi'' := by omega) (f := f3) (hf := hf3)) $$ [R3 HP HO]
  · isplitl [R3]; · iexact R3
    isplitl [HP]; · iexact HP
    iexact HO
  iintro ⟨R3, HP, HO⟩
  iapply (le_wp_ret _ _)
  iapply Hk
  isplitr [HP]; swap; · iexact HP
  isplitl [R0]; · iexact R0
  isplitl [R1]; · iexact R1
  isplitl [R2]; · iexact R2
  isplitl [R3]; · iexact R3
  iexact HO

include harg23 harg24 harg25 harg26 in
/-- The four segments of a trip of loop 2. -/
theorem four2_spec (v109 v120 v125 v130 v135 v140 : FVec F S1x1 .f32) (k : Fin k0_t2_loop.trips) (g gn : ℕ) (hg : g = 16 + 4 * k.val) (hgn : gn = 16 + 4 * (k.val + 1)) (f0 f1 f2 f3 : Prog (TpuEff nD τ sig (Elt F) Λ₀ .tc) PUnit)
    (hf0 : Fetches 𝒱 c bd (defs := defs) arg0 harg0 arg1 harg1 X0 X1 (quarter fullShare 0) arg19 harg19 arg28 (gn) f0)
    (hf1 : Fetches 𝒱 c bd (defs := defs) arg0 harg0 arg1 harg1 X0 X1 (quarter fullShare 1) arg20 harg20 arg29 (gn + 1) f1)
    (hf2 : Fetches 𝒱 c bd (defs := defs) arg0 harg0 arg1 harg1 X0 X1 (quarter fullShare 2) arg21 harg21 arg30 (gn + 2) f2)
    (hf3 : Fetches 𝒱 c bd (defs := defs) arg0 harg0 arg1 harg1 X0 X1 (quarter fullShare 3) arg22 harg22 arg31 (gn + 3) f3)
    {Q : PUnit → sProp 𝕄} :
    iprop(Ring c arg0 harg0 arg1 harg1 arg19 harg19 arg20 harg20 arg21 harg21 arg22 harg22 arg28 arg29 arg30 arg31 X0 X1 (g) ∗ (owns (c : Thread nD τ) arg23 fullShare (Uval X0 X2) ∗ Held c arg24 (Rval v109 v120 X0 X1 X2) (4 * k.val) ∗ Held c arg25 (Pval v125 v130 X0 X1 X2) (4 * k.val) ∗ Held c arg26 (Qval v135 v140 X0 X1 X2) (4 * k.val)))
      ⊢ iprop((iprop(Ring c arg0 harg0 arg1 harg1 arg19 harg19 arg20 harg20 arg21 harg21 arg22 harg22 arg28 arg29 arg30 arg31 X0 X1 (gn) ∗ (owns (c : Thread nD τ) arg23 fullShare (Uval X0 X2) ∗ Held c arg24 (Rval v109 v120 X0 X1 X2) (4 * (k.val + 1)) ∗ Held c arg25 (Pval v125 v130 X0 X1 X2) (4 * (k.val + 1)) ∗ Held c arg26 (Qval v135 v140 X0 X1 X2) (4 * (k.val + 1)))) -∗ Q ⟨⟩)
        -∗ wp frame (wpE defs 𝒱 (c : Thread nD τ) bd) Set.univ (four
        (seg (w2 arg1 arg19 arg28 k 0) (use2 arg23 arg24 harg24 arg25 harg25 arg26 arg19 v109 v120 v125 v130 v135 v140 (k0_pay51 X2) k 0) f0)
        (seg (w2 arg1 arg20 arg29 k 1) (use2 arg23 arg24 harg24 arg25 harg25 arg26 arg20 v109 v120 v125 v130 v135 v140 (k0_pay51 X2) k 1) f1)
        (seg (w2 arg1 arg21 arg30 k 2) (use2 arg23 arg24 harg24 arg25 harg25 arg26 arg21 v109 v120 v125 v130 v135 v140 (k0_pay51 X2) k 2) f2)
        (seg (w2 arg1 arg22 arg31 k 3) (use2 arg23 arg24 harg24 arg25 harg25 arg26 arg22 v109 v120 v125 v130 v135 v140 (k0_pay51 X2) k 3) f3)) Q) := by
  have hk : k.val < 4 := k.isLt
  unfold four Ring
  simp only [wp_bind]
  iintro ⟨⟨R0, R1, R2, R3, HO⟩, HP⟩ Hk
  iapply (seg2_spec 𝒱 c bd (defs := defs) (arg0 := arg0) (harg0 := harg0) (arg1 := arg1) (harg1 := harg1) (X0 := X0) (X1 := X1) (X2 := X2) (v109 := v109) (v120 := v120) (v125 := v125) (v130 := v130) (v135 := v135) (v140 := v140) (harg23 := harg23) (harg24 := harg24) (harg25 := harg25) (harg26 := harg26) (q := quarter fullShare 0) (buf := arg19) (hbuf := harg19) (sems := arg28) (k := k) (j := 0) (i := 4 * k.val) (hi := by simp) (hi' := by omega)
    (g := g) (g' := gn) (i' := 4 * k.val + 1) (hg := by omega) (hg' := by omega) (hi'' := by omega) (f := f0) (hf := hf0)) $$ [R0 HP HO]
  · isplitl [R0]; · iexact R0
    isplitl [HP]; · iexact HP
    iexact HO
  iintro ⟨R0, HP, HO⟩
  iapply (seg2_spec 𝒱 c bd (defs := defs) (arg0 := arg0) (harg0 := harg0) (arg1 := arg1) (harg1 := harg1) (X0 := X0) (X1 := X1) (X2 := X2) (v109 := v109) (v120 := v120) (v125 := v125) (v130 := v130) (v135 := v135) (v140 := v140) (harg23 := harg23) (harg24 := harg24) (harg25 := harg25) (harg26 := harg26) (q := quarter fullShare 1) (buf := arg20) (hbuf := harg20) (sems := arg29) (k := k) (j := 1) (i := 4 * k.val + 1) (hi := by simp) (hi' := by omega)
    (g := g + 1) (g' := gn + 1) (i' := 4 * k.val + 2) (hg := by omega) (hg' := by omega) (hi'' := by omega) (f := f1) (hf := hf1)) $$ [R1 HP HO]
  · isplitl [R1]; · iexact R1
    isplitl [HP]; · iexact HP
    iexact HO
  iintro ⟨R1, HP, HO⟩
  iapply (seg2_spec 𝒱 c bd (defs := defs) (arg0 := arg0) (harg0 := harg0) (arg1 := arg1) (harg1 := harg1) (X0 := X0) (X1 := X1) (X2 := X2) (v109 := v109) (v120 := v120) (v125 := v125) (v130 := v130) (v135 := v135) (v140 := v140) (harg23 := harg23) (harg24 := harg24) (harg25 := harg25) (harg26 := harg26) (q := quarter fullShare 2) (buf := arg21) (hbuf := harg21) (sems := arg30) (k := k) (j := 2) (i := 4 * k.val + 2) (hi := by simp) (hi' := by omega)
    (g := g + 2) (g' := gn + 2) (i' := 4 * k.val + 3) (hg := by omega) (hg' := by omega) (hi'' := by omega) (f := f2) (hf := hf2)) $$ [R2 HP HO]
  · isplitl [R2]; · iexact R2
    isplitl [HP]; · iexact HP
    iexact HO
  iintro ⟨R2, HP, HO⟩
  iapply (seg2_spec 𝒱 c bd (defs := defs) (arg0 := arg0) (harg0 := harg0) (arg1 := arg1) (harg1 := harg1) (X0 := X0) (X1 := X1) (X2 := X2) (v109 := v109) (v120 := v120) (v125 := v125) (v130 := v130) (v135 := v135) (v140 := v140) (harg23 := harg23) (harg24 := harg24) (harg25 := harg25) (harg26 := harg26) (q := quarter fullShare 3) (buf := arg22) (hbuf := harg22) (sems := arg31) (k := k) (j := 3) (i := 4 * k.val + 3) (hi := by simp) (hi' := by omega)
    (g := g + 3) (g' := gn + 3) (i' := 4 * (k.val + 1)) (hg := by omega) (hg' := by omega) (hi'' := by omega) (f := f3) (hf := hf3)) $$ [R3 HP HO]
  · isplitl [R3]; · iexact R3
    isplitl [HP]; · iexact HP
    iexact HO
  iintro ⟨R3, HP, HO⟩
  iapply (le_wp_ret _ _)
  iapply Hk
  isplitr [HP]; swap; · iexact HP
  isplitl [R0]; · iexact R0
  isplitl [R1]; · iexact R1
  isplitl [R2]; · iexact R2
  isplitl [R3]; · iexact R3
  iexact HO

include harg2 harg18 harg24 harg25 harg26 harg27 in
/-- The four segments of a trip of loop 3. -/
theorem four3_spec (v98 : FVec F S1x1 .f32) (R P : FVec F S4096x8 .bf16) (Qv : FVec F S4096x8 .f32) (k : Fin k0_t3_loop.trips) (g gn : ℕ) (hg : g = 32 + 4 * k.val) (hgn : gn = 32 + 4 * (k.val + 1)) (f0 f1 f2 f3 : Prog (TpuEff nD τ sig (Elt F) Λ₀ .tc) PUnit)
    (hf0 : Fetches 𝒱 c bd (defs := defs) arg0 harg0 arg1 harg1 X0 X1 (quarter fullShare 0) arg19 harg19 arg28 (gn) f0)
    (hf1 : Fetches 𝒱 c bd (defs := defs) arg0 harg0 arg1 harg1 X0 X1 (quarter fullShare 1) arg20 harg20 arg29 (gn + 1) f1)
    (hf2 : Fetches 𝒱 c bd (defs := defs) arg0 harg0 arg1 harg1 X0 X1 (quarter fullShare 2) arg21 harg21 arg30 (gn + 2) f2)
    (hf3 : Fetches 𝒱 c bd (defs := defs) arg0 harg0 arg1 harg1 X0 X1 (quarter fullShare 3) arg22 harg22 arg31 (gn + 3) f3)
    {Q : PUnit → sProp 𝕄} :
    iprop(Ring c arg0 harg0 arg1 harg1 arg19 harg19 arg20 harg20 arg21 harg21 arg22 harg22 arg28 arg29 arg30 arg31 X0 X1 (g) ∗ ((owns (c : Thread nD τ) arg2 fullShare X2 ∗ owns (c : Thread nD τ) arg18 fullShare (Sval X0) ∗ owns (c : Thread nD τ) arg24 fullShare R ∗ owns (c : Thread nD τ) arg25 fullShare P ∗ owns (c : Thread nD τ) arg26 fullShare Qv) ∗ Held c arg27 (Oval v98 R P Qv X0 X1 X2) (4 * k.val)))
      ⊢ iprop((iprop(Ring c arg0 harg0 arg1 harg1 arg19 harg19 arg20 harg20 arg21 harg21 arg22 harg22 arg28 arg29 arg30 arg31 X0 X1 (gn) ∗ ((owns (c : Thread nD τ) arg2 fullShare X2 ∗ owns (c : Thread nD τ) arg18 fullShare (Sval X0) ∗ owns (c : Thread nD τ) arg24 fullShare R ∗ owns (c : Thread nD τ) arg25 fullShare P ∗ owns (c : Thread nD τ) arg26 fullShare Qv) ∗ Held c arg27 (Oval v98 R P Qv X0 X1 X2) (4 * (k.val + 1)))) -∗ Q ⟨⟩)
        -∗ wp frame (wpE defs 𝒱 (c : Thread nD τ) bd) Set.univ (four
        (seg (w3 arg1 arg19 arg28 k 0) (use3 arg2 arg18 arg24 arg25 arg26 arg27 arg19 v98 k 0) f0)
        (seg (w3 arg1 arg20 arg29 k 1) (use3 arg2 arg18 arg24 arg25 arg26 arg27 arg20 v98 k 1) f1)
        (seg (w3 arg1 arg21 arg30 k 2) (use3 arg2 arg18 arg24 arg25 arg26 arg27 arg21 v98 k 2) f2)
        (seg (w3 arg1 arg22 arg31 k 3) (use3 arg2 arg18 arg24 arg25 arg26 arg27 arg22 v98 k 3) f3)) Q) := by
  have hk : k.val < 4 := k.isLt
  unfold four Ring
  simp only [wp_bind]
  iintro ⟨⟨R0, R1, R2, R3, HO⟩, HP⟩ Hk
  iapply (seg3_spec 𝒱 c bd (defs := defs) (arg0 := arg0) (harg0 := harg0) (arg1 := arg1) (harg1 := harg1) (X0 := X0) (X1 := X1) (X2 := X2) (v98 := v98) (R := R) (P := P) (Qv := Qv) (harg2 := harg2) (harg18 := harg18) (harg24 := harg24) (harg25 := harg25) (harg26 := harg26) (harg27 := harg27) (q := quarter fullShare 0) (buf := arg19) (hbuf := harg19) (sems := arg28) (k := k) (j := 0) (i := 4 * k.val) (hi := by simp) (hi' := by omega)
    (g := g) (g' := gn) (i' := 4 * k.val + 1) (hg := by omega) (hg' := by omega) (hi'' := by omega) (f := f0) (hf := hf0)) $$ [R0 HP HO]
  · isplitl [R0]; · iexact R0
    isplitl [HP]; · iexact HP
    iexact HO
  iintro ⟨R0, HP, HO⟩
  iapply (seg3_spec 𝒱 c bd (defs := defs) (arg0 := arg0) (harg0 := harg0) (arg1 := arg1) (harg1 := harg1) (X0 := X0) (X1 := X1) (X2 := X2) (v98 := v98) (R := R) (P := P) (Qv := Qv) (harg2 := harg2) (harg18 := harg18) (harg24 := harg24) (harg25 := harg25) (harg26 := harg26) (harg27 := harg27) (q := quarter fullShare 1) (buf := arg20) (hbuf := harg20) (sems := arg29) (k := k) (j := 1) (i := 4 * k.val + 1) (hi := by simp) (hi' := by omega)
    (g := g + 1) (g' := gn + 1) (i' := 4 * k.val + 2) (hg := by omega) (hg' := by omega) (hi'' := by omega) (f := f1) (hf := hf1)) $$ [R1 HP HO]
  · isplitl [R1]; · iexact R1
    isplitl [HP]; · iexact HP
    iexact HO
  iintro ⟨R1, HP, HO⟩
  iapply (seg3_spec 𝒱 c bd (defs := defs) (arg0 := arg0) (harg0 := harg0) (arg1 := arg1) (harg1 := harg1) (X0 := X0) (X1 := X1) (X2 := X2) (v98 := v98) (R := R) (P := P) (Qv := Qv) (harg2 := harg2) (harg18 := harg18) (harg24 := harg24) (harg25 := harg25) (harg26 := harg26) (harg27 := harg27) (q := quarter fullShare 2) (buf := arg21) (hbuf := harg21) (sems := arg30) (k := k) (j := 2) (i := 4 * k.val + 2) (hi := by simp) (hi' := by omega)
    (g := g + 2) (g' := gn + 2) (i' := 4 * k.val + 3) (hg := by omega) (hg' := by omega) (hi'' := by omega) (f := f2) (hf := hf2)) $$ [R2 HP HO]
  · isplitl [R2]; · iexact R2
    isplitl [HP]; · iexact HP
    iexact HO
  iintro ⟨R2, HP, HO⟩
  iapply (seg3_spec 𝒱 c bd (defs := defs) (arg0 := arg0) (harg0 := harg0) (arg1 := arg1) (harg1 := harg1) (X0 := X0) (X1 := X1) (X2 := X2) (v98 := v98) (R := R) (P := P) (Qv := Qv) (harg2 := harg2) (harg18 := harg18) (harg24 := harg24) (harg25 := harg25) (harg26 := harg26) (harg27 := harg27) (q := quarter fullShare 3) (buf := arg22) (hbuf := harg22) (sems := arg31) (k := k) (j := 3) (i := 4 * k.val + 3) (hi := by simp) (hi' := by omega)
    (g := g + 3) (g' := gn + 3) (i' := 4 * (k.val + 1)) (hg := by omega) (hg' := by omega) (hi'' := by omega) (f := f3) (hf := hf3)) $$ [R3 HP HO]
  · isplitl [R3]; · iexact R3
    isplitl [HP]; · iexact HP
    iexact HO
  iintro ⟨R3, HP, HO⟩
  iapply (le_wp_ret _ _)
  iapply Hk
  isplitr [HP]; swap; · iexact HP
  isplitl [R0]; · iexact R0
  isplitl [R1]; · iexact R1
  isplitl [R2]; · iexact R2
  isplitl [R3]; · iexact R3
  iexact HO

end Cert.KernelIdeal.Passes

end
-- ==== Proof.Body.lean ====
/-
  Hand-written, untrusted. The kernel's three loops by invariants, and the whole kernel body.
-/
module

public import proofs.«01_k».proof.Proof.Passes

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Trips Cert.KernelIdeal.Offsets Cert.KernelIdeal.Run Cert.KernelIdeal.Passes
open Cert.Proof.Slot

variable {F : FTy → Type} [FloatOps F]

local notation "𝕄" => MT nD τ sig Unit (Elt F) ℕ (Pipeline.UD sig nD τ) ℕ

variable (𝒱 : Variants) (c : Dev nD) (bd : Option 𝒱.V)
variable {defs : Defs nD τ sig (Elt F) Λ₀}

variable (arg0 : Memref sig .tc .hbm S4096x4096 .f32) (harg0 : arg0.IsWhole) (arg1 : Memref sig .tc .hbm S4096x4096 .f32) (harg1 : arg1.IsWhole) (arg2 : Memref sig .tc .vmem S4096x8 .f32) (harg2 : arg2.IsWhole) (arg3 : Memref sig .tc .vmem S8x1 .f32) (harg3 : arg3.IsWhole) (arg4 : Memref sig .tc .vmem S1x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x3 .f32) (harg9 : arg9.IsWhole) (arg10 : Memref sig .tc .vmem S64x3 .f32) (harg10 : arg10.IsWhole) (arg11 : Memref sig .tc .vmem S64x4096 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x4096 .f32) (harg15 : arg15.IsWhole) (arg16 : Memref sig .tc .vmem S1x4096 .f32) (harg16 : arg16.IsWhole) (arg17 : Memref sig .tc .vmem S8x4096 .f32) (harg17 : arg17.IsWhole) (arg18 : Memref sig .tc .vmem S4096x4096 .bf16) (harg18 : arg18.IsWhole) (arg19 : Memref sig .tc .vmem S256x4096 .f32) (harg19 : arg19.IsWhole) (arg20 : Memref sig .tc .vmem S256x4096 .f32) (harg20 : arg20.IsWhole) (arg21 : Memref sig .tc .vmem S256x4096 .f32) (harg21 : arg21.IsWhole) (arg22 : Memref sig .tc .vmem S256x4096 .f32) (harg22 : arg22.IsWhole) (arg23 : Memref sig .tc .vmem S4096x8 .bf16) (harg23 : arg23.IsWhole) (arg24 : Memref sig .tc .vmem S4096x8 .bf16) (harg24 : arg24.IsWhole) (arg25 : Memref sig .tc .vmem S4096x8 .bf16) (harg25 : arg25.IsWhole) (arg26 : Memref sig .tc .vmem S4096x8 .f32) (harg26 : arg26.IsWhole) (arg27 : Memref sig .tc .vmem S4096x8 .f32) (harg27 : arg27.IsWhole) (arg28 : DmaSems sig S4) (arg29 : DmaSems sig S4) (arg30 : DmaSems sig S4) (arg31 : DmaSems sig S4)

variable (X0 X1 : FVec F S4096x4096 .f32) (X2 : FVec F S4096x8 .f32)

variable (v91 : FVec F S64x3 .f32) (v93 : FVec F S64x3 .f32) (v98 : FVec F S1x1 .f32) (v109 : FVec F S1x1 .f32) (v114 : FVec F S1x1 .f32) (v117 : FVec F S64x1 .f32)
variable (hp0 : 0 < amt arg19) (hp1 : 0 < amt arg20) (hp2 : 0 < amt arg21) (hp3 : 0 < amt arg22)

include harg18 harg23 hp0 hp1 hp2 hp3 in
/-- A trip of loop 1. -/
theorem trip1 (k : Fin k0_t1_loop.trips) (a : Unit) :
    iprop(Ring c arg0 harg0 arg1 harg1 arg19 harg19 arg20 harg20 arg21 harg21 arg22 harg22 arg28 arg29 arg30 arg31 X0 X1 (0 + 4 * k.val) ∗ (Held c arg23 (Uval X0 X2) (4 * k.val) ∗ Held c arg18 (Sval X0) (4 * k.val)))
      ⊢ wp frame (wpE defs 𝒱 (c : Thread nD τ) bd) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 X2 k a)
        (fun _ => iprop(Ring c arg0 harg0 arg1 harg1 arg19 harg19 arg20 harg20 arg21 harg21 arg22 harg22 arg28 arg29 arg30 arg31 X0 X1 (0 + 4 * (k.val + 1)) ∗ (Held c arg23 (Uval X0 X2) (4 * (k.val + 1)) ∗ Held c arg18 (Sval X0) (4 * (k.val + 1))))) := by
  have hk : k.val < 4 := k.isLt
  cases a
  by_cases h : k.val < 3
  · obtain ⟨h1, h2, h3, h4, h5, h6, h7, h8⟩ := conds1_lt k h
    rw [t1_lt arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 X2 k h1 h2 h3 h4 h5 h6 h7 h8]
    iintro H
    iapply (four1_spec 𝒱 c bd (defs := defs) (X0 := X0) (X1 := X1) (X2 := X2) (arg0 := arg0) (harg0 := harg0) (arg1 := arg1) (harg1 := harg1)  (harg18 := harg18) (harg23 := harg23) (k := k) (g := 0 + 4 * k.val)
      (gn := 0 + 4 * (k.val + 1)) (hg := rfl) (hgn := rfl)
      (hf0 := fetches_first 𝒱 c bd arg0 harg0 arg1 harg1 X0 X1 (quarter fullShare 0) arg19 harg19 arg28 hp0 (0 + 4 * (k.val + 1)) (by omega) _ _ (fun s => (off4_eq k h s).trans (by rw [show 0 + 4 * (k.val + 1) = 4 * k.val + 0 + 4 by omega])))
      (hf1 := fetches_first 𝒱 c bd arg0 harg0 arg1 harg1 X0 X1 (quarter fullShare 1) arg20 harg20 arg29 hp1 (0 + 4 * (k.val + 1) + 1) (by omega) _ _ (fun s => (off6_eq k h s).trans (by rw [show 0 + 4 * (k.val + 1) + 1 = 4 * k.val + 1 + 4 by omega])))
      (hf2 := fetches_first 𝒱 c bd arg0 harg0 arg1 harg1 X0 X1 (quarter fullShare 2) arg21 harg21 arg30 hp2 (0 + 4 * (k.val + 1) + 2) (by omega) _ _ (fun s => (off8_eq k h s).trans (by rw [show 0 + 4 * (k.val + 1) + 2 = 4 * k.val + 2 + 4 by omega])))
      (hf3 := fetches_first 𝒱 c bd arg0 harg0 arg1 harg1 X0 X1 (quarter fullShare 3) arg22 harg22 arg31 hp3 (0 + 4 * (k.val + 1) + 3) (by omega) _ _ (fun s => (off10_eq k h s).trans (by rw [show 0 + 4 * (k.val + 1) + 3 = 4 * k.val + 3 + 4 by omega])))) $$ H
    iintro H
    iexact H
  · obtain ⟨h1, h2, h3, h4, h5, h6, h7, h8⟩ := conds1_last k h
    rw [t1_last arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 X2 k h2 h1 h4 h3 h6 h5 h8 h7]
    iintro H
    iapply (four1_spec 𝒱 c bd (defs := defs) (X0 := X0) (X1 := X1) (X2 := X2) (arg0 := arg0) (harg0 := harg0) (arg1 := arg1) (harg1 := harg1)  (harg18 := harg18) (harg23 := harg23) (k := k) (g := 0 + 4 * k.val)
      (gn := 0 + 4 * (k.val + 1)) (hg := rfl) (hgn := rfl)
      (hf0 := fetches_second 𝒱 c bd arg0 harg0 arg1 harg1 X0 X1 (quarter fullShare 0) arg19 harg19 arg28 hp0 (0 + 4 * (k.val + 1)) (by omega) (by omega) _ _ (fun s => (off5_eq k h s).trans (by rw [show 0 + 4 * (k.val + 1) = 4 * k.val + 0 + 4 by omega])))
      (hf1 := fetches_second 𝒱 c bd arg0 harg0 arg1 harg1 X0 X1 (quarter fullShare 1) arg20 harg20 arg29 hp1 (0 + 4 * (k.val + 1) + 1) (by omega) (by omega) _ _ (fun s => (off7_eq k h s).trans (by rw [show 0 + 4 * (k.val + 1) + 1 = 4 * k.val + 1 + 4 by omega])))
      (hf2 := fetches_second 𝒱 c bd arg0 harg0 arg1 harg1 X0 X1 (quarter fullShare 2) arg21 harg21 arg30 hp2 (0 + 4 * (k.val + 1) + 2) (by omega) (by omega) _ _ (fun s => (off9_eq k h s).trans (by rw [show 0 + 4 * (k.val + 1) + 2 = 4 * k.val + 2 + 4 by omega])))
      (hf3 := fetches_second 𝒱 c bd arg0 harg0 arg1 harg1 X0 X1 (quarter fullShare 3) arg22 harg22 arg31 hp3 (0 + 4 * (k.val + 1) + 3) (by omega) (by omega) _ _ (fun s => (off11_eq k h s).trans (by rw [show 0 + 4 * (k.val + 1) + 3 = 4 * k.val + 3 + 4 by omega])))) $$ H
    iintro H
    iexact H

include harg23 harg24 harg25 harg26 hp0 hp1 hp2 hp3 in
/-- A trip of loop 2. -/
theorem trip2 (k : Fin k0_t2_loop.trips) (a : Unit) :
    iprop(Ring c arg0 harg0 arg1 harg1 arg19 harg19 arg20 harg20 arg21 harg21 arg22 harg22 arg28 arg29 arg30 arg31 X0 X1 (16 + 4 * k.val) ∗ (owns (c : Thread nD τ) arg23 fullShare (Uval X0 X2) ∗ Held c arg24 (Rval v109 (k0_pay46 v114 v117) X0 X1 X2) (4 * k.val) ∗ Held c arg25 (Pval (k0_pay47 v91 v93) (k0_pay48 v91 v93) X0 X1 X2) (4 * k.val) ∗ Held c arg26 (Qval (k0_pay49 v91 v93) (k0_pay50 v91 v93) X0 X1 X2) (4 * k.val)))
      ⊢ wp frame (wpE defs 𝒱 (c : Thread nD τ) bd) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 X2 k a)
        (fun _ => iprop(Ring c arg0 harg0 arg1 harg1 arg19 harg19 arg20 harg20 arg21 harg21 arg22 harg22 arg28 arg29 arg30 arg31 X0 X1 (16 + 4 * (k.val + 1)) ∗ (owns (c : Thread nD τ) arg23 fullShare (Uval X0 X2) ∗ Held c arg24 (Rval v109 (k0_pay46 v114 v117) X0 X1 X2) (4 * (k.val + 1)) ∗ Held c arg25 (Pval (k0_pay47 v91 v93) (k0_pay48 v91 v93) X0 X1 X2) (4 * (k.val + 1)) ∗ Held c arg26 (Qval (k0_pay49 v91 v93) (k0_pay50 v91 v93) X0 X1 X2) (4 * (k.val + 1))))) := by
  have hk : k.val < 4 := k.isLt
  cases a
  by_cases h : k.val < 3
  · obtain ⟨h9, h10, h11, h12, h13, h14, h15, h16⟩ := conds2_lt k h
    rw [t2_lt arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 X2 k h9 h10 h11 h12 h13 h14 h15 h16]
    iintro H
    iapply (four2_spec 𝒱 c bd (defs := defs) (X0 := X0) (X1 := X1) (X2 := X2) (arg0 := arg0) (harg0 := harg0) (arg1 := arg1) (harg1 := harg1) (v109 := v109) (v120 := k0_pay46 v114 v117) (v125 := k0_pay47 v91 v93) (v130 := k0_pay48 v91 v93) (v135 := k0_pay49 v91 v93) (v140 := k0_pay50 v91 v93) (harg23 := harg23) (harg24 := harg24) (harg25 := harg25) (harg26 := harg26) (k := k) (g := 16 + 4 * k.val)
      (gn := 16 + 4 * (k.val + 1)) (hg := rfl) (hgn := rfl)
      (hf0 := fetches_second 𝒱 c bd arg0 harg0 arg1 harg1 X0 X1 (quarter fullShare 0) arg19 harg19 arg28 hp0 (16 + 4 * (k.val + 1)) (by omega) (by omega) _ _ (fun s => (off14_eq k h s).trans (by rw [show 16 + 4 * (k.val + 1) = 16 + (4 * k.val + 0) + 4 by omega])))
      (hf1 := fetches_second 𝒱 c bd arg0 harg0 arg1 harg1 X0 X1 (quarter fullShare 1) arg20 harg20 arg29 hp1 (16 + 4 * (k.val + 1) + 1) (by omega) (by omega) _ _ (fun s => (off16_eq k h s).trans (by rw [show 16 + 4 * (k.val + 1) + 1 = 16 + (4 * k.val + 1) + 4 by omega])))
      (hf2 := fetches_second 𝒱 c bd arg0 harg0 arg1 harg1 X0 X1 (quarter fullShare 2) arg21 harg21 arg30 hp2 (16 + 4 * (k.val + 1) + 2) (by omega) (by omega) _ _ (fun s => (off18_eq k h s).trans (by rw [show 16 + 4 * (k.val + 1) + 2 = 16 + (4 * k.val + 2) + 4 by omega])))
      (hf3 := fetches_second 𝒱 c bd arg0 harg0 arg1 harg1 X0 X1 (quarter fullShare 3) arg22 harg22 arg31 hp3 (16 + 4 * (k.val + 1) + 3) (by omega) (by omega) _ _ (fun s => (off20_eq k h s).trans (by rw [show 16 + 4 * (k.val + 1) + 3 = 16 + (4 * k.val + 3) + 4 by omega])))) $$ H
    iintro H
    iexact H
  · obtain ⟨h9, h10, h11, h12, h13, h14, h15, h16⟩ := conds2_last k h
    rw [t2_last arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 X2 k h10 h9 h12 h11 h14 h13 h16 h15]
    iintro H
    iapply (four2_spec 𝒱 c bd (defs := defs) (X0 := X0) (X1 := X1) (X2 := X2) (arg0 := arg0) (harg0 := harg0) (arg1 := arg1) (harg1 := harg1) (v109 := v109) (v120 := k0_pay46 v114 v117) (v125 := k0_pay47 v91 v93) (v130 := k0_pay48 v91 v93) (v135 := k0_pay49 v91 v93) (v140 := k0_pay50 v91 v93) (harg23 := harg23) (harg24 := harg24) (harg25 := harg25) (harg26 := harg26) (k := k) (g := 16 + 4 * k.val)
      (gn := 16 + 4 * (k.val + 1)) (hg := rfl) (hgn := rfl)
      (hf0 := fetches_second 𝒱 c bd arg0 harg0 arg1 harg1 X0 X1 (quarter fullShare 0) arg19 harg19 arg28 hp0 (16 + 4 * (k.val + 1)) (by omega) (by omega) _ _ (fun s => (off15_eq k h s).trans (by rw [show 16 + 4 * (k.val + 1) = 16 + (4 * k.val + 0) + 4 by omega])))
      (hf1 := fetches_second 𝒱 c bd arg0 harg0 arg1 harg1 X0 X1 (quarter fullShare 1) arg20 harg20 arg29 hp1 (16 + 4 * (k.val + 1) + 1) (by omega) (by omega) _ _ (fun s => (off17_eq k h s).trans (by rw [show 16 + 4 * (k.val + 1) + 1 = 16 + (4 * k.val + 1) + 4 by omega])))
      (hf2 := fetches_second 𝒱 c bd arg0 harg0 arg1 harg1 X0 X1 (quarter fullShare 2) arg21 harg21 arg30 hp2 (16 + 4 * (k.val + 1) + 2) (by omega) (by omega) _ _ (fun s => (off19_eq k h s).trans (by rw [show 16 + 4 * (k.val + 1) + 2 = 16 + (4 * k.val + 2) + 4 by omega])))
      (hf3 := fetches_second 𝒱 c bd arg0 harg0 arg1 harg1 X0 X1 (quarter fullShare 3) arg22 harg22 arg31 hp3 (16 + 4 * (k.val + 1) + 3) (by omega) (by omega) _ _ (fun s => (off21_eq k h s).trans (by rw [show 16 + 4 * (k.val + 1) + 3 = 16 + (4 * k.val + 3) + 4 by omega])))) $$ H
    iintro H
    iexact H

include harg2 harg18 harg24 harg25 harg26 harg27 hp0 hp1 hp2 hp3 in
/-- A trip of loop 3. -/
theorem trip3 (R P : FVec F S4096x8 .bf16) (Qv : FVec F S4096x8 .f32) (k : Fin k0_t3_loop.trips) (a : Unit) :
    iprop(Ring c arg0 harg0 arg1 harg1 arg19 harg19 arg20 harg20 arg21 harg21 arg22 harg22 arg28 arg29 arg30 arg31 X0 X1 (32 + 4 * k.val) ∗ ((owns (c : Thread nD τ) arg2 fullShare X2 ∗ owns (c : Thread nD τ) arg18 fullShare (Sval X0) ∗ owns (c : Thread nD τ) arg24 fullShare R ∗ owns (c : Thread nD τ) arg25 fullShare P ∗ owns (c : Thread nD τ) arg26 fullShare Qv) ∗ Held c arg27 (Oval v98 R P Qv X0 X1 X2) (4 * k.val)))
      ⊢ wp frame (wpE defs 𝒱 (c : Thread nD τ) bd) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 k a)
        (fun _ => iprop(Ring c arg0 harg0 arg1 harg1 arg19 harg19 arg20 harg20 arg21 harg21 arg22 harg22 arg28 arg29 arg30 arg31 X0 X1 (32 + 4 * (k.val + 1)) ∗ ((owns (c : Thread nD τ) arg2 fullShare X2 ∗ owns (c : Thread nD τ) arg18 fullShare (Sval X0) ∗ owns (c : Thread nD τ) arg24 fullShare R ∗ owns (c : Thread nD τ) arg25 fullShare P ∗ owns (c : Thread nD τ) arg26 fullShare Qv) ∗ Held c arg27 (Oval v98 R P Qv X0 X1 X2) (4 * (k.val + 1))))) := by
  have hk : k.val < 4 := k.isLt
  cases a
  by_cases h : k.val < 3
  · obtain ⟨h17, h18, h19, h20⟩ := conds3_lt k h
    rw [t3_lt arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 k h17 h18 h19 h20]
    iintro H
    iapply (four3_spec 𝒱 c bd (defs := defs) (X0 := X0) (X1 := X1) (X2 := X2) (arg0 := arg0) (harg0 := harg0) (arg1 := arg1) (harg1 := harg1) (v98 := v98) (R := R) (P := P) (Qv := Qv) (harg2 := harg2) (harg18 := harg18) (harg24 := harg24) (harg25 := harg25) (harg26 := harg26) (harg27 := harg27) (k := k) (g := 32 + 4 * k.val)
      (gn := 32 + 4 * (k.val + 1)) (hg := rfl) (hgn := rfl)
      (hf0 := fetches_second 𝒱 c bd arg0 harg0 arg1 harg1 X0 X1 (quarter fullShare 0) arg19 harg19 arg28 hp0 (32 + 4 * (k.val + 1)) (by omega) (by omega) _ _ (fun s => (off25_eq k h s).trans (by rw [show 32 + 4 * (k.val + 1) = 32 + (4 * k.val + 0) + 4 by omega])))
      (hf1 := fetches_second 𝒱 c bd arg0 harg0 arg1 harg1 X0 X1 (quarter fullShare 1) arg20 harg20 arg29 hp1 (32 + 4 * (k.val + 1) + 1) (by omega) (by omega) _ _ (fun s => (off26_eq k h s).trans (by rw [show 32 + 4 * (k.val + 1) + 1 = 32 + (4 * k.val + 1) + 4 by omega])))
      (hf2 := fetches_second 𝒱 c bd arg0 harg0 arg1 harg1 X0 X1 (quarter fullShare 2) arg21 harg21 arg30 hp2 (32 + 4 * (k.val + 1) + 2) (by omega) (by omega) _ _ (fun s => (off27_eq k h s).trans (by rw [show 32 + 4 * (k.val + 1) + 2 = 32 + (4 * k.val + 2) + 4 by omega])))
      (hf3 := fetches_second 𝒱 c bd arg0 harg0 arg1 harg1 X0 X1 (quarter fullShare 3) arg22 harg22 arg31 hp3 (32 + 4 * (k.val + 1) + 3) (by omega) (by omega) _ _ (fun s => (off28_eq k h s).trans (by rw [show 32 + 4 * (k.val + 1) + 3 = 32 + (4 * k.val + 3) + 4 by omega])))) $$ H
    iintro H
    iexact H
  · obtain ⟨h17, h18, h19, h20⟩ := conds3_last k h
    rw [t3_last arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117 k h17 h18 h19 h20]
    iintro H
    iapply (four3_spec 𝒱 c bd (defs := defs) (X0 := X0) (X1 := X1) (X2 := X2) (arg0 := arg0) (harg0 := harg0) (arg1 := arg1) (harg1 := harg1) (v98 := v98) (R := R) (P := P) (Qv := Qv) (harg2 := harg2) (harg18 := harg18) (harg24 := harg24) (harg25 := harg25) (harg26 := harg26) (harg27 := harg27) (k := k) (g := 32 + 4 * k.val)
      (gn := 32 + 4 * (k.val + 1)) (hg := rfl) (hgn := rfl)
      (hf0 := fetches_end 𝒱 c bd arg0 harg0 arg1 harg1 X0 X1 (quarter fullShare 0) arg19 harg19 arg28 (32 + 4 * (k.val + 1)) (by omega))
      (hf1 := fetches_end 𝒱 c bd arg0 harg0 arg1 harg1 X0 X1 (quarter fullShare 1) arg20 harg20 arg29 (32 + 4 * (k.val + 1) + 1) (by omega))
      (hf2 := fetches_end 𝒱 c bd arg0 harg0 arg1 harg1 X0 X1 (quarter fullShare 2) arg21 harg21 arg30 (32 + 4 * (k.val + 1) + 2) (by omega))
      (hf3 := fetches_end 𝒱 c bd arg0 harg0 arg1 harg1 X0 X1 (quarter fullShare 3) arg22 harg22 arg31 (32 + 4 * (k.val + 1) + 3) (by omega))) $$ H
    iintro H
    iexact H

/-! ## The loops -/

/-- A loop at the head of a program, by an invariant, its trip count named. -/
theorem loop_bind {w : ℕ} {σ β : Type} (l : Scf.Loop w) (hok : l.OK) (init : σ)
    (body : Fin l.trips → σ → Prog (TpuEff nD τ sig (Elt F) Λ₀ .tc) σ) (n : ℕ) (hn : l.trips = n) (I : ℕ → σ → sProp 𝕄)
    (hbody : ∀ (k : Fin l.trips) (a : σ), I k.val a ⊢ wp frame (wpE defs 𝒱 (c : Thread nD τ) bd) Set.univ (body k a) (I (k.val + 1)))
    {kk : σ → Prog (TpuEff nD τ sig (Elt F) Λ₀ .tc) β} {Q : β → sProp 𝕄} :
    I 0 init ⊢ iprop((∀ a, I n a -∗ wp frame (wpE defs 𝒱 (c : Thread nD τ) bd) Set.univ (kk a) Q) -∗ wp frame (wpE defs 𝒱 (c : Thread nD τ) bd) Set.univ (Scf.Loop.for l hok init body >>= kk) Q) := by
  subst hn
  exact Scf.wp_for_bind frame (wpE defs 𝒱 (c : Thread nD τ) bd) Set.univ l.lb l.ub l.st hok init body I hbody

theorem held_zero {w : ℕ} {e : EltTy} (M : Memref sig .tc .vmem ⟨2, ![4096, w]⟩ e) (U Y : (⟨2, ![4096, w]⟩ : Shape).Idx → Elt F e) (i : ℕ) (hi : i = 0) :
    (owns (c : Thread nD τ) M fullShare Y : sProp 𝕄) ⊢ Held c M U i := by
  subst hi
  unfold Held
  iintro H
  iexists Y; isplitr; swap; · iexact H
  ipureintro; exact upto_zero Y U

theorem held_full {w : ℕ} {e : EltTy} (M : Memref sig .tc .vmem ⟨2, ![4096, w]⟩ e) (U : (⟨2, ![4096, w]⟩ : Shape).Idx → Elt F e) (i : ℕ) (hi : i = 16) :
    (Held c M U i : sProp 𝕄) ⊢ owns (c : Thread nD τ) M fullShare U := by
  subst hi
  unfold Held
  iintro ⟨%Y, %h, H⟩
  obtain rfl := upto_full h
  iexact H

/-- A buffer held at anything. -/
def Any {s : Shape} {e : EltTy} (M : Memref sig .tc .vmem s e) : sProp 𝕄 :=
  iprop(∃ Y : s.Idx → Elt F e, owns (c : Thread nD τ) M fullShare Y)

theorem any_intro {s : Shape} {e : EltTy} (M : Memref sig .tc .vmem s e) (Y : s.Idx → Elt F e) :
    (owns (c : Thread nD τ) M fullShare Y : sProp 𝕄) ⊢ Any c M := by
  unfold Any; iintro H; iexists Y; iexact H

variable (X11 : FVec F S64x4096 .f32)

include hp0 hp1 hp2 hp3 in
/-- The three loops and the product after them. -/
theorem loops_spec {Q : FVec F S8x64 .f32 → sProp 𝕄} :
    iprop(Ring c arg0 harg0 arg1 harg1 arg19 harg19 arg20 harg20 arg21 harg21 arg22 harg22 arg28 arg29 arg30 arg31 X0 X1 (0) ∗ owns (c : Thread nD τ) arg2 fullShare X2 ∗ owns (c : Thread nD τ) arg11 fullShare X11 ∗ Any c arg18 ∗ Any c arg23 ∗ Any c arg24 ∗ Any c arg25 ∗ Any c arg26 ∗ Any c arg27)
      ⊢ iprop((iprop(Ring c arg0 harg0 arg1 harg1 arg19 harg19 arg20 harg20 arg21 harg21 arg22 harg22 arg28 arg29 arg30 arg31 X0 X1 (48) ∗ owns (c : Thread nD τ) arg2 fullShare X2 ∗ owns (c : Thread nD τ) arg11 fullShare X11 ∗ Any c arg18 ∗ Any c arg23 ∗ Any c arg24 ∗ Any c arg25 ∗ Any c arg26 ∗ Any c arg27) -∗ Q (k0_pay53 X11 (Oval v98 (Rval v109 (k0_pay46 v114 v117) X0 X1 X2) (Pval (k0_pay47 v91 v93) (k0_pay48 v91 v93) X0 X1 X2) (Qval (k0_pay49 v91 v93) (k0_pay50 v91 v93) X0 X1 X2) X0 X1 X2)))
        -∗ wp frame (wpE defs 𝒱 (c : Thread nD τ) bd) Set.univ (loops arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 v91 v93 v98 v109 v114 v117) Q) := by
  unfold loops
  iintro ⟨HR, H2, H11, A18, A23, A24, A25, A26, A27⟩ Hk
  iapply (wp_load_owns 𝒱 c bd harg2) $$ H2
  iintro H2
  have e2 : (fun a => X2 ((Rect.unit (s := S4096x8) ![0, 0] S4096x8.size inb_S4096x8_S4096x8_0_0).toLoadRect.idx a)) = X2 :=
    load_all (Val := Elt F) (e := .f32) X2 _ _
  rw [e2]
  unfold Any
  icases A18 with ⟨%Y18, H18⟩
  icases A23 with ⟨%Y23, H23⟩
  icases A24 with ⟨%Y24, H24⟩
  icases A25 with ⟨%Y25, H25⟩
  icases A26 with ⟨%Y26, H26⟩
  icases A27 with ⟨%Y27, H27⟩
  ihave H18 := (held_zero c arg18 (Sval X0) Y18 (4 * 0) rfl) $$ H18
  ihave H23 := (held_zero c arg23 (Uval X0 X2) Y23 (4 * 0) rfl) $$ H23
  iapply (loop_bind 𝒱 c bd k0_t1_loop k0_t1_ok ⟨⟩ _ 4 trips1 (fun k _ => iprop(Ring c arg0 harg0 arg1 harg1 arg19 harg19 arg20 harg20 arg21 harg21 arg22 harg22 arg28 arg29 arg30 arg31 X0 X1 (0 + 4 * k) ∗ (Held c arg23 (Uval X0 X2) (4 * k) ∗ Held c arg18 (Sval X0) (4 * k)))) (fun k a => trip1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 X0 X1 X2 v91 v93 v98 v109 v114 v117 hp0 hp1 hp2 hp3 k a)) $$ [HR H18 H23]
  · isplitl [HR]; · iexact HR
    isplitl [H23]; · iexact H23
    iexact H18
  iintro %a ⟨HR, H23, H18⟩
  ihave H18 := (held_full c arg18 (Sval X0) (4 * 4) rfl) $$ H18
  ihave H23 := (held_full c arg23 (Uval X0 X2) (4 * 4) rfl) $$ H23
  ihave H24 := (held_zero c arg24 (Rval v109 (k0_pay46 v114 v117) X0 X1 X2) Y24 (4 * 0) rfl) $$ H24
  ihave H25 := (held_zero c arg25 (Pval (k0_pay47 v91 v93) (k0_pay48 v91 v93) X0 X1 X2) Y25 (4 * 0) rfl) $$ H25
  ihave H26 := (held_zero c arg26 (Qval (k0_pay49 v91 v93) (k0_pay50 v91 v93) X0 X1 X2) Y26 (4 * 0) rfl) $$ H26
  iapply (loop_bind 𝒱 c bd k0_t2_loop k0_t2_ok ⟨⟩ _ 4 trips2 (fun k _ => iprop(Ring c arg0 harg0 arg1 harg1 arg19 harg19 arg20 harg20 arg21 harg21 arg22 harg22 arg28 arg29 arg30 arg31 X0 X1 (16 + 4 * k) ∗ (owns (c : Thread nD τ) arg23 fullShare (Uval X0 X2) ∗ Held c arg24 (Rval v109 (k0_pay46 v114 v117) X0 X1 X2) (4 * k) ∗ Held c arg25 (Pval (k0_pay47 v91 v93) (k0_pay48 v91 v93) X0 X1 X2) (4 * k) ∗ Held c arg26 (Qval (k0_pay49 v91 v93) (k0_pay50 v91 v93) X0 X1 X2) (4 * k)))) (fun k a => trip2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 X0 X1 X2 v91 v93 v98 v109 v114 v117 hp0 hp1 hp2 hp3 k a)) $$ [HR H23 H24 H25 H26]
  · isplitl [HR]; · iexact HR
    isplitl [H23]; · iexact H23
    isplitl [H24]; · iexact H24
    isplitl [H25]; · iexact H25
    iexact H26
  iintro %b ⟨HR, H23, H24, H25, H26⟩
  ihave H24 := (held_full c arg24 (Rval v109 (k0_pay46 v114 v117) X0 X1 X2) (4 * 4) rfl) $$ H24
  ihave H25 := (held_full c arg25 (Pval (k0_pay47 v91 v93) (k0_pay48 v91 v93) X0 X1 X2) (4 * 4) rfl) $$ H25
  ihave H26 := (held_full c arg26 (Qval (k0_pay49 v91 v93) (k0_pay50 v91 v93) X0 X1 X2) (4 * 4) rfl) $$ H26
  ihave H27 := (held_zero c arg27 (Oval v98 (Rval v109 (k0_pay46 v114 v117) X0 X1 X2) (Pval (k0_pay47 v91 v93) (k0_pay48 v91 v93) X0 X1 X2) (Qval (k0_pay49 v91 v93) (k0_pay50 v91 v93) X0 X1 X2) X0 X1 X2) Y27 (4 * 0) rfl) $$ H27
  iapply (loop_bind 𝒱 c bd k0_t3_loop k0_t3_ok ⟨⟩ _ 4 trips3 (fun k _ => iprop(Ring c arg0 harg0 arg1 harg1 arg19 harg19 arg20 harg20 arg21 harg21 arg22 harg22 arg28 arg29 arg30 arg31 X0 X1 (32 + 4 * k) ∗ ((owns (c : Thread nD τ) arg2 fullShare X2 ∗ owns (c : Thread nD τ) arg18 fullShare (Sval X0) ∗ owns (c : Thread nD τ) arg24 fullShare (Rval v109 (k0_pay46 v114 v117) X0 X1 X2) ∗ owns (c : Thread nD τ) arg25 fullShare (Pval (k0_pay47 v91 v93) (k0_pay48 v91 v93) X0 X1 X2) ∗ owns (c : Thread nD τ) arg26 fullShare (Qval (k0_pay49 v91 v93) (k0_pay50 v91 v93) X0 X1 X2)) ∗ Held c arg27 (Oval v98 (Rval v109 (k0_pay46 v114 v117) X0 X1 X2) (Pval (k0_pay47 v91 v93) (k0_pay48 v91 v93) X0 X1 X2) (Qval (k0_pay49 v91 v93) (k0_pay50 v91 v93) X0 X1 X2) X0 X1 X2) (4 * k)))) (fun k a => trip3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 X0 X1 X2 v91 v93 v98 v109 v114 v117 hp0 hp1 hp2 hp3 (Rval v109 (k0_pay46 v114 v117) X0 X1 X2) (Pval (k0_pay47 v91 v93) (k0_pay48 v91 v93) X0 X1 X2) (Qval (k0_pay49 v91 v93) (k0_pay50 v91 v93) X0 X1 X2) k a)) $$ [HR H2 H18 H24 H25 H26 H27]
  · isplitl [HR]; · iexact HR
    isplitl [H2 H18 H24 H25 H26]
    · isplitl [H2]; · iexact H2
      isplitl [H18]; · iexact H18
      isplitl [H24]; · iexact H24
      isplitl [H25]; · iexact H25
      iexact H26
    iexact H27
  iintro %d ⟨HR, ⟨H2, H18, H24, H25, H26⟩, H27⟩
  ihave H27 := (held_full c arg27 (Oval v98 (Rval v109 (k0_pay46 v114 v117) X0 X1 X2) (Pval (k0_pay47 v91 v93) (k0_pay48 v91 v93) X0 X1 X2) (Qval (k0_pay49 v91 v93) (k0_pay50 v91 v93) X0 X1 X2) X0 X1 X2) (4 * 4) rfl) $$ H27
  iapply (wp_load_owns 𝒱 c bd harg11) $$ H11
  iintro H11
  iapply (wp_load_owns 𝒱 c bd harg27) $$ H27
  iintro H27
  have e11 : (fun a => X11 ((Rect.unit (s := S64x4096) ![0, 0] S64x4096.size inb_S64x4096_S64x4096_0_0).toLoadRect.idx a)) = X11 :=
    load_all (Val := Elt F) (e := .f32) X11 _ _
  have e27 : (fun a => (Oval v98 (Rval v109 (k0_pay46 v114 v117) X0 X1 X2) (Pval (k0_pay47 v91 v93) (k0_pay48 v91 v93) X0 X1 X2) (Qval (k0_pay49 v91 v93) (k0_pay50 v91 v93) X0 X1 X2) X0 X1 X2) ((Rect.unit (s := S4096x8) ![0, 0] S4096x8.size inb_S4096x8_S4096x8_0_0).toLoadRect.idx a)) = (Oval v98 (Rval v109 (k0_pay46 v114 v117) X0 X1 X2) (Pval (k0_pay47 v91 v93) (k0_pay48 v91 v93) X0 X1 X2) (Qval (k0_pay49 v91 v93) (k0_pay50 v91 v93) X0 X1 X2) X0 X1 X2) :=
    load_all (Val := Elt F) (e := .f32) _ _ _
  rw [e11, e27, wp_ret]
  imodintro
  iapply Hk
  isplitl [HR]; · iexact HR
  isplitl [H2]; · iexact H2
  isplitl [H11]; · iexact H11
  isplitl [H18]; · iexists _; iexact H18
  isplitl [H23]; · iexists _; iexact H23
  isplitl [H24]; · iexists _; iexact H24
  isplitl [H25]; · iexists _; iexact H25
  isplitl [H26]; · iexists _; iexact H26
  iexists _; iexact H27

end Cert.KernelIdeal.Body

end
-- ==== Proof.Whole.lean ====
/-
  Hand-written, untrusted. The whole kernel body: what it leaves in its result's buffer, from what its inputs hold.
-/
module

public import proofs.«01_k».proof.Proof.Body

@[expose] public section

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Trips Cert.KernelIdeal.Offsets Cert.KernelIdeal.Run Cert.KernelIdeal.Passes Cert.KernelIdeal.Body
open Cert.Proof.Slot

variable {F : FTy → Type} [FloatOps F]

local notation "𝕄" => MT nD τ sig Unit (Elt F) ℕ (Pipeline.UD sig nD τ) ℕ

/-- The top and the bottom half of an array of 128 rows. -/
def topHalf (X : FVec F S128x64 .f32) : FVec F S64x64 .f32 := fun a =>
  X ((Rect.unit (s := S128x64) ![0, 0] S64x64.size inb_S128x64_S64x64_0_0).toLoadRect.idx a)
def botHalf (X : FVec F S128x64 .f32) : FVec F S64x64 .f32 := fun a =>
  X ((Rect.unit (s := S128x64) ![64, 0] S64x64.size inb_S128x64_S64x64_64_0).toLoadRect.idx a)

/-- The third loop's result, from the matrices, the features and the two weights. -/
def mixed (X0 X1 : FVec F S4096x4096 .f32) (X2 : FVec F S4096x8 .f32) (X9 X10 : FVec F S64x3 .f32) : FVec F S4096x8 .f32 :=
  Oval (k0_pay42 X9 X10)
    (Rval (k0_pay43 X9 X10) (k0_pay46 (k0_pay44 X9 X10) (k0_pay45 X9 X10)) X0 X1 X2)
    (Pval (k0_pay47 (k0_pay40 X9) (k0_pay41 X10)) (k0_pay48 (k0_pay40 X9) (k0_pay41 X10)) X0 X1 X2)
    (Qval (k0_pay49 (k0_pay40 X9) (k0_pay41 X10)) (k0_pay50 (k0_pay40 X9) (k0_pay41 X10)) X0 X1 X2) X0 X1 X2

/-- The kernel's result, from its inputs. -/
def outVal (X0 : FVec F S4096x4096 .f32) (X1 : FVec F S4096x4096 .f32) (X2 : FVec F S4096x8 .f32) (X3 : FVec F S8x1 .f32) (X4 : FVec F S1x64 .f32) (X5 : FVec F S128x64 .f32) (X6 : FVec F S1x64 .f32) (X7 : FVec F S64x64 .f32) (X8 : FVec F S1x64 .f32) (X9 : FVec F S64x3 .f32) (X10 : FVec F S64x3 .f32) (X11 : FVec F S64x4096 .f32) (X12 : FVec F S1x64 .f32) (X13 : FVec F S64x64 .f32) (X14 : FVec F S1x64 .f32) (X15 : FVec F S64x4096 .f32) (X16 : FVec F S1x4096 .f32) : FVec F S8x4096 .f32 :=
  k0_pay1 (k0_pay39 (k0_pay37 X3 X4) (k0_pay38 X3 X4 (topHalf X5)) (botHalf X5) X6 X7 X8)
    (k0_pay53 X11 (mixed X0 X1 X2 X9 X10)) X12 X13 X14 X15 X16

variable (𝒱 : Variants) (c : Dev nD) (bd : Option 𝒱.V)
variable {defs : Defs nD τ sig (Elt F) Λ₀}

/-- A store through all of an array replaces it. -/
theorem upd_all {s : Shape} {e : EltTy} (off : Fin s.rank → ℕ) (inb : ∀ a, off a + s.size a ≤ s.size a) (w X : s.Idx → Elt F e) :
    upd (Val := Elt F) (Rect.unit (s := s) off s.size inb) w X = w := by
  funext y
  have h : (Rect.unit (s := s) off s.size inb).emb y = y := by
    funext a
    apply Fin.ext
    show off a + 1 * (y a : ℕ) = (y a : ℕ)
    have := inb a
    omega
  have h2 := upd_emb (Val := Elt F) (Rect.unit (s := s) off s.size inb) w X y
  rw [h] at h2
  exact h2

variable (arg0 : Memref sig .tc .hbm S4096x4096 .f32) (harg0 : arg0.IsWhole) (arg1 : Memref sig .tc .hbm S4096x4096 .f32) (harg1 : arg1.IsWhole) (arg2 : Memref sig .tc .vmem S4096x8 .f32) (harg2 : arg2.IsWhole) (arg3 : Memref sig .tc .vmem S8x1 .f32) (harg3 : arg3.IsWhole) (arg4 : Memref sig .tc .vmem S1x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x3 .f32) (harg9 : arg9.IsWhole) (arg10 : Memref sig .tc .vmem S64x3 .f32) (harg10 : arg10.IsWhole) (arg11 : Memref sig .tc .vmem S64x4096 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x4096 .f32) (harg15 : arg15.IsWhole) (arg16 : Memref sig .tc .vmem S1x4096 .f32) (harg16 : arg16.IsWhole) (arg17 : Memref sig .tc .vmem S8x4096 .f32) (harg17 : arg17.IsWhole) (arg18 : Memref sig .tc .vmem S4096x4096 .bf16) (harg18 : arg18.IsWhole) (arg19 : Memref sig .tc .vmem S256x4096 .f32) (harg19 : arg19.IsWhole) (arg20 : Memref sig .tc .vmem S256x4096 .f32) (harg20 : arg20.IsWhole) (arg21 : Memref sig .tc .vmem S256x4096 .f32) (harg21 : arg21.IsWhole) (arg22 : Memref sig .tc .vmem S256x4096 .f32) (harg22 : arg22.IsWhole) (arg23 : Memref sig .tc .vmem S4096x8 .bf16) (harg23 : arg23.IsWhole) (arg24 : Memref sig .tc .vmem S4096x8 .bf16) (harg24 : arg24.IsWhole) (arg25 : Memref sig .tc .vmem S4096x8 .bf16) (harg25 : arg25.IsWhole) (arg26 : Memref sig .tc .vmem S4096x8 .f32) (harg26 : arg26.IsWhole) (arg27 : Memref sig .tc .vmem S4096x8 .f32) (harg27 : arg27.IsWhole) (arg28 : DmaSems sig S4) (arg29 : DmaSems sig S4) (arg30 : DmaSems sig S4) (arg31 : DmaSems sig S4)

variable (X0 : FVec F S4096x4096 .f32) (X1 : FVec F S4096x4096 .f32) (X2 : FVec F S4096x8 .f32) (X3 : FVec F S8x1 .f32) (X4 : FVec F S1x64 .f32) (X5 : FVec F S128x64 .f32) (X6 : FVec F S1x64 .f32) (X7 : FVec F S64x64 .f32) (X8 : FVec F S1x64 .f32) (X9 : FVec F S64x3 .f32) (X10 : FVec F S64x3 .f32) (X11 : FVec F S64x4096 .f32) (X12 : FVec F S1x64 .f32) (X13 : FVec F S64x64 .f32) (X14 : FVec F S1x64 .f32) (X15 : FVec F S64x4096 .f32) (X16 : FVec F S1x4096 .f32)

/-- The inputs in vector memory, held. -/
def Ins : sProp 𝕄 :=
  iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16)

/-- The scratch buffers, held at anything. -/
def Scr : sProp 𝕄 :=
  iprop(Any c arg18 ∗ Any c arg19 ∗ Any c arg20 ∗ Any c arg21 ∗ Any c arg22 ∗ Any c arg23 ∗ Any c arg24 ∗ Any c arg25 ∗ Any c arg26 ∗ Any c arg27)

/-- The four semaphore arrays, at rest. -/
def Sms : sProp 𝕄 :=
  iprop(Sems c squeezes_S1_S_ arg28 ∗ Sems c squeezes_S1_S_ arg29 ∗ Sems c squeezes_S1_S_ arg30 ∗ Sems c squeezes_S1_S_ arg31)

variable (hp0 : 0 < amt arg19) (hp1 : 0 < amt arg20) (hp2 : 0 < amt arg21) (hp3 : 0 < amt arg22)

set_option maxHeartbeats 1600000 in
include hp0 hp1 hp2 hp3 in
/-- The kernel body: from its inputs held, its result's and its scratch buffers at anything and its semaphores at rest, to the
    same with the result's buffer at the kernel's result. -/
theorem body_spec {Q : PUnit → sProp 𝕄} :
    iprop(owns (c : Thread nD τ) arg0 fullShare X0 ∗ owns (c : Thread nD τ) arg1 fullShare X1 ∗ Ins c arg2 arg3 arg4 arg5 arg6 arg7 arg8 arg9 arg10 arg11 arg12 arg13 arg14 arg15 arg16 X2 X3 X4 X5 X6 X7 X8 X9 X10 X11 X12 X13 X14 X15 X16 ∗ Any c arg17 ∗ Scr c arg18 arg19 arg20 arg21 arg22 arg23 arg24 arg25 arg26 arg27 ∗ Sms c arg28 arg29 arg30 arg31 ∗ Owe c)
      ⊢ iprop((iprop(owns (c : Thread nD τ) arg0 fullShare X0 ∗ owns (c : Thread nD τ) arg1 fullShare X1 ∗ Ins c arg2 arg3 arg4 arg5 arg6 arg7 arg8 arg9 arg10 arg11 arg12 arg13 arg14 arg15 arg16 X2 X3 X4 X5 X6 X7 X8 X9 X10 X11 X12 X13 X14 X15 X16 ∗ owns (c : Thread nD τ) arg17 fullShare (outVal X0 X1 X2 X3 X4 X5 X6 X7 X8 X9 X10 X11 X12 X13 X14 X15 X16) ∗ Scr c arg18 arg19 arg20 arg21 arg22 arg23 arg24 arg25 arg26 arg27 ∗ Sms c arg28 arg29 arg30 arg31 ∗ Owe c) -∗ Q ⟨⟩)
        -∗ wp frame (wpE defs 𝒱 (c : Thread nD τ) bd) Set.univ (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31) Q) := by
  rw [body_eq]
  unfold Ins Scr Sms
  simp only [wp_bind]
  iintro ⟨H0, H1, ⟨I2, I3, I4, I5, I6, I7, I8, I9, I10, I11, I12, I13, I14, I15, I16⟩, A17, ⟨A18, A19, A20, A21, A22, A23, A24, A25, A26, A27⟩, ⟨M0, M1, M2, M3⟩, HO⟩ Hk
  ihave H0 := (owns_quarters c harg0 fullShare X0).1 $$ H0
  ihave H1 := (owns_quarters c harg1 fullShare X1).1 $$ H1
  icases H0 with ⟨A0, A1, A2, A3⟩
  icases H1 with ⟨B0, B1, B2, B3⟩
  unfold Any
  icases A17 with ⟨%Y17, H17⟩
  icases A19 with ⟨%Y19, H19⟩
  icases A20 with ⟨%Y20, H20⟩
  icases A21 with ⟨%Y21, H21⟩
  icases A22 with ⟨%Y22, H22⟩
  iapply (fetch_first (Val := Elt F) 𝒱 c bd arg0 harg0 arg1 harg1 X0 X1 arg19 harg19 squeezes_S1_S_ arg28 (quarter fullShare 0) hp0 0 (by decide) Y19 _ _ (fun _ => rfl)) $$ [H19 M0 A0 B0]
  · unfold Free
    isplitl [H19]; · iexact H19
    isplitl [M0]; · iexact M0
    isplitl [A0]; · iexact A0
    iexact B0
  iintro R0
  iapply (fetch_first (Val := Elt F) 𝒱 c bd arg0 harg0 arg1 harg1 X0 X1 arg20 harg20 squeezes_S1_S_ arg29 (quarter fullShare 1) hp1 1 (by decide) Y20 _ _ (fun _ => rfl)) $$ [H20 M1 A1 B1]
  · unfold Free
    isplitl [H20]; · iexact H20
    isplitl [M1]; · iexact M1
    isplitl [A1]; · iexact A1
    iexact B1
  iintro R1
  iapply (fetch_first (Val := Elt F) 𝒱 c bd arg0 harg0 arg1 harg1 X0 X1 arg21 harg21 squeezes_S1_S_ arg30 (quarter fullShare 2) hp2 2 (by decide) Y21 _ _ (fun _ => rfl)) $$ [H21 M2 A2 B2]
  · unfold Free
    isplitl [H21]; · iexact H21
    isplitl [M2]; · iexact M2
    isplitl [A2]; · iexact A2
    iexact B2
  iintro R2
  iapply (fetch_first (Val := Elt F) 𝒱 c bd arg0 harg0 arg1 harg1 X0 X1 arg22 harg22 squeezes_S1_S_ arg31 (quarter fullShare 3) hp3 3 (by decide) Y22 _ _ (fun _ => rfl)) $$ [H22 M3 A3 B3]
  · unfold Free
    isplitl [H22]; · iexact H22
    isplitl [M3]; · iexact M3
    isplitl [A3]; · iexact A3
    iexact B3
  iintro R3
  unfold afterFetch
  iapply (wp_load_owns 𝒱 c bd harg3) $$ I3
  iintro I3
  iapply (wp_load_owns 𝒱 c bd harg4) $$ I4
  iintro I4
  iapply (wp_load_owns 𝒱 c bd harg5) $$ I5
  iintro I5
  iapply (wp_load_owns 𝒱 c bd harg5) $$ I5
  iintro I5
  iapply (wp_load_owns 𝒱 c bd harg6) $$ I6
  iintro I6
  iapply (wp_load_owns 𝒱 c bd harg7) $$ I7
  iintro I7
  iapply (wp_load_owns 𝒱 c bd harg8) $$ I8
  iintro I8
  iapply (wp_load_owns 𝒱 c bd harg9) $$ I9
  iintro I9
  iapply (wp_load_owns 𝒱 c bd harg10) $$ I10
  iintro I10
  have e3 : (fun a => X3 ((Rect.unit (s := S8x1) ![0, 0] S8x1.size inb_S8x1_S8x1_0_0).toLoadRect.idx a)) = X3 :=
    load_all (Val := Elt F) (e := .f32) X3 _ _
  have e4 : (fun a => X4 ((Rect.unit (s := S1x64) ![0, 0] S1x64.size inb_S1x64_S1x64_0_0).toLoadRect.idx a)) = X4 :=
    load_all (Val := Elt F) (e := .f32) X4 _ _
  have e6 : (fun a => X6 ((Rect.unit (s := S1x64) ![0, 0] S1x64.size inb_S1x64_S1x64_0_0).toLoadRect.idx a)) = X6 :=
    load_all (Val := Elt F) (e := .f32) X6 _ _
  have e7 : (fun a => X7 ((Rect.unit (s := S64x64) ![0, 0] S64x64.size inb_S64x64_S64x64_0_0).toLoadRect.idx a)) = X7 :=
    load_all (Val := Elt F) (e := .f32) X7 _ _
  have e8 : (fun a => X8 ((Rect.unit (s := S1x64) ![0, 0] S1x64.size inb_S1x64_S1x64_0_0).toLoadRect.idx a)) = X8 :=
    load_all (Val := Elt F) (e := .f32) X8 _ _
  have e9 : (fun a => X9 ((Rect.unit (s := S64x3) ![0, 0] S64x3.size inb_S64x3_S64x3_0_0).toLoadRect.idx a)) = X9 :=
    load_all (Val := Elt F) (e := .f32) X9 _ _
  have e10 : (fun a => X10 ((Rect.unit (s := S64x3) ![0, 0] S64x3.size inb_S64x3_S64x3_0_0).toLoadRect.idx a)) = X10 :=
    load_all (Val := Elt F) (e := .f32) X10 _ _
  rw [e3, e4, e6, e7, e8, e9, e10, wp_bind]
  iapply (loops_spec 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 X0 X1 X2 (k0_pay40 X9) (k0_pay41 X10) (k0_pay42 X9 X10) (k0_pay43 X9 X10) (k0_pay44 X9 X10) (k0_pay45 X9 X10) hp0 hp1 hp2 hp3 X11) $$ [R0 R1 R2 R3 HO I2 I11 A18 A23 A24 A25 A26 A27]
  · unfold Passes.Ring Any
    isplitl [R0 R1 R2 R3 HO]
    · isplitl [R0]; · iexact R0
      isplitl [R1]; · iexact R1
      isplitl [R2]; · iexact R2
      isplitl [R3]; · iexact R3
      iexact HO
    isplitl [I2]; · iexact I2
    isplitl [I11]; · iexact I11
    isplitl [A18]; · iexact A18
    isplitl [A23]; · iexact A23
    isplitl [A24]; · iexact A24
    isplitl [A25]; · iexact A25
    isplitl [A26]; · iexact A26
    iexact A27
  unfold Passes.Ring Rdy
  rw [ready_end (Val := Elt F) _ _ _ _ _ _ _ _ _ _ _ _ 48 (by decide), ready_end (Val := Elt F) _ _ _ _ _ _ _ _ _ _ _ _ (48 + 1) (by decide),
    ready_end (Val := Elt F) _ _ _ _ _ _ _ _ _ _ _ _ (48 + 2) (by decide), ready_end (Val := Elt F) _ _ _ _ _ _ _ _ _ _ _ _ (48 + 3) (by decide)]
  unfold Free
  iintro ⟨⟨⟨%Y0, H19, M0, A0, B0⟩, ⟨%Y1, H20, M1, A1, B1⟩, ⟨%Y2, H21, M2, A2, B2⟩, ⟨%Y3, H22, M3, A3, B3⟩, HO⟩, I2, I11, A18, A23, A24, A25, A26, A27⟩
  iapply (wp_load_owns 𝒱 c bd harg12) $$ I12
  iintro I12
  iapply (wp_load_owns 𝒱 c bd harg13) $$ I13
  iintro I13
  iapply (wp_load_owns 𝒱 c bd harg14) $$ I14
  iintro I14
  iapply (wp_load_owns 𝒱 c bd harg15) $$ I15
  iintro I15
  iapply (wp_load_owns 𝒱 c bd harg16) $$ I16
  iintro I16
  iapply (wp_load_owns 𝒱 c bd harg17) $$ H17
  iintro H17
  iapply (wp_store_owns 𝒱 c bd harg17) $$ H17
  iintro H17
  have e12 : (fun a => X12 ((Rect.unit (s := S1x64) ![0, 0] S1x64.size inb_S1x64_S1x64_0_0).toLoadRect.idx a)) = X12 :=
    load_all (Val := Elt F) (e := .f32) X12 _ _
  have e13 : (fun a => X13 ((Rect.unit (s := S64x64) ![0, 0] S64x64.size inb_S64x64_S64x64_0_0).toLoadRect.idx a)) = X13 :=
    load_all (Val := Elt F) (e := .f32) X13 _ _
  have e14 : (fun a => X14 ((Rect.unit (s := S1x64) ![0, 0] S1x64.size inb_S1x64_S1x64_0_0).toLoadRect.idx a)) = X14 :=
    load_all (Val := Elt F) (e := .f32) X14 _ _
  have e15 : (fun a => X15 ((Rect.unit (s := S64x4096) ![0, 0] S64x4096.size inb_S64x4096_S64x4096_0_0).toLoadRect.idx a)) = X15 :=
    load_all (Val := Elt F) (e := .f32) X15 _ _
  have e16 : (fun a => X16 ((Rect.unit (s := S1x4096) ![0, 0] S1x4096.size inb_S1x4096_S1x4096_0_0).toLoadRect.idx a)) = X16 :=
    load_all (Val := Elt F) (e := .f32) X16 _ _
  rw [e12, e13, e14, e15, e16]
  have ew := fun w X => upd_all (F := F) (e := .f32) (s := S8x4096) ![0, 0] inb_S8x4096_S8x4096_0_0 w X
  rw [ew, wp_ret]
  imodintro
  iapply Hk
  isplitl [A0 A1 A2 A3]
  · iapply (owns_quarters c harg0 fullShare X0).2
    isplitl [A0]; · iexact A0
    isplitl [A1]; · iexact A1
    isplitl [A2]; · iexact A2
    iexact A3
  isplitl [B0 B1 B2 B3]
  · iapply (owns_quarters c harg1 fullShare X1).2
    isplitl [B0]; · iexact B0
    isplitl [B1]; · iexact B1
    isplitl [B2]; · iexact B2
    iexact B3
  isplitl [I2 I3 I4 I5 I6 I7 I8 I9 I10 I11 I12 I13 I14 I15 I16]
  · isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [I11]; · iexact I11
    isplitl [I12]; · iexact I12
    isplitl [I13]; · iexact I13
    isplitl [I14]; · iexact I14
    isplitl [I15]; · iexact I15
    iexact I16
  isplitl [H17]; · iexact H17
  isplitl [A18 H19 H20 H21 H22 A23 A24 A25 A26 A27]
  · unfold Any
    isplitl [A18]; · iexact A18
    isplitl [H19]; · iexists _; iexact H19
    isplitl [H20]; · iexists _; iexact H20
    isplitl [H21]; · iexists _; iexact H21
    isplitl [H22]; · iexists _; iexact H22
    isplitl [A23]; · iexact A23
    isplitl [A24]; · iexact A24
    isplitl [A25]; · iexact A25
    isplitl [A26]; · iexact A26
    iexact A27
  isplitr [HO]; swap; · iexact HO
  isplitl [M0]; · iexact M0
  isplitl [M1]; · iexact M1
  isplitl [M2]; · iexact M2
  iexact M3

end Cert.KernelIdeal.Whole

end
-- ==== Proof.Frame.lean ====
/-
  Hand-written, untrusted. The kernel's run: the launch over the body's triple, the argument arrays unchanged, every
  semaphore at zero at the end, and the result array at the kernel's value.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Whole
public import Idealize.ShloMosaic.Lib.Pipeline.FrameBody
public import Idealize.ShloMosaic.Lib.Pipeline.ValueKit.Geometry
public import Idealize.ShloMosaic.Lib.Ring
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Run Cert.KernelIdeal.Body Cert.KernelIdeal.Whole
open Cert.Proof.Slot

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Up to the region the program runs its host operations. -/
theorem host_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body finds at its one point -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev ms12 (t : Fin cfg0.N) := win0_12.stage (cfg0.slots t 12)
abbrev ms13 (t : Fin cfg0.N) := win0_13.stage (cfg0.slots t 13)
abbrev ms14 (t : Fin cfg0.N) := win0_14.stage (cfg0.slots t 14)
abbrev ms15 (t : Fin cfg0.N) := win0_15.stage (cfg0.slots t 15)

abbrev sc0 := Memref.whole (sig := sig) (κ := .tc) cc0_scratch0
abbrev sc1 := Memref.whole (sig := sig) (κ := .tc) cc0_scratch1
abbrev sc2 := Memref.whole (sig := sig) (κ := .tc) cc0_scratch2
abbrev sc3 := Memref.whole (sig := sig) (κ := .tc) cc0_scratch3
abbrev sc4 := Memref.whole (sig := sig) (κ := .tc) cc0_scratch4
abbrev sc5 := Memref.whole (sig := sig) (κ := .tc) cc0_scratch5
abbrev sc6 := Memref.whole (sig := sig) (κ := .tc) cc0_scratch6
abbrev sc7 := Memref.whole (sig := sig) (κ := .tc) cc0_scratch7
abbrev sc8 := Memref.whole (sig := sig) (κ := .tc) cc0_scratch8
abbrev sc9 := Memref.whole (sig := sig) (κ := .tc) cc0_scratch9

/-- The body's own semaphores. -/
abbrev osem0 : Fin 16 → SemLoc sig := fun j => (![SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31] : Fin 16 → SemLoc sig) j
theorem ownSemFacts0 : Pipeline.OwnSemFacts spec0 osem0 := by decide

/-- They are the four arrays the body is called with. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) := by
  rw [Pipeline.ownSems0_eq_of_list c osem0 [0, 1, 2, 3, 4, 5, 6, 7, 8, 9, 10, 11, 12, 13, 14, 15] (by decide) (by decide)]; rfl

/-- The matrices the body's transfers read. -/
def H0 : Finset (Ref sig .tc) := {main_arg2, main_arg3}
theorem H0_sub : H0 ⊆ Pipeline.restRefs sig spec0 := by decide
theorem matrices_eq (c : Dev nD) :
    (bigSep H0 (fun b => ((c : Thread nD τ).loc b) ↦{fullShare} V m c b) : sProp 𝕄)
      = iprop((owns (c : Thread nD τ) (Memref.whole main_arg2) fullShare (V m c main_arg2) : sProp 𝕄)
          ∗ owns (c : Thread nD τ) (Memref.whole main_arg3) fullShare (V m c main_arg3)) := by
  rw [BI.bigSep_eq_bigSepL_of_eq [main_arg2, main_arg3] (by decide) (by decide), owns_whole, owns_whole]; rfl

/-- What the body may use beside its windows. -/
theorem inv_eq (c : Dev nD) :
    (Pipeline.ΦD osem0 spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d))
          ∗ (∃ r, prngReg c r)
          ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
          ∗ iprop((owns (c : Thread nD τ) (Memref.whole main_arg2) fullShare (V m c main_arg2) : sProp 𝕄)
              ∗ owns (c : Thread nD τ) (Memref.whole main_arg3) fullShare (V m c main_arg3))) := by
  rw [Pipeline.ΦD_eq, scopedRest0_eq, ownSems00_eq, matrices_eq]
  simp only [sc0, sc1, sc2, sc3, sc4, sc5, sc6, sc7, sc8, sc9, owns_whole]; try rfl

/-- The kernel's result at a point. -/
def outAt (c : Dev nD) (t : Fin cfg0.N) : FVec F S8x4096 .f32 :=
  outVal (V m c main_arg2) (V m c main_arg3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The proof data: each input window's buffer left at its block, the result's at the kernel's result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t
    | ⟨_ + 16, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = outAt m c t := by dsimp only [dats]

/-! Each input window's buffer holds its block when the body is called. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl)
    (fun t => by rw [after_14]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t))
theorem credit0 : 0 < amt (sc1) := by decide
theorem credit1 : 0 < amt (sc2) := by decide
theorem credit2 : 0 < amt (sc3) := by decide
theorem credit3 : 0 < amt (sc4) := by decide
theorem sems0 (c : Dev nD) : (Sems c squeezes_S1_S_ cc0_scratch10 : sProp 𝕄)
    = iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := rfl
theorem sems1 (c : Dev nD) : (Sems c squeezes_S1_S_ cc0_scratch11 : sProp 𝕄)
    = iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := rfl
theorem sems2 (c : Dev nD) : (Sems c squeezes_S1_S_ cc0_scratch12 : sProp 𝕄)
    = iprop(semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) := rfl
theorem sems3 (c : Dev nD) : (Sems c squeezes_S1_S_ cc0_scratch13 : sProp 𝕄)
    = iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) := rfl

set_option maxHeartbeats 1600000 in
/-- The body at its point, from what the pipeline gives it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_0, after_1, after_2, after_3, after_4, after_5, after_6, after_7, after_8, after_9, after_10, after_11, after_12, after_13, after_14, after_15]
  rw [show (dats m 0 c).Φ t.castSucc = Pipeline.ΦD osem0 spec0 H0 (V m) c from rfl, inv_eq]
  unfold Dat.owesAt Pipeline.owesWithin
  rw [show (dats m 0 c).owed t.castSucc = 0 from rfl, show (dats m 0 c).owed t.succ = 0 from rfl]
  simp only [before_0, before_1, before_2, before_3, before_4, before_5, before_6, before_7, before_8, before_9, before_10, before_11, before_12, before_13, before_14]
  iintro ⟨⟨⟨HS0, HS1, HS2, HS3, HS4, HS5, HS6, HS7, HS8, HS9⟩, Hg, ⟨Hq0, Hq1, Hq2, Hq3, Hq4, Hq5, Hq6, Hq7, Hq8, Hq9, Hq10, Hq11, Hq12, Hq13, Hq14, Hq15⟩, ⟨Ha, Hb⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_spec (defs := defs₀ (F := F)) Variants.none c none (Memref.whole main_arg2) (Memref.isWhole_whole _) (Memref.whole main_arg3) (Memref.isWhole_whole _) (ms0 t) (hstage0_0 0) (ms1 t) (hstage0_1 0) (ms2 t) (hstage0_2 0) (ms3 t) (hstage0_3 0) (ms4 t) (hstage0_4 0) (ms5 t) (hstage0_5 0) (ms6 t) (hstage0_6 0) (ms7 t) (hstage0_7 0) (ms8 t) (hstage0_8 0) (ms9 t) (hstage0_9 0) (ms10 t) (hstage0_10 0) (ms11 t) (hstage0_11 0) (ms12 t) (hstage0_12 0) (ms13 t) (hstage0_13 0) (ms14 t) (hstage0_14 0) (ms15 t) (hstage0_15 0) (sc0) (Memref.isWhole_whole _) (sc1) (Memref.isWhole_whole _) (sc2) (Memref.isWhole_whole _) (sc3) (Memref.isWhole_whole _) (sc4) (Memref.isWhole_whole _) (sc5) (Memref.isWhole_whole _) (sc6) (Memref.isWhole_whole _) (sc7) (Memref.isWhole_whole _) (sc8) (Memref.isWhole_whole _) (sc9) (Memref.isWhole_whole _) cc0_scratch10 cc0_scratch11 cc0_scratch12 cc0_scratch13
    (V m c main_arg2) (V m c main_arg3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) credit0 credit1 credit2 credit3) $$ [Ha Hb HS0 HS1 HS2 HS3 HS4 HS5 HS6 HS7 HS8 HS9 Hq0 Hq1 Hq2 Hq3 Hq4 Hq5 Hq6 Hq7 Hq8 Hq9 Hq10 Hq11 Hq12 Hq13 Hq14 Hq15 H0 H1 H2 H3 H4 H5 H6 H7 H8 H9 H10 H11 H12 H13 H14 H15 HW]
  · isplitl [Ha]; · iexact Ha
    isplitl [Hb]; · iexact Hb
    isplitl [H0 H1 H2 H3 H4 H5 H6 H7 H8 H9 H10 H11 H12 H13 H14]
    · unfold Ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iapply (any_intro c (ms15 t)) $$ H15
    isplitl [HS0 HS1 HS2 HS3 HS4 HS5 HS6 HS7 HS8 HS9]
    · unfold Scr Any
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hq0 Hq1 Hq2 Hq3 Hq4 Hq5 Hq6 Hq7 Hq8 Hq9 Hq10 Hq11 Hq12 Hq13 Hq14 Hq15]
    · unfold Sms
      rw [sems0, sems1, sems2, sems3]
      isplitl [Hq0 Hq1 Hq2 Hq3]
      · isplitl [Hq0]; · iexact Hq0
        isplitl [Hq1]; · iexact Hq1
        isplitl [Hq2]; · iexact Hq2
        iexact Hq3
      isplitl [Hq4 Hq5 Hq6 Hq7]
      · isplitl [Hq4]; · iexact Hq4
        isplitl [Hq5]; · iexact Hq5
        isplitl [Hq6]; · iexact Hq6
        iexact Hq7
      isplitl [Hq8 Hq9 Hq10 Hq11]
      · isplitl [Hq8]; · iexact Hq8
        isplitl [Hq9]; · iexact Hq9
        isplitl [Hq10]; · iexact Hq10
        iexact Hq11
      isplitl [Hq12]; · iexact Hq12
      isplitl [Hq13]; · iexact Hq13
      isplitl [Hq14]; · iexact Hq14
      iexact Hq15
    iexists W; iexact HW
  iintro ⟨Ha, Hb, HI, H15, HS, HQ, ⟨%W', HW'⟩⟩
  unfold Ins Scr Any Sms
  rw [sems0, sems1, sems2, sems3]
  icases HI with ⟨H0, H1, H2, H3, H4, H5, H6, H7, H8, H9, H10, H11, H12, H13, H14⟩
  icases HS with ⟨HS0, HS1, HS2, HS3, HS4, HS5, HS6, HS7, HS8, HS9⟩
  icases HQ with ⟨⟨Hq0, Hq1, Hq2, Hq3⟩, ⟨Hq4, Hq5, Hq6, Hq7⟩, ⟨Hq8, Hq9, Hq10, Hq11⟩, ⟨Hq12, Hq13, Hq14, Hq15⟩⟩
  isplitl [Ha Hb HS0 HS1 HS2 HS3 HS4 HS5 HS6 HS7 HS8 HS9 Hq0 Hq1 Hq2 Hq3 Hq4 Hq5 Hq6 Hq7 Hq8 Hq9 Hq10 Hq11 Hq12 Hq13 Hq14 Hq15 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hg]; · iexact Hg
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Ha]; · iexact Ha
    iexact Hb
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program's run: every array at its final contents, every semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := host_prefix m Variants.none) (hA := A_eq m)
    (hin := fun _ => .rfl) (hout := fun _ => .rfl)

/-- The argument arrays as launched, in a final memory `m'` of core `c`. -/
def Kept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)
  ∧ m' ((c.tc : Thread nD τ).loc main_arg12) = m ((c.tc : Thread nD τ).loc main_arg12)
  ∧ m' ((c.tc : Thread nD τ).loc main_arg13) = m ((c.tc : Thread nD τ).loc main_arg13)
  ∧ m' ((c.tc : Thread nD τ).loc main_arg14) = m ((c.tc : Thread nD τ).loc main_arg14)
  ∧ m' ((c.tc : Thread nD τ).loc main_arg15) = m ((c.tc : Thread nD τ).loc main_arg15)

/-- Each argument array ends as launched. -/
theorem kept {r : PUnit × MemSt nD τ sig (Elt F)} (h : Pipeline.FramePost cfgs (dats m) 0 (V m) r) (c : Dev nD) : Kept m r.2.mem c := by
  have win (w : Fin cfg0.W) (hw : (cfg0.win w).isOut = false) :
      r.2.mem ((cfg0.spec w).arr.view.loc (c.tc : Thread nD τ)) = V m c (Pipeline.arrRef spec0 w) :=
    ((h c).1 w).trans (((dats m 0 c).arrAt_in w hw _).trans (A_eq m c w))
  refine ⟨?_, ?_, ?_, ?_, ?_, ?_, ?_, ?_, ?_, ?_, ?_, ?_, ?_, ?_, ?_, ?_⟩

  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact (win 3 rfl).trans (V_main_arg4 m c)
  · exact ((h c).2 main_arg5 (Pipeline.mem_restRefs_of main_arg5 (by decide) (by decide))).trans (V_main_arg5 m c)
  · exact (win 5 rfl).trans (V_main_arg6 m c)
  · exact ((h c).2 main_arg7 (Pipeline.mem_restRefs_of main_arg7 (by decide) (by decide))).trans (V_main_arg7 m c)
  · exact ((h c).2 main_arg8 (Pipeline.mem_restRefs_of main_arg8 (by decide) (by decide))).trans (V_main_arg8 m c)
  · exact ((h c).2 main_arg9 (Pipeline.mem_restRefs_of main_arg9 (by decide) (by decide))).trans (V_main_arg9 m c)
  · exact ((h c).2 main_arg10 (Pipeline.mem_restRefs_of main_arg10 (by decide) (by decide))).trans (V_main_arg10 m c)
  · exact ((h c).2 main_arg11 (Pipeline.mem_restRefs_of main_arg11 (by decide) (by decide))).trans (V_main_arg11 m c)
  · exact (win 11 rfl).trans (V_main_arg12 m c)
  · exact ((h c).2 main_arg13 (Pipeline.mem_restRefs_of main_arg13 (by decide) (by decide))).trans (V_main_arg13 m c)
  · exact (win 13 rfl).trans (V_main_arg14 m c)
  · exact ((h c).2 main_arg15 (Pipeline.mem_restRefs_of main_arg15 (by decide) (by decide))).trans (V_main_arg15 m c)

/-- The frame: the program terminates, nothing faults, its arguments are kept and every semaphore ends at zero. -/
theorem frame : θ_run defs (onTc (τ := τ) (main (F := F))) ⟨m, fun _ => 0, ρ⟩ (fun r => (∀ c : Dev nD, Kept m r.2.mem c) ∧ r.2.sem = fun _ => 0) :=
  (θ_run defs _ _).mono (fun _ h => ⟨fun c => kept m h.1 c, h.2⟩) (run_main m ρ)

/-! ## The result -/

/-- The result array ends at the kernel's value at the one point. -/
theorem final_out (c : Dev nD) : (dats m 0 c).arrAt 15 cfg0.N = outAt m c t0_0 :=
  (dats m 0 c).arrAt_eq_of_after_last 15 t0_0 (by decide +kernel) _ (fun j => by rw [after_15]; rfl)

/-- The run with the result named. -/
theorem run_value : θ_run defs (onTc (τ := τ) (main (F := F))) ⟨m, fun _ => 0, ρ⟩ (fun r => (∀ c : Dev nD,
      Kept m r.2.mem c ∧ r.2.mem ((c.tc : Thread nD τ).loc main_v17) = outAt m c t0_0) ∧ r.2.sem = fun _ => 0) :=
  (θ_run defs _ _).mono (fun _ h => ⟨fun c => ⟨kept m h.1 c, ((h.1 c).1 15).trans (final_out m c)⟩, h.2⟩) (run_main m ρ)

end Cert.KernelIdeal.Hand

end
-- ==== Proof.Transfer.lean ====
/-
  Hand-written, untrusted. The printed program and the program read at the extended reals are one text, so what is proved
  of the second for any float type holds of the first.
-/
module

public import proofs.«01_k».proof.Proof.Frame
public import proofs.«01_k».proof.Kernel
public import proofs.«01_k».proof.Proof.Gen.Kernel

@[expose] public section

set_option maxRecDepth 100000

noncomputable section

namespace Cert.Kernel.Hand

open Idealize.ShloMosaic Idealize.ShloMosaic.TcCoe
open Idealize.SL.Sem

variable {F : FTy → Type} [FloatOps F]

/-- The two kernel bodies are one program. -/
theorem body_eq : @Cert.Kernel.cc0__body F _ _ = @Cert.KernelIdeal.cc0__body F _ _ := rfl

set_option maxHeartbeats 4000000 in
/-- The two body tables are one table. -/
theorem bodies_eq : @Cert.Kernel.defs₀ F _ _ = @Cert.KernelIdeal.defs₀ F _ _ := by
  unfold Cert.Kernel.defs₀ Cert.KernelIdeal.defs₀
  refine congrArg Defs.onTc ?_
  funext l x
  match l with
  | 0 => exact rfl

set_option maxHeartbeats 4000000 in
/-- The two definition tables are one table. -/
theorem defs_eq : @Cert.Kernel.defs F _ _ = @Cert.KernelIdeal.defs F _ _ :=
  congrArg (Pipeline.defs (Cert.KernelIdeal.pcfgs (F := F))) bodies_eq

set_option maxHeartbeats 4000000 in
/-- The two main programs are one program. -/
theorem main_eq : @Cert.Kernel.main F _ _ = @Cert.KernelIdeal.main F _ _ := rfl

set_option maxHeartbeats 4000000 in
/-- The frame of the printed program. -/
theorem frame (m : (ℓ : Loc nD τ sig) → Buf (Elt F) ℓ) (ρ : Dev nD → PrngReg) :
    θ_run (Cert.Kernel.defs (F := F)) (onTc (τ := Cert.Kernel.τ) (Cert.Kernel.main (F := F))) ⟨m, fun _ => 0, ρ⟩
      (fun r => (∀ c : Dev nD, Cert.KernelIdeal.Hand.Kept (F := F) m r.2.mem c) ∧ r.2.sem = fun _ => 0) := by
  rw [defs_eq, main_eq]
  exact Cert.KernelIdeal.Hand.frame (F := F) m ρ

end Cert.Kernel.Hand

end
-- ==== Proof.Reads.lean ====
/-
  Hand-written, untrusted. Vector operations of the extended reals read at an index: products, the sum of a column,
  broadcasts of one row, one column and one element, blocks of rows.
-/
module

public import Idealize.ShloMosaic.Lib.ValueIdx
public import Idealize.ShloMosaic.Lib.MatmulPlain
public import Idealize.ShloMosaic.Lib.StackMember
public import Idealize.ShloMosaic.Lib.ValueLayout
public import Idealize.ShloMosaic.Lib.IdealHost
public import Idealize.ShloMosaic.Lib.Pipeline.Value
public import Idealize.ShloMosaic.Lib.TwoAxisContraction
public import proofs.«01_k».proof.Proof.Slot

@[expose] public section

noncomputable section

namespace Cert.Reads

open Idealize.ShloMosaic
open Idealize.ShloMosaic.ValueIdx (ix1 ix2 ix3 ix4)

/-- The zero word reads zero. -/
theorem zero_word : Ideal.ofBits .f32 0x00000000#32 = 0 := by simp [Ideal.ofBits, Ideal.ieee]

/-- A product onto zero at an index: the sum over the contracted coordinate. -/
theorem matmul_at {M K N : ℕ} {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  refine (Ideal.matmul_plain_apply prec l r _ a b).trans ?_
  show Ideal.ofBits .f32 0x00000000#32 + _ = _
  rw [zero_word, zero_add]

/-- The host's product at an index: the sum over the contracted coordinate. -/
theorem dot_at {M K N : ℕ} {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  subst hD
  exact StackMember.dotGeneral_plain_apply prec l r a b

/-- The one element broadcast over an array. -/
theorem one_at {α : Type} {m n : ℕ} (x : (⟨2, ![1, 1]⟩ : Shape).Idx → α) (h : (⟨2, ![1, 1]⟩ : Shape).Broadcasts ⟨2, ![m, n]⟩)
    (a : Fin m) (b : Fin n) : broadcastTo ⟨2, ![m, n]⟩ x h (ix2 a b) = x (ix2 0 0) :=
  broadcastTo_apply x h _ _ fun d => match d with | ⟨0, _⟩ => rfl | ⟨1, _⟩ => rfl

/-- One row broadcast over the rows. -/
theorem row_at {α : Type} {m n : ℕ} (hn : n ≠ 1) (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) :=
  broadcastTo_apply x h _ _ fun d => match d with | ⟨0, _⟩ => rfl | ⟨1, _⟩ => (if_neg hn).symm

/-- One column broadcast over the columns. -/
theorem col_at {α : Type} {m n : ℕ} (hm : m ≠ 1) (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a 0) :=
  broadcastTo_apply x h _ _ fun d => match d with | ⟨0, _⟩ => (if_neg hm).symm | ⟨1, _⟩ => rfl

/-- The sum of a column, kept as one element. -/
theorem sum_at {m : ℕ} (x : FVec Ideal ⟨2, ![m, 1]⟩ .f32) (h : (⟨2, ![m, 1]⟩ : Shape).Reduces [0] ⟨1, ![1]⟩)
    (hφ : FKind.Formats .f32) (hacc : 0x00000000#32 = FKind.add.neutral .f32 hφ) (hc : (⟨1, ![1]⟩ : Shape).ShapeCasts ⟨2, ![1, 1]⟩) :
    shapeCast ⟨2, ![1, 1]⟩ (multiReduction .add [0] ⟨1, ![1]⟩ x 0x00000000#32 h hφ hacc) hc (ix2 0 0)
      = ∑ i : Fin m, x (ix2 i 0) := by
  refine (shapeCast_apply _ hc _ (ix1 0) rfl).trans ?_
  refine (Ideal.multiReduction_add_single x _ h hφ hacc _).trans ?_
  refine Finset.sum_congr rfl fun i _ => congrArg x (funext fun d => Fin.ext ?_)
  match d with
  | ⟨0, _⟩ => rfl
  | ⟨1, _⟩ => rfl

end Cert.Reads

namespace Cert.Proof.Slot

open Idealize.ShloMosaic
open Idealize.ShloMosaic.ValueIdx (ix2)

/-- Row `n` of an array, read in the block of rows that holds it. -/
theorem rows_at {α : Type} {w : ℕ} (U : (⟨2, ![4096, w]⟩ : Shape).Idx → α) (n : Fin 4096) (b : Fin w) (h : n.val % 256 < 256) :
    rows U (256 * (n.val / 256)) (ix2 ⟨n.val % 256, h⟩ b) = U (ix2 n b) := by
  unfold rows
  refine congrArg (fun a => U (ix2 a b)) (Fin.ext ?_)
  show (256 * (n.val / 256) + n.val % 256) % 4096 = n.val
  rw [Nat.div_add_mod, Nat.mod_eq_of_lt n.isLt]

/-- Row `n` of an array given by blocks is row `n % 256` of block `n / 256`. -/
theorem tiled_at {α : Type} {w : ℕ} (f : ℕ → (⟨2, ![256, w]⟩ : Shape).Idx → α) (n : Fin 4096) (b : Fin w) :
    tiled f (ix2 n b) = f (n.val / 256) (ix2 ⟨n.val % 256, Nat.mod_lt _ (by decide)⟩ b) := rfl

end Cert.Proof.Slot

end
-- ==== Proof.Math.lean ====
/-
  Hand-written, untrusted. The algebra of the two layers: for finite arguments the second layer of the first is the
  node's own value and four Laplacian products, each under a coefficient summed over the channels.
-/
module

public import Idealize.ShloMosaic.PureOps
public import Mathlib.Data.EReal.Operations
public import Mathlib.Algebra.BigOperators.Ring.Finset
public import Mathlib.Algebra.BigOperators.Fin
public import Mathlib.Tactic.Ring

@[expose] public section

noncomputable section

namespace Cert.Layers

variable {ι κ : Type} [Fintype ι] [Fintype κ]

/-- The product of a matrix with a vector at a row. -/
def lap {R : Type} [AddCommMonoid R] [Mul R] (D : ι → ι → R) (x : ι → R) (n : ι) : R := ∑ k, D n k * x k

/-- A layer's value at a node for one output channel of a single input channel: the node's own value and its two
    Laplacian products, weighted. -/
def first {R : Type} [AddCommMonoid R] [Mul R] (D U : ι → ι → R) (x : ι → R) (a : κ → Fin 3 → R) (n : ι) (i : κ) : R :=
  x n * a i 0 + lap D x n * a i 1 + lap U x n * a i 2

/-- A layer's value at a node for its one output channel, from values `h` on several channels. -/
def second {R : Type} [AddCommMonoid R] [Mul R] (D U : ι → ι → R) (h : ι → κ → R) (b : κ → Fin 3 → R) (n : ι) : R :=
  ∑ i, (h n i * b i 0 + lap D (fun k => h k i) n * b i 1 + lap U (fun k => h k i) n * b i 2)

/-- The coefficient of a pair of taps: the weights' product summed over the channels. -/
def coef {R : Type} [AddCommMonoid R] [Mul R] (a b : κ → Fin 3 → R) (p q : Fin 3) : R := ∑ i, a i p * b i q

/-- The two layers expanded: the node's own value, its two products, and the products of the products. -/
def expanded {R : Type} [AddCommMonoid R] [Mul R] (D U : ι → ι → R) (x : ι → R) (a b : κ → Fin 3 → R) (n : ι) : R :=
  coef a b 0 0 * x n
    + ((coef a b 1 0 + coef a b 0 1) * lap D x n + (coef a b 2 0 + coef a b 0 2) * lap U x n)
    + lap D (fun k => coef a b 1 1 * lap D x k + coef a b 2 1 * lap U x k) n
    + lap U (fun k => coef a b 1 2 * lap D x k + coef a b 2 2 * lap U x k) n

/-- The first layer summed over the channels under the second layer's weights of one tap. -/
theorem first_sum (D U : ι → ι → ℝ) (x : ι → ℝ) (a b : κ → Fin 3 → ℝ) (n : ι) (q : Fin 3) :
    ∑ i, first D U x a n i * b i q = coef a b 0 q * x n + (coef a b 1 q * lap D x n + coef a b 2 q * lap U x n) := by
  simp only [first, coef, Finset.sum_mul, ← Finset.sum_add_distrib]
  exact Finset.sum_congr rfl fun i _ => by ring

/-- A product with a vector that is a weighted sum over the channels. -/
theorem lap_sum (D : ι → ι → ℝ) (h : ι → κ → ℝ) (w : κ → ℝ) (n : ι) :
    ∑ i, lap D (fun k => h k i) n * w i = lap D (fun k => ∑ i, h k i * w i) n := by
  simp only [lap, Finset.sum_mul, Finset.mul_sum]
  rw [Finset.sum_comm]
  exact Finset.sum_congr rfl fun k _ => Finset.sum_congr rfl fun i _ => by ring

/-- A product with a sum of a multiple of a vector and another vector. -/
theorem lap_add (D : ι → ι → ℝ) (c : ℝ) (x y : ι → ℝ) (n : ι) :
    lap D (fun k => c * x k + y k) n = c * lap D x n + lap D y n := by
  simp only [lap, Finset.mul_sum, ← Finset.sum_add_distrib]
  exact Finset.sum_congr rfl fun k _ => by ring

/-- The two layers are their expansion, over the reals. -/
theorem second_first_real (D U : ι → ι → ℝ) (x : ι → ℝ) (a b : κ → Fin 3 → ℝ) (n : ι) :
    second D U (first D U x a) b n = expanded D U x a b n := by
  unfold second expanded
  rw [Finset.sum_add_distrib, Finset.sum_add_distrib, lap_sum, lap_sum, first_sum]
  simp only [first_sum, lap_add]
  ring

/-- A sum of reals read at the extended reals. -/
theorem coe_sum {τ : Type} [Fintype τ] (f : τ → ℝ) : ((∑ i, f i : ℝ) : EReal) = ∑ i, (f i : EReal) := by
  classical
  refine Finset.induction_on (Finset.univ : Finset τ) (by simp) fun i s hi ih => ?_
  rw [Finset.sum_insert hi, Finset.sum_insert hi, EReal.coe_add, ih]

/-- A product of real entries read at the extended reals. -/
theorem lap_coe (D : ι → ι → ℝ) (x : ι → ℝ) (n : ι) :
    lap (fun i k => (D i k : EReal)) (fun k => (x k : EReal)) n = ((lap D x n : ℝ) : EReal) := by
  simp only [lap, coe_sum, EReal.coe_mul]

/-- A coefficient of real weights read at the extended reals. -/
theorem coef_coe (a b : κ → Fin 3 → ℝ) (p q : Fin 3) :
    coef (fun i k => (a i k : EReal)) (fun i k => (b i k : EReal)) p q = ((coef a b p q : ℝ) : EReal) := by
  simp only [coef, coe_sum, EReal.coe_mul]

/-- The first layer of real arguments read at the extended reals. -/
theorem first_coe (D U : ι → ι → ℝ) (x : ι → ℝ) (a : κ → Fin 3 → ℝ) (n : ι) (i : κ) :
    first (fun i k => (D i k : EReal)) (fun i k => (U i k : EReal)) (fun k => (x k : EReal)) (fun i k => (a i k : EReal)) n i
      = ((first D U x a n i : ℝ) : EReal) := by
  simp only [first, lap_coe, EReal.coe_add, EReal.coe_mul]

/-- The two layers of finite arguments are their expansion, at the extended reals. -/
theorem second_first (D U : ι → ι → EReal) (x : ι → EReal) (a b : κ → Fin 3 → EReal)
    (hD : ∀ i k, ∃ r : ℝ, D i k = r) (hU : ∀ i k, ∃ r : ℝ, U i k = r) (hx : ∀ i, ∃ r : ℝ, x i = r)
    (ha : ∀ i k, ∃ r : ℝ, a i k = r) (hb : ∀ i k, ∃ r : ℝ, b i k = r) (n : ι) :
    second D U (first D U x a) b n = expanded D U x a b n := by
  choose D' hD using hD
  choose U' hU using hU
  choose x' hx using hx
  choose a' ha using ha
  choose b' hb using hb
  obtain rfl : D = fun i k => (D' i k : EReal) := funext fun i => funext (hD i)
  obtain rfl : U = fun i k => (U' i k : EReal) := funext fun i => funext (hU i)
  obtain rfl : x = fun i => (x' i : EReal) := funext hx
  obtain rfl : a = fun i k => (a' i k : EReal) := funext fun i => funext (ha i)
  obtain rfl : b = fun i k => (b' i k : EReal) := funext fun i => funext (hb i)
  have h := congrArg (fun r : ℝ => (r : EReal)) (second_first_real D' U' x' a' b' n)
  simp only [second, expanded, coe_sum, EReal.coe_add, EReal.coe_mul] at h ⊢
  simp only [first_coe, lap_coe, coef_coe, ← EReal.coe_mul, ← EReal.coe_add] at h ⊢
  exact h

end Cert.Layers

end
-- ==== Proof.Net.lean ====
/-
  Hand-written, untrusted. The network's dense part for one batch element, on coordinates: the time embedding and the
  three products that follow the mixed features.
-/
module

public import Idealize.ShloMosaic.PureOps.Ideal.Laws
public import Idealize.ShloMosaic.Lib.ValueIdxCore
public import Mathlib.Data.EReal.Operations

@[expose] public section

noncomputable section

namespace Cert.Net

open Idealize.ShloMosaic

/-- The activation: a value times its logistic. -/
def silu (h : EReal) : EReal := h * Ideal.logistic h

/-- A dense layer at an output: the products' sum and the bias. -/
def dense {K N : ℕ} (x : Fin K → EReal) (w : Fin K → Fin N → EReal) (b : Fin N → EReal) (j : Fin N) : EReal :=
  (∑ k, x k * w k j) + b j

/-- The embedding's frequencies: a geometric progression's exponent at each position, under the exponential. -/
def freq (k : Fin 64) : EReal :=
  Ideal.exp (Ideal.div (Ideal.ofBits .f32 0xC1135D8E#32 * (sitofp .f32 (iotaInDim ⟨1, ![64]⟩ 32 0) : FVec Ideal ⟨1, ![64]⟩ .f32) (ValueIdx.ix1 k))
    (Ideal.ofBits .f32 0x42800000#32))

/-- The time embedding: cosines and sines of the time at the frequencies, a dense layer, the activation, a dense layer. -/
def embed (t : EReal) (f : Fin 64 → EReal) (top bot : Fin 64 → Fin 64 → EReal) (b₁ : Fin 64 → EReal)
    (w₂ : Fin 64 → Fin 64 → EReal) (b₂ : Fin 64 → EReal) : Fin 64 → EReal :=
  dense (fun j => silu (((∑ k, Ideal.cos (t * f k) * top k j) + ∑ k, Ideal.sin (t * f k) * bot k j) + b₁ j)) w₂ b₂

/-- The result: the mixed features mapped down, the embedding added, a dense layer, the activation, a dense layer. -/
def out (tem : Fin 64 → EReal) (mix : Fin 4096 → EReal) (mw : Fin 4096 → Fin 64 → EReal) (mb : Fin 64 → EReal)
    (w₁ : Fin 64 → Fin 64 → EReal) (b₁ : Fin 64 → EReal) (w₂ : Fin 64 → Fin 4096 → EReal) (b₂ : Fin 4096 → EReal) : Fin 4096 → EReal :=
  dense (fun j => silu (dense (fun i => dense mix mw mb i + tem i) w₁ b₁ j)) w₂ b₂

end Cert.Net

end
-- ==== Proof.KernelValue.lean ====
/-
  Hand-written, untrusted. The kernel's result on the extended reals, at an index: the network's dense part of the two
  layers expanded.
-/
module

public import proofs.«01_k».proof.Proof.Whole
public import proofs.«01_k».proof.Proof.Reads
public import proofs.«01_k».proof.Proof.Math
public import proofs.«01_k».proof.Proof.Net

@[expose] public section

noncomputable section

namespace Cert.KernelIdeal.Value

open Idealize.ShloMosaic Idealize.ShloMosaic.TcCoe
open Idealize.ShloMosaic.ValueIdx (ix1 ix2 mulf_apply slice2_axis1_apply)
open Cert.KernelIdeal.Gen Cert.KernelIdeal.Run Cert.KernelIdeal.Whole Cert.Proof.Slot Cert.Reads Cert.Layers

/-! ## The coefficients -/

section Coef

variable (a b : FVec Ideal S64x3 .f32)

/-- The coefficient of a pair of taps, summed as the kernel sums it: the sum over a column of the two columns' product. -/
theorem tap (p q : Fin 3) (hp : S64x3.Slices ![0, p.val] S64x1) (hq : S64x3.Slices ![0, q.val] S64x1) (h : S64x1.Reduces [0] S1)
    (hφ : FKind.Formats .f32) (hacc : 0x00000000#32 = FKind.add.neutral .f32 hφ) (hc : S1.ShapeCasts S1x1) :
    shapeCast S1x1 (multiReduction .add [0] S1 (mulf (extractStridedSlice S64x1 ![0, p.val] a hp) (extractStridedSlice S64x1 ![0, q.val] b hq))
        0x00000000#32 h hφ hacc) hc (ix2 0 0)
      = coef (fun i p => a (ix2 i p)) (fun i q => b (ix2 i q)) p q := by
  refine (sum_at _ h hφ hacc hc).trans (Finset.sum_congr rfl fun i _ => ?_)
  rw [mulf_apply, slice2_axis1_apply p.val a hp i 0 p rfl, slice2_axis1_apply q.val b hq i 0 q rfl]

theorem pay40_eq : k0_pay40 a = a := shapeCast_self a _
theorem pay41_eq : k0_pay41 a = a := shapeCast_self a _

theorem pay42_at : k0_pay42 a b (ix2 0 0) = coef (fun i p => a (ix2 i p)) (fun i q => b (ix2 i q)) 0 0 := by
  unfold k0_pay42; rw [pay40_eq, pay41_eq]; exact tap a b 0 0 _ _ _ _ _ _

theorem pay43_at : k0_pay43 a b (ix2 0 0)
    = coef (fun i p => a (ix2 i p)) (fun i q => b (ix2 i q)) 1 0 + coef (fun i p => a (ix2 i p)) (fun i q => b (ix2 i q)) 0 1 := by
  unfold k0_pay43; rw [pay40_eq, pay41_eq]
  exact congrArg₂ (· + ·) (tap a b 1 0 _ _ _ _ _ _) (tap a b 0 1 _ _ _ _ _ _)

theorem pay46_at : k0_pay46 (k0_pay44 a b) (k0_pay45 a b) (ix2 0 0)
    = coef (fun i p => a (ix2 i p)) (fun i q => b (ix2 i q)) 2 0 + coef (fun i p => a (ix2 i p)) (fun i q => b (ix2 i q)) 0 2 := by
  unfold k0_pay46 k0_pay44 k0_pay45; rw [pay40_eq, pay41_eq]
  exact congrArg₂ (· + ·) (tap a b 2 0 _ _ _ _ _ _) (tap a b 0 2 _ _ _ _ _ _)

theorem pay47_at : k0_pay47 a b (ix2 0 0) = coef (fun i p => a (ix2 i p)) (fun i q => b (ix2 i q)) 1 1 := tap a b 1 1 _ _ _ _ _ _
theorem pay48_at : k0_pay48 a b (ix2 0 0) = coef (fun i p => a (ix2 i p)) (fun i q => b (ix2 i q)) 2 1 := tap a b 2 1 _ _ _ _ _ _
theorem pay49_at : k0_pay49 a b (ix2 0 0) = coef (fun i p => a (ix2 i p)) (fun i q => b (ix2 i q)) 1 2 := tap a b 1 2 _ _ _ _ _ _
theorem pay50_at : k0_pay50 a b (ix2 0 0) = coef (fun i p => a (ix2 i p)) (fun i q => b (ix2 i q)) 2 2 := tap a b 2 2 _ _ _ _ _ _

end Coef

/-! ## The three loops -/

section Loops

variable (X0 X1 : FVec Ideal S4096x4096 .f32) (X2 : FVec Ideal S4096x8 .f32)

/-- A matrix's rows as functions of two coordinates. -/
abbrev mat {m n : ℕ} {φ : FTy} (X : FVec Ideal ⟨2, ![m, n]⟩ φ) : Fin m → Fin n → EReal := fun a b => X (ix2 a b)
/-- A column as a function of the row. -/
abbrev col {m n : ℕ} {φ : FTy} (X : FVec Ideal ⟨2, ![m, n]⟩ φ) (b : Fin n) : Fin m → EReal := fun a => X (ix2 a b)

/-- A block of a matrix's rows times an array, at a row of the matrix: the matrix's product at that row. -/
theorem block_at {φ₁ φ₂ : FTy} (X : FVec Ideal S4096x4096 φ₁) (Y : FVec Ideal S4096x8 φ₂) (n : Fin 4096) (b : Fin 8) (h : n.val % 256 < 256) :
    matmul dot_S256x4096_S4096x8_S256x8_1_0_0_1_n_n none (rows X (256 * (n.val / 256))) Y (constant S256x8 .f32 0x00000000#32)
        (ix2 ⟨n.val % 256, h⟩ b)
      = lap (mat X) (col Y b) n := by
  refine (matmul_at _ rfl none _ Y _ b).trans (Finset.sum_congr rfl fun k _ => ?_)
  rw [rows_at]

theorem Uval_at (n : Fin 4096) (b : Fin 8) : Uval X0 X2 (ix2 n b) = lap (mat X0) (col X2 b) n := by
  unfold Uval
  rw [tiled_at]
  unfold k0_pay2 k0_pay51
  simp only [shapeCast_self]
  exact block_at X0 X2 n b _

theorem Sval_at (n k : Fin 4096) : Sval X0 (ix2 n k) = X0 (ix2 n k) := by
  unfold Sval
  rw [tiled_at]
  unfold k0_pay3
  simp only [shapeCast_self]
  exact rows_at X0 n k _

/-- A combination of the two products, as the second loop stores it. -/
theorem comb_at (v v' : FVec Ideal S1x1 .f32) (n : Fin 4096) (b : Fin 8) (h : n.val % 256 < 256) :
    addf (mulf (broadcastTo S256x8 v broadcasts_S1x1_S256x8) (k0_pay11 (rows (Uval X0 X2) (256 * (n.val / 256)))))
        (mulf (broadcastTo S256x8 v' broadcasts_S1x1_S256x8) (k0_pay10 (k0_pay51 X2) (rows X1 (256 * (n.val / 256))))) (ix2 ⟨n.val % 256, h⟩ b)
      = v (ix2 0 0) * lap (mat X0) (col X2 b) n + v' (ix2 0 0) * lap (mat X1) (col X2 b) n := by
  refine congrArg₂ (· + ·) (congrArg₂ (· * ·) (one_at v _ _ _) ?_) (congrArg₂ (· * ·) (one_at v' _ _ _) ?_)
  · exact (rows_at (Uval X0 X2) n b h).trans (Uval_at X0 X2 n b)
  · unfold k0_pay10 k0_pay51
    simp only [shapeCast_self]
    exact block_at X1 X2 n b h

theorem Rval_at (v v' : FVec Ideal S1x1 .f32) (n : Fin 4096) (b : Fin 8) : Rval v v' X0 X1 X2 (ix2 n b)
    = v (ix2 0 0) * lap (mat X0) (col X2 b) n + v' (ix2 0 0) * lap (mat X1) (col X2 b) n := by
  unfold Rval
  rw [tiled_at]
  unfold k0_pay12
  simp only [shapeCast_self]
  exact comb_at X0 X1 X2 v v' n b _

theorem Pval_at (v v' : FVec Ideal S1x1 .f32) (n : Fin 4096) (b : Fin 8) : Pval v v' X0 X1 X2 (ix2 n b)
    = v (ix2 0 0) * lap (mat X0) (col X2 b) n + v' (ix2 0 0) * lap (mat X1) (col X2 b) n := by
  unfold Pval
  rw [tiled_at]
  unfold k0_pay13
  simp only [shapeCast_self]
  exact comb_at X0 X1 X2 v v' n b _

theorem Qval_at (v v' : FVec Ideal S1x1 .f32) (n : Fin 4096) (b : Fin 8) : Qval v v' X0 X1 X2 (ix2 n b)
    = v (ix2 0 0) * lap (mat X0) (col X2 b) n + v' (ix2 0 0) * lap (mat X1) (col X2 b) n := by
  unfold Qval
  rw [tiled_at]
  unfold k0_pay14
  simp only [shapeCast_self]
  exact comb_at X0 X1 X2 v v' n b _

theorem Oval_at (v : FVec Ideal S1x1 .f32) (R P : FVec Ideal S4096x8 .bf16) (Q : FVec Ideal S4096x8 .f32) (n : Fin 4096) (b : Fin 8) :
    Oval v R P Q X0 X1 X2 (ix2 n b)
      = v (ix2 0 0) * X2 (ix2 n b) + R (ix2 n b) + lap (mat X0) (col P b) n + lap (mat X1) (col Q b) n := by
  unfold Oval
  rw [tiled_at]
  unfold k0_pay52
  simp only [shapeCast_self]
  refine congrArg₂ (· + ·) (congrArg₂ (· + ·) (congrArg₂ (· + ·) (congrArg₂ (· * ·) (one_at v _ _ _) ?_) ?_) ?_) ?_
  · exact rows_at X2 n b _
  · exact rows_at R n b _
  · refine (block_at (Sval X0) P n b _).trans ?_
    exact congrArg (fun D : Fin 4096 → Fin 4096 → EReal => lap D (col P b) n) (funext fun i => funext fun k => Sval_at X0 i k)
  · exact block_at X1 Q n b _

/-- The third loop's result: the two layers expanded. -/
theorem mixed_at (X9 X10 : FVec Ideal S64x3 .f32) (n : Fin 4096) (b : Fin 8) :
    mixed X0 X1 X2 X9 X10 (ix2 n b) = expanded (mat X0) (mat X1) (col X2 b) (mat X9) (mat X10) n := by
  unfold mixed
  rw [Oval_at, Rval_at, pay42_at, pay43_at, pay46_at, pay40_eq, pay41_eq]
  refine congrArg₂ (· + ·) (congrArg (_ + ·) (congrArg (fun y : Fin 4096 → EReal => lap (mat X0) y n) (funext fun k => ?_)))
    (congrArg (fun y : Fin 4096 → EReal => lap (mat X1) y n) (funext fun k => ?_))
  · exact (Pval_at X0 X1 X2 _ _ k b).trans (by rw [pay47_at, pay48_at])
  · exact (Qval_at X0 X1 X2 _ _ k b).trans (by rw [pay49_at, pay50_at])

end Loops

/-! ## The dense part -/

/-- The upper half's rows. -/
theorem topHalf_at (X : FVec Ideal S128x64 .f32) (k j : Fin 64) : topHalf X (ix2 k j) = X (ix2 (Fin.castAdd 64 k) j) :=
  congrArg X (funext fun d => Fin.ext (match d with | ⟨0, _⟩ => (by show 0 + 1 * k.val = k.val; omega) | ⟨1, _⟩ => (by show 0 + 1 * j.val = j.val; omega)))

/-- The lower half's rows. -/
theorem botHalf_at (X : FVec Ideal S128x64 .f32) (k j : Fin 64) : botHalf X (ix2 k j) = X (ix2 (Fin.natAdd 64 k) j) :=
  congrArg X (funext fun d => Fin.ext (match d with | ⟨0, _⟩ => (by show 64 + 1 * k.val = 64 + k.val; omega) | ⟨1, _⟩ => (by show 0 + 1 * j.val = j.val; omega)))

/-- The time at a frequency. -/
theorem pay36_at (t : FVec Ideal S8x1 .f32) (f : FVec Ideal S1x64 .f32) (b : Fin 8) (k : Fin 64) :
    k0_pay36 t f (ix2 b k) = t (ix2 b 0) * f (ix2 0 k) := by
  unfold k0_pay36
  simp only [shapeCast_self]
  exact congrArg₂ (· * ·) (col_at (by decide) t _ b k) (row_at (by decide) f _ b k)

/-- A row of biases added to an array. -/
theorem bias_at {m n : ℕ} (hn : n ≠ 1) (x : FVec Ideal ⟨2, ![m, n]⟩ .f32) (v : FVec Ideal ⟨2, ![1, n]⟩ .f32)
    (h : (⟨2, ![1, n]⟩ : Shape).Broadcasts ⟨2, ![m, n]⟩) (a : Fin m) (b : Fin n) :
    addf x (broadcastTo ⟨2, ![m, n]⟩ v h) (ix2 a b) = x (ix2 a b) + v (ix2 0 b) :=
  congrArg (x (ix2 a b) + ·) (row_at hn v h a b)

/-- The time embedding. -/
theorem embed_at (t : FVec Ideal S8x1 .f32) (f : FVec Ideal S1x64 .f32) (w : FVec Ideal S128x64 .f32) (b₁ : FVec Ideal S1x64 .f32)
    (w₂ : FVec Ideal S64x64 .f32) (b₂ : FVec Ideal S1x64 .f32) (b : Fin 8) (j : Fin 64) :
    k0_pay39 (k0_pay37 t f) (k0_pay38 t f (topHalf w)) (botHalf w) b₁ w₂ b₂ (ix2 b j)
      = Net.embed (t (ix2 b 0)) (fun k => f (ix2 0 k)) (fun k j => w (ix2 (Fin.castAdd 64 k) j)) (fun k j => w (ix2 (Fin.natAdd 64 k) j))
          (fun j => b₁ (ix2 0 j)) (mat w₂) (fun j => b₂ (ix2 0 j)) j := by
  unfold k0_pay39 k0_pay38 k0_pay37
  simp only [shapeCast_self]
  refine (bias_at (by decide) _ b₂ _ b j).trans (congrArg (· + b₂ (ix2 0 j)) ?_)
  refine (matmul_at _ rfl none _ w₂ b j).trans (Finset.sum_congr rfl fun i _ => congrArg (· * w₂ (ix2 i j)) ?_)
  refine congrArg Net.silu ((bias_at (by decide) _ b₁ _ b i).trans (congrArg (· + b₁ (ix2 0 i)) (congrArg₂ (· + ·) ?_ ?_)))
  · refine (matmul_at _ rfl none _ _ b i).trans (Finset.sum_congr rfl fun k _ => congrArg₂ (· * ·) (congrArg Ideal.cos (pay36_at t f b k)) (topHalf_at w k i))
  · refine (matmul_at _ rfl none _ _ b i).trans (Finset.sum_congr rfl fun k _ => congrArg₂ (· * ·) (congrArg Ideal.sin (pay36_at t f b k)) (botHalf_at w k i))

/-- The mixed features mapped down. -/
theorem pay53_at (w : FVec Ideal S64x4096 .f32) (x : FVec Ideal S4096x8 .f32) (b : Fin 8) (j : Fin 64) :
    k0_pay53 w x (ix2 b j) = ∑ n : Fin 4096, x (ix2 n b) * w (ix2 j n) := by
  unfold k0_pay53
  simp only [shapeCast_self]
  refine (transpose_apply _ _ _ (ix2 b j) (ix2 j b) fun d => match d with | ⟨0, _⟩ => rfl | ⟨1, _⟩ => rfl).trans ?_
  exact (matmul_at _ rfl none _ x j b).trans (Finset.sum_congr rfl fun n _ => mul_comm _ _)

/-- The kernel's result at a batch element and a node. -/
theorem outVal_at (X0 X1 : FVec Ideal S4096x4096 .f32) (X2 : FVec Ideal S4096x8 .f32) (X3 : FVec Ideal S8x1 .f32) (X4 : FVec Ideal S1x64 .f32)
    (X5 : FVec Ideal S128x64 .f32) (X6 : FVec Ideal S1x64 .f32) (X7 : FVec Ideal S64x64 .f32) (X8 : FVec Ideal S1x64 .f32)
    (X9 X10 : FVec Ideal S64x3 .f32) (X11 : FVec Ideal S64x4096 .f32) (X12 : FVec Ideal S1x64 .f32) (X13 : FVec Ideal S64x64 .f32)
    (X14 : FVec Ideal S1x64 .f32) (X15 : FVec Ideal S64x4096 .f32) (X16 : FVec Ideal S1x4096 .f32) (b : Fin 8) (n : Fin 4096) :
    outVal X0 X1 X2 X3 X4 X5 X6 X7 X8 X9 X10 X11 X12 X13 X14 X15 X16 (ix2 b n)
      = Net.out (Net.embed (X3 (ix2 b 0)) (fun k => X4 (ix2 0 k)) (fun k j => X5 (ix2 (Fin.castAdd 64 k) j)) (fun k j => X5 (ix2 (Fin.natAdd 64 k) j))
            (fun j => X6 (ix2 0 j)) (mat X7) (fun j => X8 (ix2 0 j)))
          (expanded (mat X0) (mat X1) (col X2 b) (mat X9) (mat X10)) (fun k j => X11 (ix2 j k)) (fun j => X12 (ix2 0 j))
          (mat X13) (fun j => X14 (ix2 0 j)) (mat X15) (fun j => X16 (ix2 0 j)) n := by
  unfold outVal k0_pay1
  simp only [shapeCast_self]
  refine (bias_at (by decide) _ X16 _ b n).trans (congrArg (· + X16 (ix2 0 n)) ?_)
  refine (matmul_at _ rfl none _ X15 b n).trans (Finset.sum_congr rfl fun i _ => congrArg (· * X15 (ix2 i n)) ?_)
  refine congrArg Net.silu ((bias_at (by decide) _ X14 _ b i).trans (congrArg (· + X14 (ix2 0 i)) ?_))
  refine (matmul_at _ rfl none _ X13 b i).trans (Finset.sum_congr rfl fun k _ => congrArg (· * X13 (ix2 k i)) ?_)
  refine congrArg₂ (· + ·) ((bias_at (by decide) _ X12 _ b k).trans (congrArg (· + X12 (ix2 0 k)) ?_)) (embed_at X3 X4 X5 X6 X7 X8 b k)
  exact (pay53_at X11 _ b k).trans (Finset.sum_congr rfl fun l _ => congrArg (· * X11 (ix2 k l)) (mixed_at X0 X1 X2 X9 X10 l b))

end Cert.KernelIdeal.Value

end
-- ==== Proof.Windows.lean ====
/-
  Hand-written, untrusted. What the kernel's windows hold on the extended reals: each array passed to the kernel read at
  an index, as an element of an argument, and the kernel's result from the arguments.
-/
module

public import proofs.«01_k».proof.Proof.Frame
public import proofs.«01_k».proof.Proof.KernelValue

@[expose] public section

noncomputable section

namespace Cert.KernelIdeal.Windows

open Idealize.ShloMosaic Idealize.ShloMosaic.TcCoe
open Cert.KernelIdeal.Gen Cert.KernelIdeal.Value Cert.Layers

section Blocks

variable {F : FTy → Type} [FloatOps F] (m : (ℓ : Loc nD τ sig) → Buf (Elt F) ℓ) (c : Dev nD)

/-- Every window's block index is zero on every axis. -/
theorem index_zero (w : Fin 16) (a : Fin (win0 w).shape.rank) : (win0 w).index t0_0 a = 0 := by
  revert a; revert w; decide

/-- So every element of a window's block sits in its array at its own coordinates. -/
theorem emb_val (w : Fin 16) (y : ((win0 w).xblock (grid0.coords t0_0)).Idx) (a : Fin (win0 w).shape.rank) :
    (((win0 w).rect t0_0).emb y a : ℕ) = y a := (win0 w).rect_emb_val_of_index_zero t0_0 a (index_zero w a) y

/-- A window's block is its array. -/
theorem blk0 : iblk m c 0 t0_0 = V m c main_v0 := funext fun y => congrArg (V m c main_v0) (funext fun a => Fin.ext (emb_val 0 y a))
theorem blk1 : iblk m c 1 t0_0 = V m c main_v1 := funext fun y => congrArg (V m c main_v1) (funext fun a => Fin.ext (emb_val 1 y a))
theorem blk2 : iblk m c 2 t0_0 = V m c main_v8 := funext fun y => congrArg (V m c main_v8) (funext fun a => Fin.ext (emb_val 2 y a))
theorem blk3 : iblk m c 3 t0_0 = V m c main_arg4 := funext fun y => congrArg (V m c main_arg4) (funext fun a => Fin.ext (emb_val 3 y a))
theorem blk4 : iblk m c 4 t0_0 = V m c main_v11 := funext fun y => congrArg (V m c main_v11) (funext fun a => Fin.ext (emb_val 4 y a))
theorem blk5 : iblk m c 5 t0_0 = V m c main_arg6 := funext fun y => congrArg (V m c main_arg6) (funext fun a => Fin.ext (emb_val 5 y a))
theorem blk6 : iblk m c 6 t0_0 = V m c main_v12 := funext fun y => congrArg (V m c main_v12) (funext fun a => Fin.ext (emb_val 6 y a))
theorem blk7 : iblk m c 7 t0_0 = V m c main_v9 := funext fun y => congrArg (V m c main_v9) (funext fun a => Fin.ext (emb_val 7 y a))
theorem blk8 : iblk m c 8 t0_0 = V m c main_v10 := funext fun y => congrArg (V m c main_v10) (funext fun a => Fin.ext (emb_val 8 y a))
theorem blk9 : iblk m c 9 t0_0 = V m c main_v16 := funext fun y => congrArg (V m c main_v16) (funext fun a => Fin.ext (emb_val 9 y a))
theorem blk10 : iblk m c 10 t0_0 = V m c main_v13 := funext fun y => congrArg (V m c main_v13) (funext fun a => Fin.ext (emb_val 10 y a))
theorem blk11 : iblk m c 11 t0_0 = V m c main_arg12 := funext fun y => congrArg (V m c main_arg12) (funext fun a => Fin.ext (emb_val 11 y a))
theorem blk12 : iblk m c 12 t0_0 = V m c main_v14 := funext fun y => congrArg (V m c main_v14) (funext fun a => Fin.ext (emb_val 12 y a))
theorem blk13 : iblk m c 13 t0_0 = V m c main_arg14 := funext fun y => congrArg (V m c main_arg14) (funext fun a => Fin.ext (emb_val 13 y a))
theorem blk14 : iblk m c 14 t0_0 = V m c main_v15 := funext fun y => congrArg (V m c main_v15) (funext fun a => Fin.ext (emb_val 14 y a))

end Blocks

/-! ## The arrays passed in, at an index -/

section Reads

/-- A vector passed as one row. -/
theorem toRow_at {α : Type} {n : ℕ} (x : (⟨1, ![n]⟩ : Shape).Idx → α) (h : (⟨1, ![n]⟩ : Shape).ShapeCasts ⟨2, ![1, n]⟩) (k : Fin n) :
    shapeCast ⟨2, ![1, n]⟩ x h (ValueIdx.ix2 0 k) = x (ValueIdx.ix1 k) :=
  shapeCast_apply x h _ _ (by
    rw [Shape.rowMajor_val_two, Shape.rowMajor_val_one]
    show k.val = 0 * n + k.val
    omega)

/-- A vector passed as one column. -/
theorem toCol_at {α : Type} {n : ℕ} (x : (⟨1, ![n]⟩ : Shape).Idx → α) (h : (⟨1, ![n]⟩ : Shape).ShapeCasts ⟨2, ![n, 1]⟩) (k : Fin n) :
    shapeCast ⟨2, ![n, 1]⟩ x h (ValueIdx.ix2 k 0) = x (ValueIdx.ix1 k) :=
  shapeCast_apply x h _ _ (by
    rw [Shape.rowMajor_val_two, Shape.rowMajor_val_one]
    show k.val = k.val * 1 + 0
    omega)

/-- The first layer's weights, passed without their input channel. -/
theorem weights1_at {α : Type} {n p : ℕ} (x : (⟨3, ![1, n, p]⟩ : Shape).Idx → α) (h : (⟨3, ![1, n, p]⟩ : Shape).ShapeCasts ⟨2, ![n, p]⟩) (k : Fin n) (q : Fin p) :
    shapeCast ⟨2, ![n, p]⟩ x h (ValueIdx.ix2 k q) = x (ValueIdx.ix3 0 k q) :=
  shapeCast_apply x h _ _ (by
    rw [Shape.rowMajor_val_three, Shape.rowMajor_val_two]
    show (0 * n + k.val) * p + q.val = k.val * p + q.val
    rw [Nat.zero_mul, Nat.zero_add])

/-- The second layer's weights, passed without their output channel. -/
theorem weights2_at {α : Type} {n p : ℕ} (x : (⟨3, ![n, 1, p]⟩ : Shape).Idx → α) (h : (⟨3, ![n, 1, p]⟩ : Shape).ShapeCasts ⟨2, ![n, p]⟩) (k : Fin n) (q : Fin p) :
    shapeCast ⟨2, ![n, p]⟩ x h (ValueIdx.ix2 k q) = x (ValueIdx.ix3 k 0 q) :=
  shapeCast_apply x h _ _ (by
    rw [Shape.rowMajor_val_three, Shape.rowMajor_val_two]
    show (k.val * 1 + 0) * p + q.val = k.val * p + q.val
    rw [Nat.mul_one, Nat.add_zero])

/-- A matrix passed transposed. -/
theorem swap_at {α : Type} {a b : ℕ} (x : (⟨2, ![a, b]⟩ : Shape).Idx → α) (h : (⟨2, ![a, b]⟩ : Shape).Transposes [1, 0] ⟨2, ![b, a]⟩) (i : Fin b) (j : Fin a) :
    transpose ⟨2, ![b, a]⟩ [1, 0] x h (ValueIdx.ix2 i j) = x (ValueIdx.ix2 j i) :=
  transpose_apply _ _ h _ _ fun d => match d with | ⟨0, _⟩ => rfl | ⟨1, _⟩ => rfl

end Reads

section Result

variable (m : (ℓ : Loc nD τ sig) → Buf (Elt Ideal) ℓ) (c : Dev nD)

theorem V_v0 : V m c main_v0 = transpose S4096x8 [1, 0] (m ((c.tc : Thread nD τ).loc main_arg0)) transposes_S8x4096_S4096x8_1_0 := rfl
theorem V_v1 : V m c main_v1 = shapeCast S8x1 (m ((c.tc : Thread nD τ).loc main_arg1)) shapeCasts_S8_S8x1 := rfl
theorem V_v8 : V m c main_v8 = shapeCast S1x64 (Host.exp (Host.divf (mulf (broadcastInDim S64 ![] bcast_S_S64 (constant S_ .f32 0xC1135D8E#32))
    (sitofp .f32 (iotaInDim S64 32 0))) (broadcastInDim S64 ![] bcast_S_S64 (constant S_ .f32 0x42800000#32))) : FVec Ideal S64 .f32) shapeCasts_S64_S1x64 := rfl
theorem V_v9 : V m c main_v9 = shapeCast S64x3 (m ((c.tc : Thread nD τ).loc main_arg8)) shapeCasts_S1x64x3_S64x3 := rfl
theorem V_v10 : V m c main_v10 = shapeCast S64x3 (m ((c.tc : Thread nD τ).loc main_arg9)) shapeCasts_S64x1x3_S64x3 := rfl
theorem V_v11 : V m c main_v11 = shapeCast S1x64 (m ((c.tc : Thread nD τ).loc main_arg5)) shapeCasts_S64_S1x64 := rfl
theorem V_v12 : V m c main_v12 = shapeCast S1x64 (m ((c.tc : Thread nD τ).loc main_arg7)) shapeCasts_S64_S1x64 := rfl
theorem V_v13 : V m c main_v13 = shapeCast S1x64 (m ((c.tc : Thread nD τ).loc main_arg11)) shapeCasts_S64_S1x64 := rfl
theorem V_v14 : V m c main_v14 = shapeCast S1x64 (m ((c.tc : Thread nD τ).loc main_arg13)) shapeCasts_S64_S1x64 := rfl
theorem V_v15 : V m c main_v15 = shapeCast S1x4096 (m ((c.tc : Thread nD τ).loc main_arg15)) shapeCasts_S4096_S1x4096 := rfl
theorem V_v16 : V m c main_v16 = transpose S64x4096 [1, 0] (m ((c.tc : Thread nD τ).loc main_arg10)) transposes_S4096x64_S64x4096_1_0 := rfl

/-- The embedding's frequencies as the kernel is passed them. -/
theorem freq_at (k : Fin 64) : V m c main_v8 (ValueIdx.ix2 0 k) = Net.freq k :=
  (congrFun (V_v8 m c) _).trans ((toRow_at _ _ k).trans rfl)

/-- The kernel's result at an index, from the arguments. -/
theorem outAt_at (b : Fin 8) (n : Fin 4096) : Hand.outAt m c t0_0 (ValueIdx.ix2 b n)
    = Net.out (Net.embed (m ((c.tc : Thread nD τ).loc main_arg1) (ValueIdx.ix1 b)) Net.freq
          (fun k j => m ((c.tc : Thread nD τ).loc main_arg4) (ValueIdx.ix2 (Fin.castAdd 64 k) j))
          (fun k j => m ((c.tc : Thread nD τ).loc main_arg4) (ValueIdx.ix2 (Fin.natAdd 64 k) j))
          (fun j => m ((c.tc : Thread nD τ).loc main_arg5) (ValueIdx.ix1 j))
          (fun i j => m ((c.tc : Thread nD τ).loc main_arg6) (ValueIdx.ix2 i j))
          (fun j => m ((c.tc : Thread nD τ).loc main_arg7) (ValueIdx.ix1 j)))
        (expanded (fun i k => m ((c.tc : Thread nD τ).loc main_arg2) (ValueIdx.ix2 i k))
          (fun i k => m ((c.tc : Thread nD τ).loc main_arg3) (ValueIdx.ix2 i k))
          (fun k => m ((c.tc : Thread nD τ).loc main_arg0) (ValueIdx.ix2 b k))
          (fun i p => m ((c.tc : Thread nD τ).loc main_arg8) (ValueIdx.ix3 0 i p))
          (fun i p => m ((c.tc : Thread nD τ).loc main_arg9) (ValueIdx.ix3 i 0 p)))
        (fun k j => m ((c.tc : Thread nD τ).loc main_arg10) (ValueIdx.ix2 k j))
        (fun j => m ((c.tc : Thread nD τ).loc main_arg11) (ValueIdx.ix1 j))
        (fun i j => m ((c.tc : Thread nD τ).loc main_arg12) (ValueIdx.ix2 i j))
        (fun j => m ((c.tc : Thread nD τ).loc main_arg13) (ValueIdx.ix1 j))
        (fun i j => m ((c.tc : Thread nD τ).loc main_arg14) (ValueIdx.ix2 i j))
        (fun j => m ((c.tc : Thread nD τ).loc main_arg15) (ValueIdx.ix1 j)) n := by
  unfold Hand.outAt
  rw [blk0, blk1, blk2, blk3, blk4, blk5, blk6, blk7, blk8, blk9, blk10, blk11, blk12, blk13, blk14, outVal_at]
  have e0 : col (φ := .f32) (V m c main_v0) b = fun k => m ((c.tc : Thread nD τ).loc main_arg0) (ValueIdx.ix2 b k) :=
    funext fun k => (congrFun (V_v0 m c) _).trans (swap_at _ _ k b)
  have e1 : V m c main_v1 (ValueIdx.ix2 b 0) = m ((c.tc : Thread nD τ).loc main_arg1) (ValueIdx.ix1 b) :=
    (congrFun (V_v1 m c) _).trans (toCol_at _ _ b)
  have e5 (j : Fin 64) : V m c main_v11 (ValueIdx.ix2 0 j) = m ((c.tc : Thread nD τ).loc main_arg5) (ValueIdx.ix1 j) :=
    (congrFun (V_v11 m c) _).trans (toRow_at _ _ j)
  have e7 (j : Fin 64) : V m c main_v12 (ValueIdx.ix2 0 j) = m ((c.tc : Thread nD τ).loc main_arg7) (ValueIdx.ix1 j) :=
    (congrFun (V_v12 m c) _).trans (toRow_at _ _ j)
  have e8 : mat (φ := .f32) (V m c main_v9) = fun i p => m ((c.tc : Thread nD τ).loc main_arg8) (ValueIdx.ix3 0 i p) :=
    funext fun i => funext fun p => (congrFun (V_v9 m c) _).trans (weights1_at _ _ i p)
  have e9 : mat (φ := .f32) (V m c main_v10) = fun i p => m ((c.tc : Thread nD τ).loc main_arg9) (ValueIdx.ix3 i 0 p) :=
    funext fun i => funext fun p => (congrFun (V_v10 m c) _).trans (weights2_at _ _ i p)
  have e10 (k : Fin 4096) (j : Fin 64) : V m c main_v16 (ValueIdx.ix2 j k) = m ((c.tc : Thread nD τ).loc main_arg10) (ValueIdx.ix2 k j) :=
    (congrFun (V_v16 m c) _).trans (swap_at _ _ j k)
  have e11 (j : Fin 64) : V m c main_v13 (ValueIdx.ix2 0 j) = m ((c.tc : Thread nD τ).loc main_arg11) (ValueIdx.ix1 j) :=
    (congrFun (V_v13 m c) _).trans (toRow_at _ _ j)
  have e13 (j : Fin 64) : V m c main_v14 (ValueIdx.ix2 0 j) = m ((c.tc : Thread nD τ).loc main_arg13) (ValueIdx.ix1 j) :=
    (congrFun (V_v14 m c) _).trans (toRow_at _ _ j)
  have e15 (j : Fin 4096) : V m c main_v15 (ValueIdx.ix2 0 j) = m ((c.tc : Thread nD τ).loc main_arg15) (ValueIdx.ix1 j) :=
    (congrFun (V_v15 m c) _).trans (toRow_at _ _ j)
  have ef (k : Fin 64) : V m c main_v8 (ValueIdx.ix2 0 k) = Net.freq k := freq_at m c k
  have e4 (i : Fin 128) (j : Fin 64) : V m c main_arg4 (ValueIdx.ix2 i j) = m ((c.tc : Thread nD τ).loc main_arg4) (ValueIdx.ix2 i j) :=
    congrFun (V_main_arg4 m c) _
  have e2 : mat (φ := .f32) (V m c main_arg2) = fun i j => m ((c.tc : Thread nD τ).loc main_arg2) (ValueIdx.ix2 i j) :=
    funext fun i => funext fun j => congrFun (V_main_arg2 m c) _
  have e3 : mat (φ := .f32) (V m c main_arg3) = fun i j => m ((c.tc : Thread nD τ).loc main_arg3) (ValueIdx.ix2 i j) :=
    funext fun i => funext fun j => congrFun (V_main_arg3 m c) _
  have e6 : mat (φ := .f32) (V m c main_arg6) = fun i j => m ((c.tc : Thread nD τ).loc main_arg6) (ValueIdx.ix2 i j) :=
    funext fun i => funext fun j => congrFun (V_main_arg6 m c) _
  have e12 : mat (φ := .f32) (V m c main_arg12) = fun i j => m ((c.tc : Thread nD τ).loc main_arg12) (ValueIdx.ix2 i j) :=
    funext fun i => funext fun j => congrFun (V_main_arg12 m c) _
  have e14 : mat (φ := .f32) (V m c main_arg14) = fun i j => m ((c.tc : Thread nD τ).loc main_arg14) (ValueIdx.ix2 i j) :=
    funext fun i => funext fun j => congrFun (V_main_arg14 m c) _
  rw [e0, e1, e2, e3, e6, e8, e9, e12, e14]
  simp only [ef, e4, e5, e7, e10, e11, e13, e15]

end Result

end Cert.KernelIdeal.Windows

end
-- ==== Proof.RefReads.lean ====
/-
  Hand-written, untrusted. The host operations of the reference read at an index: its contractions, its three stacked
  taps, its broadcasts, and the layers they make up.
-/
module

public import proofs.«01_k».proof.Proof.Reads
public import proofs.«01_k».proof.Proof.Math
public import proofs.«01_k».proof.Proof.Net

@[expose] public section

noncomputable section

namespace Cert.Reads

open Idealize.ShloMosaic
open Idealize.ShloMosaic.ValueIdx (ix1 ix2 ix3 ix4 contrEquiv1 contrEquiv1_symm_val contrEquiv2 contrEquiv2_symm_val0 contrEquiv2_symm_val1 sum_contr2)
open Cert.Layers

/-! ## Contractions -/

/-- The dimension numbers of a matrix against the middle coordinate of a batch. -/
def lapDims (N B C : ℕ) (w : DotDims.WF ⟨2, ![N, N]⟩ ⟨3, ![B, N, C]⟩ ⟨3, ![N, B, C]⟩ [1] [1] [0] [0, 2] [] []) :
    DotDims ⟨2, ![N, N]⟩ ⟨3, ![B, N, C]⟩ ⟨3, ![N, B, C]⟩ := ⟨[1], [1], [0], [0, 2], [], [], w⟩

/-- A matrix against the middle coordinate of a batch, at an index. -/
theorem lapDot_at {N B C : ℕ} (w : DotDims.WF ⟨2, ![N, N]⟩ ⟨3, ![B, N, C]⟩ ⟨3, ![N, B, C]⟩ [1] [1] [0] [0, 2] [] [])
    (prec : Option ContractPrecision) (D : FVec Ideal ⟨2, ![N, N]⟩ .f32) (h : FVec Ideal ⟨3, ![B, N, C]⟩ .f32) (n : Fin N) (b : Fin B) (c : Fin C) :
    Host.dotGeneral (lapDims N B C w) prec D h (ix3 n b c) = lap (fun n k => D (ix2 n k)) (fun k => h (ix3 b k c)) n := by
  show FloatOps.dotGeneral _ prec _ D h (ix3 n b c) = _
  rw [Ideal.dotGeneral_apply, ← Equiv.sum_comp (contrEquiv1 (lapDims N B C w) N rfl rfl).symm]
  refine Finset.sum_congr rfl fun k _ => ?_
  have e := contrEquiv1_symm_val (lapDims N B C w) N rfl rfl k
  have l : (lapDims N B C w).lhsIdx (ix3 n b c) ((contrEquiv1 _ N rfl rfl).symm k) = ix2 n k := by
    funext a; apply Fin.ext
    match a with
    | ⟨0, _⟩ => rfl
    | ⟨1, _⟩ => exact e
  have r : (lapDims N B C w).rhsIdx (ix3 n b c) ((contrEquiv1 _ N rfl rfl).symm k) = ix3 b k c := by
    funext a; apply Fin.ext
    match a with
    | ⟨0, _⟩ => rfl
    | ⟨1, _⟩ => exact e
    | ⟨2, _⟩ => rfl
  rw [l, r]

/-- The dimension numbers of a batch's last two coordinates against the weights' first and last. -/
def tapDims (B N I O : ℕ) (w : DotDims.WF ⟨4, ![B, N, I, 3]⟩ ⟨3, ![I, O, 3]⟩ ⟨3, ![B, N, O]⟩ [2, 3] [0, 2] [0, 1] [1] [] []) :
    DotDims ⟨4, ![B, N, I, 3]⟩ ⟨3, ![I, O, 3]⟩ ⟨3, ![B, N, O]⟩ := ⟨[2, 3], [0, 2], [0, 1], [1], [], [], w⟩

/-- A batch's channels and taps against the weights, at an index. -/
theorem tapDot_at {B N I O : ℕ} (w : DotDims.WF ⟨4, ![B, N, I, 3]⟩ ⟨3, ![I, O, 3]⟩ ⟨3, ![B, N, O]⟩ [2, 3] [0, 2] [0, 1] [1] [] [])
    (prec : Option ContractPrecision) (x : FVec Ideal ⟨4, ![B, N, I, 3]⟩ .f32) (v : FVec Ideal ⟨3, ![I, O, 3]⟩ .f32) (b : Fin B) (n : Fin N) (o : Fin O) :
    Host.dotGeneral (tapDims B N I O w) prec x v (ix3 b n o) = ∑ i : Fin I, ∑ p : Fin 3, x (ix4 b n i p) * v (ix3 i o p) := by
  show FloatOps.dotGeneral _ prec _ x v (ix3 b n o) = _
  rw [Ideal.dotGeneral_apply, sum_contr2 (tapDims B N I O w) I 3 rfl rfl rfl]
  refine Finset.sum_congr rfl fun i _ => Finset.sum_congr rfl fun p _ => ?_
  have e0 := contrEquiv2_symm_val0 (tapDims B N I O w) I 3 rfl rfl rfl (i, p)
  have e1 := contrEquiv2_symm_val1 (tapDims B N I O w) I 3 rfl rfl rfl (i, p)
  have l : (tapDims B N I O w).lhsIdx (ix3 b n o) ((contrEquiv2 _ I 3 rfl rfl rfl).symm (i, p)) = ix4 b n i p := by
    funext a; apply Fin.ext
    match a with
    | ⟨0, _⟩ => rfl
    | ⟨1, _⟩ => rfl
    | ⟨2, _⟩ => exact e0
    | ⟨3, _⟩ => exact e1
  have r : (tapDims B N I O w).rhsIdx (ix3 b n o) ((contrEquiv2 _ I 3 rfl rfl rfl).symm (i, p)) = ix3 i o p := by
    funext a; apply Fin.ext
    match a with
    | ⟨0, _⟩ => exact e0
    | ⟨1, _⟩ => rfl
    | ⟨2, _⟩ => exact e1
  rw [l, r]

/-! ## Broadcasts and stacking -/

/-- A vector broadcast to one row, then to the rows of an array. -/
theorem bcastRow_at {α : Type} {m n : ℕ} (hn : n ≠ 1) (v : (⟨1, ![n]⟩ : Shape).Idx → α)
    (h₁ : (⟨1, ![n]⟩ : Shape).BroadcastsInDim ⟨2, ![1, n]⟩ ![1]) (h₂ : (⟨2, ![1, n]⟩ : Shape).BroadcastsInDim ⟨2, ![m, n]⟩ ![0, 1])
    (a : Fin m) (b : Fin n) : broadcastInDim ⟨2, ![m, n]⟩ ![0, 1] h₂ (broadcastInDim ⟨2, ![1, n]⟩ ![1] h₁ v) (ix2 a b) = v (ix1 b) :=
  (broadcastInDim_apply _ h₂ _ (ix2 a b) (ix2 0 b) fun d => match d with | ⟨0, _⟩ => rfl | ⟨1, _⟩ => (if_neg hn).symm).trans
    (broadcastInDim_apply _ h₁ _ (ix2 0 b) (ix1 b) fun d => match d with | ⟨0, _⟩ => (if_neg hn).symm)

/-- A vector broadcast to one column, then to the columns of an array. -/
theorem bcastCol_at {α : Type} {m n : ℕ} (hm : m ≠ 1) (v : (⟨1, ![m]⟩ : Shape).Idx → α)
    (h₁ : (⟨1, ![m]⟩ : Shape).BroadcastsInDim ⟨2, ![m, 1]⟩ ![0]) (h₂ : (⟨2, ![m, 1]⟩ : Shape).BroadcastsInDim ⟨2, ![m, n]⟩ ![0, 1])
    (a : Fin m) (b : Fin n) : broadcastInDim ⟨2, ![m, n]⟩ ![0, 1] h₂ (broadcastInDim ⟨2, ![m, 1]⟩ ![0] h₁ v) (ix2 a b) = v (ix1 a) :=
  (broadcastInDim_apply _ h₂ _ (ix2 a b) (ix2 a 0) fun d => match d with | ⟨0, _⟩ => (if_neg hm).symm | ⟨1, _⟩ => rfl).trans
    (broadcastInDim_apply _ h₁ _ (ix2 a 0) (ix1 a) fun d => match d with | ⟨0, _⟩ => (if_neg hm).symm)

/-- An array given a last coordinate of extent one. -/
theorem unsqueeze_at {α : Type} {B N C : ℕ} (hB : B ≠ 1) (hN : N ≠ 1) (x : (⟨3, ![B, N, C]⟩ : Shape).Idx → α)
    (h : (⟨3, ![B, N, C]⟩ : Shape).BroadcastsInDim ⟨4, ![B, N, C, 1]⟩ ![0, 1, 2]) (b : Fin B) (n : Fin N) (i : Fin C) :
    broadcastInDim ⟨4, ![B, N, C, 1]⟩ ![0, 1, 2] h x (ix4 b n i 0) = x (ix3 b n i) :=
  broadcastInDim_apply _ h _ _ _ fun d => match d with
    | ⟨0, _⟩ => (if_neg hB).symm
    | ⟨1, _⟩ => (if_neg hN).symm
    | ⟨2, _⟩ => by
      show i.val = if C = 1 then 0 else i.val
      split
      · have := i.isLt; omega
      · rfl

/-- Three arrays stacked along a last coordinate, at each of its three positions. -/
theorem stack_at {α : Type} {B N C : ℕ} (u : Fin 3 → (⟨4, ![B, N, C, 1]⟩ : Shape).Idx → α)
    (h : Shape.Concatenates [⟨4, ![B, N, C, 1]⟩, ⟨4, ![B, N, C, 1]⟩, ⟨4, ![B, N, C, 1]⟩] ⟨4, ![B, N, C, 3]⟩ 3) (b : Fin B) (n : Fin N) (i : Fin C) (p : Fin 3) :
    concatenate ⟨4, ![B, N, C, 3]⟩ 3 [⟨⟨4, ![B, N, C, 1]⟩, u 0⟩, ⟨⟨4, ![B, N, C, 1]⟩, u 1⟩, ⟨⟨4, ![B, N, C, 1]⟩, u 2⟩] h (ix4 b n i p)
      = u p (ix4 b n i 0) :=
  concatenate_ofFn_apply (s₁ := ⟨4, ![B, N, C, 1]⟩) 3 u h rfl 1 rfl (ix4 b n i p) p (Nat.div_one _) (ix4 b n i 0) (Nat.mod_one _).symm
    fun d hd => match d with
      | ⟨0, _⟩ => rfl
      | ⟨1, _⟩ => rfl
      | ⟨2, _⟩ => rfl
      | ⟨3, _⟩ => absurd (Fin.ext rfl) hd

/-- A layer of the reference at a batch element, a node and an output channel: the taps are the values and their two
    Laplacian products. -/
theorem layer_at {B N I O : ℕ} (hB : B ≠ 1) (hN : N ≠ 1) (D U : FVec Ideal ⟨2, ![N, N]⟩ .f32) (h : FVec Ideal ⟨3, ![B, N, I]⟩ .f32)
    (v : FVec Ideal ⟨3, ![I, O, 3]⟩ .f32)
    (w₁ : DotDims.WF ⟨2, ![N, N]⟩ ⟨3, ![B, N, I]⟩ ⟨3, ![N, B, I]⟩ [1] [1] [0] [0, 2] [] [])
    (w₂ : DotDims.WF ⟨4, ![B, N, I, 3]⟩ ⟨3, ![I, O, 3]⟩ ⟨3, ![B, N, O]⟩ [2, 3] [0, 2] [0, 1] [1] [] [])
    (hb : (⟨3, ![B, N, I]⟩ : Shape).BroadcastsInDim ⟨4, ![B, N, I, 1]⟩ ![0, 1, 2])
    (ht : (⟨3, ![N, B, I]⟩ : Shape).Transposes [1, 0, 2] ⟨3, ![B, N, I]⟩)
    (hc : Shape.Concatenates [⟨4, ![B, N, I, 1]⟩, ⟨4, ![B, N, I, 1]⟩, ⟨4, ![B, N, I, 1]⟩] ⟨4, ![B, N, I, 3]⟩ 3)
    (b : Fin B) (n : Fin N) (o : Fin O) :
    Host.dotGeneral (tapDims B N I O w₂) none
        (concatenate ⟨4, ![B, N, I, 3]⟩ 3
          [⟨⟨4, ![B, N, I, 1]⟩, broadcastInDim ⟨4, ![B, N, I, 1]⟩ ![0, 1, 2] hb h⟩,
            ⟨⟨4, ![B, N, I, 1]⟩, broadcastInDim ⟨4, ![B, N, I, 1]⟩ ![0, 1, 2] hb
              (transpose ⟨3, ![B, N, I]⟩ [1, 0, 2] (Host.dotGeneral (lapDims N B I w₁) none D h) ht)⟩,
            ⟨⟨4, ![B, N, I, 1]⟩, broadcastInDim ⟨4, ![B, N, I, 1]⟩ ![0, 1, 2] hb
              (transpose ⟨3, ![B, N, I]⟩ [1, 0, 2] (Host.dotGeneral (lapDims N B I w₁) none U h) ht)⟩] hc) v (ix3 b n o)
      = ∑ i : Fin I, (h (ix3 b n i) * v (ix3 i o 0) + lap (fun n k => D (ix2 n k)) (fun k => h (ix3 b k i)) n * v (ix3 i o 1)
          + lap (fun n k => U (ix2 n k)) (fun k => h (ix3 b k i)) n * v (ix3 i o 2)) := by
  have hl : ∀ (M : FVec Ideal ⟨2, ![N, N]⟩ .f32) (i : Fin I),
      broadcastInDim ⟨4, ![B, N, I, 1]⟩ ![0, 1, 2] hb
          (transpose ⟨3, ![B, N, I]⟩ [1, 0, 2] (Host.dotGeneral (lapDims N B I w₁) none M h) ht) (ix4 b n i 0)
        = lap (fun n k => M (ix2 n k)) (fun k => h (ix3 b k i)) n := fun M i =>
    (unsqueeze_at hB hN _ hb b n i).trans
      ((transpose_apply _ _ ht (ix3 b n i) (ix3 n b i) fun d => match d with | ⟨0, _⟩ => rfl | ⟨1, _⟩ => rfl | ⟨2, _⟩ => rfl).trans
        (lapDot_at w₁ none M h n b i))
  refine (tapDot_at w₂ none _ v b n o).trans (Finset.sum_congr rfl fun i _ => ?_)
  rw [Fin.sum_univ_three]
  refine congrArg₂ (· + ·) (congrArg₂ (· + ·) ?_ ?_) ?_ <;> refine congrArg (· * _) ?_
  · exact (stack_at ![_, _, _] hc b n i 0).trans (unsqueeze_at hB hN h hb b n i)
  · exact (stack_at ![_, _, _] hc b n i 1).trans (hl D i)
  · exact (stack_at ![_, _, _] hc b n i 2).trans (hl U i)

/-! ## The dense part -/

/-- The activation as the reference spells it. -/
theorem silu_at {s : Shape} (x : FVec Ideal s .f32) (h : (⟨0, ![]⟩ : Shape).BroadcastsInDim s ![]) (j : s.Idx) :
    mulf x (Host.divf (broadcastInDim s ![] h (constant ⟨0, ![]⟩ .f32 0x3F800000#32))
        (addf (broadcastInDim s ![] h (constant ⟨0, ![]⟩ .f32 0x3F800000#32)) (Host.exp (Host.negf x)))) j = Net.silu (x j) := by
  show x j * Ideal.div (Ideal.ofBits .f32 0x3F800000#32) (Ideal.ofBits .f32 0x3F800000#32 + Ideal.exp (-(x j))) = _
  rw [Ideal.ofBits_one_f32]
  rfl

/-- A dense layer of the reference: a product and a broadcast bias. -/
theorem dense_at {M K N : ℕ} (hN : N ≠ 1) (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (v : FVec Ideal ⟨1, ![N]⟩ .f32)
    (h₁ : (⟨1, ![N]⟩ : Shape).BroadcastsInDim ⟨2, ![1, N]⟩ ![1]) (h₂ : (⟨2, ![1, N]⟩ : Shape).BroadcastsInDim ⟨2, ![M, N]⟩ ![0, 1])
    (a : Fin M) (b : Fin N) :
    addf (Host.dotGeneral D none x w) (broadcastInDim ⟨2, ![M, N]⟩ ![0, 1] h₂ (broadcastInDim ⟨2, ![1, N]⟩ ![1] h₁ v)) (ix2 a b)
      = Net.dense (fun k => x (ix2 a k)) (fun k j => w (ix2 k j)) (fun j => v (ix1 j)) b :=
  congrArg₂ (· + ·) (dot_at D hD none x w a b) (bcastRow_at hN v h₁ h₂ a b)

/-- Two arrays side by side times a matrix: the left one times the upper rows and the right one times the lower. -/
theorem halves_at {M K N : ℕ} (D : DotDims ⟨2, ![M, K + K]⟩ ⟨2, ![K + K, N]⟩ ⟨2, ![M, N]⟩) (hD : D = DotDims.plain M (K + K) N)
    (x y : FVec Ideal ⟨2, ![M, K]⟩ .f32) (w : FVec Ideal ⟨2, ![K + K, N]⟩ .f32)
    (h : Shape.Concatenates [⟨2, ![M, K]⟩, ⟨2, ![M, K]⟩] ⟨2, ![M, K + K]⟩ 1) (a : Fin M) (b : Fin N) :
    Host.dotGeneral D none (concatenate ⟨2, ![M, K + K]⟩ 1 [⟨⟨2, ![M, K]⟩, x⟩, ⟨⟨2, ![M, K]⟩, y⟩] h : FVec Ideal ⟨2, ![M, K + K]⟩ .f32) w (ix2 a b)
      = (∑ k, x (ix2 a k) * w (ix2 (Fin.castAdd K k) b)) + ∑ k, y (ix2 a k) * w (ix2 (Fin.natAdd K k) b) := by
  refine (dot_at D hD none _ w a b).trans ((Fin.sum_univ_add _).trans (congrArg₂ (· + ·) ?_ ?_)) <;>
    refine Finset.sum_congr rfl fun k _ => congrArg (· * _) ?_
  · exact concatenate_pair_apply_left 1 x y h _ rfl (ix2 a k) fun d => match d with | ⟨0, _⟩ => rfl | ⟨1, _⟩ => rfl
  · exact concatenate_pair_apply_right 1 x y h _ rfl rfl (ix2 a k) (fun d hd => match d with | ⟨0, _⟩ => rfl | ⟨1, _⟩ => absurd (Fin.ext rfl) hd)
      (Nat.add_comm _ _)

end Cert.Reads

end
-- ==== Proof.RefValue.lean ====
/-
  Hand-written, untrusted. The reference's result on the extended reals, at an index: the network's dense part of the
  second layer of the first.
-/
module

public import proofs.«01_k».proof.Proof.RefReads
public import proofs.«01_k».proof.Proof.Gen.ReferenceIdeal.Run

@[expose] public section

noncomputable section

namespace Cert.ReferenceIdeal.Hand

open Idealize.ShloMosaic Idealize.ShloMosaic.TcCoe
open Idealize.ShloMosaic.ValueIdx (ix1 ix2 ix3 ix4)
open Cert.ReferenceIdeal Cert.ReferenceIdeal.Gen Cert.Reads Cert.Layers

variable (m : (ℓ : Loc nD τ sig) → Buf (Elt Ideal) ℓ) (c : Dev nD)

/-- The features with a channel coordinate. -/
abbrev feat (x : FVec Ideal S8x4096 .f32) : FVec Ideal S8x4096x1 .f32 := broadcastInDim S8x4096x1 ![0, 1] bcast_S8x4096_S8x4096x1_0_1 x

/-- The features with a channel coordinate, at an index. -/
theorem feat_at (x : FVec Ideal S8x4096 .f32) (b : Fin 8) (n : Fin 4096) (i : Fin 1) : feat x (ix3 b n i) = x (ix2 b n) :=
  broadcastInDim_apply _ _ _ _ _ fun d => match d with | ⟨0, _⟩ => rfl | ⟨1, _⟩ => rfl

/-- The first layer of the reference. -/
abbrev layer1 (D U : FVec Ideal S4096x4096 .f32) (x : FVec Ideal S8x4096 .f32) (v : FVec Ideal S1x64x3 .f32) : FVec Ideal S8x4096x64 .f32 :=
  Host.dotGeneral dot_S8x4096x1x3_S1x64x3_S8x4096x64_23_02_01_1_n_n none
    (concatenate S8x4096x1x3 3
      [⟨S8x4096x1x1, broadcastInDim S8x4096x1x1 ![0, 1, 2] bcast_S8x4096x1_S8x4096x1x1_0_1_2 (feat x)⟩,
        ⟨S8x4096x1x1, broadcastInDim S8x4096x1x1 ![0, 1, 2] bcast_S8x4096x1_S8x4096x1x1_0_1_2
          (transpose S8x4096x1 [1, 0, 2] (Host.dotGeneral dot_S4096x4096_S8x4096x1_S4096x8x1_1_1_0_02_n_n none D (feat x)) transposes_S4096x8x1_S8x4096x1_1_0_2)⟩,
        ⟨S8x4096x1x1, broadcastInDim S8x4096x1x1 ![0, 1, 2] bcast_S8x4096x1_S8x4096x1x1_0_1_2
          (transpose S8x4096x1 [1, 0, 2] (Host.dotGeneral dot_S4096x4096_S8x4096x1_S4096x8x1_1_1_0_02_n_n none U (feat x)) transposes_S4096x8x1_S8x4096x1_1_0_2)⟩]
      concatenates_S8x4096x1x1_S8x4096x1x1_S8x4096x1x1_S8x4096x1x3_d3 : FVec Ideal S8x4096x1x3 .f32) v

/-- The second layer of the reference. -/
abbrev layer2 (D U : FVec Ideal S4096x4096 .f32) (h : FVec Ideal S8x4096x64 .f32) (v : FVec Ideal S64x1x3 .f32) : FVec Ideal S8x4096x1 .f32 :=
  Host.dotGeneral dot_S8x4096x64x3_S64x1x3_S8x4096x1_23_02_01_1_n_n none
    (concatenate S8x4096x64x3 3
      [⟨S8x4096x64x1, broadcastInDim S8x4096x64x1 ![0, 1, 2] bcast_S8x4096x64_S8x4096x64x1_0_1_2 h⟩,
        ⟨S8x4096x64x1, broadcastInDim S8x4096x64x1 ![0, 1, 2] bcast_S8x4096x64_S8x4096x64x1_0_1_2
          (transpose S8x4096x64 [1, 0, 2] (Host.dotGeneral dot_S4096x4096_S8x4096x64_S4096x8x64_1_1_0_02_n_n none D h) transposes_S4096x8x64_S8x4096x64_1_0_2)⟩,
        ⟨S8x4096x64x1, broadcastInDim S8x4096x64x1 ![0, 1, 2] bcast_S8x4096x64_S8x4096x64x1_0_1_2
          (transpose S8x4096x64 [1, 0, 2] (Host.dotGeneral dot_S4096x4096_S8x4096x64_S4096x8x64_1_1_0_02_n_n none U h) transposes_S4096x8x64_S8x4096x64_1_0_2)⟩]
      concatenates_S8x4096x64x1_S8x4096x64x1_S8x4096x64x1_S8x4096x64x3_d3 : FVec Ideal S8x4096x64x3 .f32) v

/-- The first layer at an index. -/
theorem layer1_at (D U : FVec Ideal S4096x4096 .f32) (x : FVec Ideal S8x4096 .f32) (v : FVec Ideal S1x64x3 .f32) (b : Fin 8) (n : Fin 4096) (o : Fin 64) :
    layer1 D U x v (ix3 b n o)
      = first (fun n k => D (ix2 n k)) (fun n k => U (ix2 n k)) (fun k => x (ix2 b k)) (fun o p => v (ix3 0 o p)) n o := by
  refine (layer_at (by decide) (by decide) D U (feat x) v _ _ _ _ _ b n o).trans ?_
  rw [Fin.sum_univ_one]
  simp only [feat_at]
  rfl

/-- The second layer of the first at an index. -/
theorem layer2_at (D U : FVec Ideal S4096x4096 .f32) (x : FVec Ideal S8x4096 .f32) (v : FVec Ideal S1x64x3 .f32) (w : FVec Ideal S64x1x3 .f32)
    (b : Fin 8) (n : Fin 4096) :
    layer2 D U (layer1 D U x v) w (ix3 b n 0)
      = second (fun n k => D (ix2 n k)) (fun n k => U (ix2 n k))
          (first (fun n k => D (ix2 n k)) (fun n k => U (ix2 n k)) (fun k => x (ix2 b k)) (fun o p => v (ix3 0 o p))) (fun i p => w (ix3 i 0 p)) n := by
  refine (layer_at (by decide) (by decide) D U (layer1 D U x v) w _ _ _ _ _ b n 0).trans ?_
  simp only [layer1_at]
  rfl

/-- The times at the frequencies. -/
abbrev angle (t : FVec Ideal S8 .f32) : FVec Ideal S8x64 .f32 :=
  mulf (broadcastInDim S8x64 ![0, 1] bcast_S8x1_S8x64_0_1 (broadcastInDim S8x1 ![0] bcast_S8_S8x1_0 t))
    (broadcastInDim S8x64 ![0, 1] bcast_S1x64_S8x64_0_1 (broadcastInDim S1x64 ![1] bcast_S64_S1x64_1
      (Host.exp (Host.divf (mulf (broadcastInDim S64 ![] bcast_S_S64 (constant S_ .f32 0xC1135D8E#32)) (sitofp .f32 (iotaInDim S64 32 0)))
        (broadcastInDim S64 ![] bcast_S_S64 (constant S_ .f32 0x42800000#32))))))

/-- The times at the frequencies, at an index. -/
theorem angle_at (t : FVec Ideal S8 .f32) (b : Fin 8) (k : Fin 64) : angle t (ix2 b k) = t (ix1 b) * Net.freq k :=
  congrArg₂ (· * ·) (bcastCol_at (by decide) t _ _ b k) ((bcastRow_at (by decide) _ _ _ b k).trans rfl)

/-- The embedding's first product and bias. -/
abbrev hidden (t : FVec Ideal S8 .f32) (w : FVec Ideal S128x64 .f32) (v : FVec Ideal S64 .f32) : FVec Ideal S8x64 .f32 :=
  addf (Host.dotGeneral dot_S8x128_S128x64_S8x64_1_0_0_1_n_n none
      (concatenate S8x128 1 [⟨S8x64, Host.cos (angle t)⟩, ⟨S8x64, Host.sin (angle t)⟩] concatenates_S8x64_S8x64_S8x128_d1 : FVec Ideal S8x128 .f32) w)
    (broadcastInDim S8x64 ![0, 1] bcast_S1x64_S8x64_0_1 (broadcastInDim S1x64 ![1] bcast_S64_S1x64_1 v))

/-- The embedding's first product and bias, at an index. -/
theorem hidden_at (t : FVec Ideal S8 .f32) (w : FVec Ideal S128x64 .f32) (v : FVec Ideal S64 .f32) (b : Fin 8) (j : Fin 64) :
    hidden t w v (ix2 b j)
      = ((∑ k : Fin 64, Ideal.cos (t (ix1 b) * Net.freq k) * w (ix2 (Fin.castAdd 64 k) j))
          + ∑ k : Fin 64, Ideal.sin (t (ix1 b) * Net.freq k) * w (ix2 (Fin.natAdd 64 k) j)) + v (ix1 j) := by
  refine congrArg₂ (· + ·) ((halves_at (K := 64) _ rfl _ _ w _ b j).trans ?_) (bcastRow_at (by decide) v _ _ b j)
  exact congrArg₂ (· + ·) (Finset.sum_congr rfl fun k _ => congrArg (· * _) (congrArg Ideal.cos (angle_at t b k)))
    (Finset.sum_congr rfl fun k _ => congrArg (· * _) (congrArg Ideal.sin (angle_at t b k)))

/-- The activation over the batch. -/
abbrev act (x : FVec Ideal S8x64 .f32) : FVec Ideal S8x64 .f32 :=
  mulf x (Host.divf (broadcastInDim S8x64 ![] bcast_S_S8x64 (constant S_ .f32 0x3F800000#32))
    (addf (broadcastInDim S8x64 ![] bcast_S_S8x64 (constant S_ .f32 0x3F800000#32)) (Host.exp (Host.negf x))))

/-- A dense layer on 64 channels. -/
abbrev lin (x : FVec Ideal S8x64 .f32) (w : FVec Ideal S64x64 .f32) (v : FVec Ideal S64 .f32) : FVec Ideal S8x64 .f32 :=
  addf (Host.dotGeneral dot_S8x64_S64x64_S8x64_1_0_0_1_n_n none x w)
    (broadcastInDim S8x64 ![0, 1] bcast_S1x64_S8x64_0_1 (broadcastInDim S1x64 ![1] bcast_S64_S1x64_1 v))

/-- The mixed features of a batch element. -/
abbrev mix (D U : FVec Ideal S4096x4096 .f32) (x : FVec Ideal S8x4096 .f32) (v : FVec Ideal S1x64x3 .f32) (w : FVec Ideal S64x1x3 .f32) (b : Fin 8) :
    Fin 4096 → EReal :=
  second (fun n k => D (ix2 n k)) (fun n k => U (ix2 n k))
    (first (fun n k => D (ix2 n k)) (fun n k => U (ix2 n k)) (fun k => x (ix2 b k)) (fun o p => v (ix3 0 o p))) (fun i p => w (ix3 i 0 p))

/-- The reference's result as a function of its arguments. -/
abbrev net (x : FVec Ideal S8x4096 .f32) (t : FVec Ideal S8 .f32) (D U : FVec Ideal S4096x4096 .f32) (w4 : FVec Ideal S128x64 .f32) (w5 : FVec Ideal S64 .f32)
    (w6 : FVec Ideal S64x64 .f32) (w7 : FVec Ideal S64 .f32) (w8 : FVec Ideal S1x64x3 .f32) (w9 : FVec Ideal S64x1x3 .f32) (w10 : FVec Ideal S4096x64 .f32)
    (w11 : FVec Ideal S64 .f32) (w12 : FVec Ideal S64x64 .f32) (w13 : FVec Ideal S64 .f32) (w14 : FVec Ideal S64x4096 .f32) (w15 : FVec Ideal S4096 .f32) :
    FVec Ideal S8x4096 .f32 :=
  addf (Host.dotGeneral dot_S8x64_S64x4096_S8x4096_1_0_0_1_n_n none
      (act (lin (addf (addf (Host.dotGeneral dot_S8x4096_S4096x64_S8x64_1_0_0_1_n_n none
            (shapeCast S8x4096 (layer2 D U (layer1 D U x w8) w9) shapeCasts_S8x4096x1_S8x4096) w10)
          (broadcastInDim S8x64 ![0, 1] bcast_S1x64_S8x64_0_1 (broadcastInDim S1x64 ![1] bcast_S64_S1x64_1 w11)))
        (lin (act (hidden t w4 w5)) w6 w7)) w12 w13)) w14)
    (broadcastInDim S8x4096 ![0, 1] bcast_S1x4096_S8x4096_0_1 (broadcastInDim S1x4096 ![1] bcast_S4096_S1x4096_1 w15))

/-- The reference's result at a batch element and a node. -/
theorem net_at (x : FVec Ideal S8x4096 .f32) (t : FVec Ideal S8 .f32) (D U : FVec Ideal S4096x4096 .f32) (w4 : FVec Ideal S128x64 .f32) (w5 : FVec Ideal S64 .f32)
    (w6 : FVec Ideal S64x64 .f32) (w7 : FVec Ideal S64 .f32) (w8 : FVec Ideal S1x64x3 .f32) (w9 : FVec Ideal S64x1x3 .f32) (w10 : FVec Ideal S4096x64 .f32)
    (w11 : FVec Ideal S64 .f32) (w12 : FVec Ideal S64x64 .f32) (w13 : FVec Ideal S64 .f32) (w14 : FVec Ideal S64x4096 .f32) (w15 : FVec Ideal S4096 .f32)
    (b : Fin 8) (n : Fin 4096) :
    net x t D U w4 w5 w6 w7 w8 w9 w10 w11 w12 w13 w14 w15 (ix2 b n)
      = Net.out (Net.embed (t (ix1 b)) Net.freq (fun k j => w4 (ix2 (Fin.castAdd 64 k) j)) (fun k j => w4 (ix2 (Fin.natAdd 64 k) j))
            (fun j => w5 (ix1 j)) (fun i j => w6 (ix2 i j)) (fun j => w7 (ix1 j)))
          (mix D U x w8 w9 b) (fun k j => w10 (ix2 k j)) (fun j => w11 (ix1 j))
          (fun i j => w12 (ix2 i j)) (fun j => w13 (ix1 j)) (fun i j => w14 (ix2 i j)) (fun j => w15 (ix1 j)) n := by
  refine (dense_at (by decide) _ rfl _ w14 w15 _ _ b n).trans ?_
  refine congrArg (fun f : Fin 64 → EReal => Net.dense f (fun i j => w14 (ix2 i j)) (fun j => w15 (ix1 j)) n) (funext fun j => ?_)
  refine (silu_at _ _ _).trans (congrArg Net.silu ((dense_at (by decide) _ rfl _ w12 w13 _ _ b j).trans ?_))
  refine congrArg (fun f : Fin 64 → EReal => Net.dense f (fun i j => w12 (ix2 i j)) (fun j => w13 (ix1 j)) j) (funext fun i => ?_)
  refine congrArg₂ (· + ·) ((dense_at (by decide) _ rfl _ w10 w11 _ _ b i).trans ?_) ((dense_at (by decide) _ rfl _ w6 w7 _ _ b i).trans ?_)
  · refine congrArg (fun f : Fin 4096 → EReal => Net.dense f (fun i j => w10 (ix2 i j)) (fun j => w11 (ix1 j)) i) (funext fun k => ?_)
    exact (shapeCast_apply _ _ (ix2 b k) (ix3 b k 0) (by
      rw [Shape.rowMajor_val_three, Shape.rowMajor_val_two]
      show (b.val * 4096 + k.val) * 1 + 0 = b.val * 4096 + k.val
      omega)).trans (layer2_at D U x w8 w9 b k)
  · refine congrArg (fun f : Fin 64 → EReal => Net.dense f (fun i j => w6 (ix2 i j)) (fun j => w7 (ix1 j)) i) (funext fun k => ?_)
    exact (silu_at _ _ _).trans (congrArg Net.silu (hidden_at t w4 w5 b k))

/-- The reference's result is that function of its arguments. -/
theorem res_eq : Value.res_main_v56 m c
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) := rfl

end Cert.ReferenceIdeal.Hand

end
-- ==== Proof.Finite.lean ====
/-
  Hand-written, untrusted. The precondition read at an index: an entry whose absolute value is below infinity is a real
  number.
-/
module

public import proofs.«01_k».proof.Pre_finite
public import Idealize.ShloMosaic.PureOps.Ideal.Laws

@[expose] public section

noncomputable section

namespace Cert.Finite

open Idealize.ShloMosaic

/-- An extended real whose absolute value is below infinity is a real number. -/
theorem real_of_abs_lt {x : EReal} (h : max x (-x) < ⊤) : ∃ r : ℝ, x = r := by
  induction x with
  | bot => simp at h
  | top => simp at h
  | coe r => exact ⟨r, rfl⟩

/-- The word of infinity is infinity. -/
theorem inf_eq : Ideal.ofBits .f32 0x7F800000#32 = ⊤ := by simp [Ideal.ofBits, Ideal.ieee]

/-- An array whose entries' absolute values all compare below infinity holds real numbers. -/
theorem real_at {s : Shape} (x : FVec Ideal s .f32) (hb : (⟨0, ![]⟩ : Shape).BroadcastsInDim s (![] : Fin 0 → Fin s.rank))
    (j : s.Idx) (h : (cmpf .olt (Host.absf x) (broadcastInDim s ![] hb (constant ⟨0, ![]⟩ .f32 0x7F800000#32)) : IVec s 1) j = 1) :
    ∃ r : ℝ, x j = r := by
  have h' : (BitVec.ofBool (decide (max (x j) (-x j) < Ideal.ofBits .f32 0x7F800000#32)) : BitVec 1) = 1#1 := h
  rw [inf_eq] at h'
  refine real_of_abs_lt ?_
  by_contra hn
  rw [decide_eq_false hn] at h'
  exact absurd h' (by decide)

end Cert.Finite

end
-- ==== Proof.Agree.lean ====
/-
  Hand-written, untrusted. Where the two layers' arguments are finite, the reference's result is the kernel's: both are the
  network's dense part, and the two layers one after the other are their expansion.
-/
module

public import proofs.«01_k».proof.Defs
public import proofs.«01_k».proof.Proof.Windows
public import proofs.«01_k».proof.Proof.RefValue
public import proofs.«01_k».proof.Proof.Finite

@[expose] public section

noncomputable section

namespace Cert.Agree

open Idealize.ShloMosaic Idealize.ShloMosaic.TcCoe
open Cert.Layers

/-- The shape relations the precondition's operations take. -/
theorem pre_facts : Cert.Pre_finite.Facts where
  bcast_S_S8x4096 := by decide
  bcast_S_S4096x4096 := by decide
  bcast_S_S1x64x3 := by decide
  bcast_S_S64x1x3 := by decide

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

/-- Under the precondition the reference's mixed features are the kernel's. -/
theorem mix_eq (h : Cert.Pre_KernelIdeal_finite (hPre_finite := pre_facts) m) (b : Fin 8) (n : Fin 4096) :
    Cert.ReferenceIdeal.Hand.mix (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) b n
      = expanded (R := EReal) (fun i k => m ((c.tc : Thread Cert.KernelIdeal.nD Cert.KernelIdeal.τ).loc Cert.KernelIdeal.main_arg2) (ValueIdx.ix2 i k))
          (fun i k => m ((c.tc : Thread Cert.KernelIdeal.nD Cert.KernelIdeal.τ).loc Cert.KernelIdeal.main_arg3) (ValueIdx.ix2 i k))
          (fun k => m ((c.tc : Thread Cert.KernelIdeal.nD Cert.KernelIdeal.τ).loc Cert.KernelIdeal.main_arg0) (ValueIdx.ix2 b k))
          (fun i p => m ((c.tc : Thread Cert.KernelIdeal.nD Cert.KernelIdeal.τ).loc Cert.KernelIdeal.main_arg8) (ValueIdx.ix3 0 i p))
          (fun i p => m ((c.tc : Thread Cert.KernelIdeal.nD Cert.KernelIdeal.τ).loc Cert.KernelIdeal.main_arg9) (ValueIdx.ix3 i 0 p)) n := by
  obtain ⟨h0, h2, h3, h8, h9⟩ := h c
  exact second_first _ _ _ _ _ (fun i k => Cert.Finite.real_at _ _ _ (congrFun h2 (ValueIdx.ix2 i k)))
    (fun i k => Cert.Finite.real_at _ _ _ (congrFun h3 (ValueIdx.ix2 i k)))
    (fun k => Cert.Finite.real_at _ _ _ (congrFun h0 (ValueIdx.ix2 b k)))
    (fun i p => Cert.Finite.real_at _ _ _ (congrFun h8 (ValueIdx.ix3 0 i p)))
    (fun i p => Cert.Finite.real_at _ _ _ (congrFun h9 (ValueIdx.ix3 i 0 p))) n

/-- Under the precondition, from the same arguments, the reference's result is the kernel's. -/
theorem result_eq (h : Cert.Pre_KernelIdeal_finite (hPre_finite := pre_facts) m) (hs : Same m m' c) :
    Cert.ReferenceIdeal.Value.res_main_v56 m' c = Cert.KernelIdeal.Hand.outAt m c Cert.KernelIdeal.Gen.t0_0 := by
  obtain ⟨a0, a1, a2, a3, a4, a5, a6, a7, a8, a9, a10, a11, a12, a13, a14, a15⟩ := hs
  rw [Cert.ReferenceIdeal.Hand.res_eq, a0, a1, a2, a3, a4, a5, a6, a7, a8, a9, a10, a11, a12, a13, a14, a15]
  funext j
  obtain ⟨b, n, rfl⟩ : ∃ (b : Fin 8) (n : Fin 4096), j = ValueIdx.ix2 b n := ⟨j 0, j 1, ValueIdx.eq_ix2 j⟩
  refine (Cert.ReferenceIdeal.Hand.net_at _ _ _ _ _ _ _ _ _ _ _ _ _ _ _ _ b n).trans
    (Eq.trans ?_ (Cert.KernelIdeal.Windows.outAt_at m c b n).symm)
  exact congrArg (fun f : Fin 4096 → EReal => Net.out _ f _ _ _ _ _ _ n) (funext (mix_eq m c h b))

end Cert.Agree

end
-- ==== Proof.lean ====
/- The assembled proof of `Cert.Claim`: the frame of each of the three programs, the
   kernel's agreement with its idealization, and the idealization's with the reference. -/
module

public import proofs.«01_k».proof.Defs
public import proofs.«01_k».proof.Proof.Transfer
public import proofs.«01_k».proof.Proof.Agree
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel terminates with its arguments unchanged and every counter at zero. -/
theorem kernel_frame : Cert.quiescent_Kernel := fun m g _ => Cert.Kernel.Hand.frame m g

/-- The kernel at the extended reals terminates with its arguments unchanged and every counter at zero. -/
theorem ideal_frame : Cert.quiescent_KernelIdeal := fun m g _ => Cert.KernelIdeal.Hand.frame m g

/-- The reference terminates with its arguments unchanged; it has no counters. -/
theorem reference_frame : Cert.quiescent_ReferenceIdeal := fun m g _ =>
  (θ_run _ _ _).mono (fun r h => ⟨fun c => (h c).2, sem_eq_zero_of_no_sems (by decide) r.2⟩)
    (Cert.ReferenceIdeal.Value.run m g)

/-- From finite arguments the kernel at the extended reals still terminates with its arguments unchanged. -/
theorem ideal_frame_finite : Cert.quiescent_KernelIdeal_pre_finite (hPre_finite := Cert.Agree.pre_facts) := fun m g _ =>
  Cert.KernelIdeal.Hand.frame m g

/-- From finite arguments the reference still terminates with its arguments unchanged. -/
theorem reference_frame_finite : Cert.quiescent_ReferenceIdeal_pre_finite (hPre_finite := Cert.Agree.pre_facts) := fun m g _ =>
  (θ_run _ _ _).mono (fun r h => ⟨fun c => (h c).2, sem_eq_zero_of_no_sems (by decide) r.2⟩)
    (Cert.ReferenceIdeal.Value.run m g)

/-- Where the two layers' arguments are finite, the kernel at the extended reals and the reference end with equal results. -/
theorem agree : Cert.algebraic_KernelIdeal_ReferenceIdeal_pre_finite (hPre_finite := Cert.Agree.pre_facts) :=
  fun m g m' g' hp hs => ⟨fun c => Cert.KernelIdeal.Hand.outAt m c Cert.KernelIdeal.Gen.t0_0,
    (θ_run _ _ _).mono (fun r h c => ⟨(h.1 c).2, (h.1 c).1⟩) (Cert.KernelIdeal.Hand.run_value m g),
    (θ_run _ _ _).mono (fun r h c => ⟨(h c).1.trans (Cert.Agree.result_eq m m' c hp (hs c)), (h c).2⟩)
      (Cert.ReferenceIdeal.Value.run m' g')⟩

/-- Everything the certificate claims. -/
theorem claim : Cert.Claim :=
  ⟨Cert.Kernel.Gen.facts, Cert.KernelIdeal.Gen.facts, Cert.ReferenceIdeal.Gen.facts, Cert.Agree.pre_facts,
    kernel_frame, ideal_frame, ideal_frame_finite, reference_frame, reference_frame_finite, trivial, agree⟩

end Cert.Proof

end
